-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x512x256 : Shape := ⟨3, ![16, 512, 256]⟩
abbrev S16 : Shape := ⟨1, ![16]⟩
abbrev S1024x256 : Shape := ⟨2, ![1024, 256]⟩
abbrev S1024 : Shape := ⟨1, ![1024]⟩
abbrev S256x128 : Shape := ⟨2, ![256, 128]⟩
abbrev S2x128 : Shape := ⟨2, ![2, 128]⟩
abbrev S16x1 : Shape := ⟨2, ![16, 1]⟩
abbrev S512x16x256 : Shape := ⟨3, ![512, 16, 256]⟩
abbrev S1x1024 : Shape := ⟨2, ![1, 1024]⟩
abbrev S256x1024 : Shape := ⟨2, ![256, 1024]⟩
abbrev S512x4096 : Shape := ⟨2, ![512, 4096]⟩
abbrev S16x1x128 : Shape := ⟨3, ![16, 1, 128]⟩
abbrev S16x1x512 : Shape := ⟨3, ![16, 1, 512]⟩
abbrev S16x128 : Shape := ⟨2, ![16, 128]⟩
abbrev S16x512 : Shape := ⟨2, ![16, 512]⟩
abbrev S64x16x256 : Shape := ⟨3, ![64, 16, 256]⟩
abbrev S1024x1024 : Shape := ⟨2, ![1024, 1024]⟩
abbrev S2048x256 : Shape := ⟨2, ![2048, 256]⟩
abbrev S16x256 : Shape := ⟨2, ![16, 256]⟩
abbrev S1x16x1 : Shape := ⟨3, ![1, 16, 1]⟩
abbrev S1 : Shape := ⟨1, ![1]⟩
abbrev S1x1x1 : Shape := ⟨3, ![1, 1, 1]⟩
abbrev S16x1024 : Shape := ⟨2, ![16, 1024]⟩
abbrev S1x16x256 : Shape := ⟨3, ![1, 16, 256]⟩
abbrev S1x512x256 : Shape := ⟨3, ![1, 512, 256]⟩
abbrev S512x256 : Shape := ⟨2, ![512, 256]⟩
abbrev S1x1x128 : Shape := ⟨3, ![1, 1, 128]⟩
abbrev S1x1x512 : Shape := ⟨3, ![1, 1, 512]⟩
abbrev S512x128 : Shape := ⟨2, ![512, 128]⟩
abbrev S1x128 : Shape := ⟨2, ![1, 128]⟩
abbrev S512x1 : Shape := ⟨2, ![512, 1]⟩
abbrev S512x512 : Shape := ⟨2, ![512, 512]⟩
abbrev S512 : Shape := ⟨1, ![512]⟩
abbrev S128 : Shape := ⟨1, ![128]⟩
abbrev S1x512x1 : Shape := ⟨3, ![1, 512, 1]⟩

abbrev nBuf : Space → Nat
  | .hbm => 33
  | .vmem => 28
  | .smem => 0
  | _ => 0

abbrev bufTy : (tb : Table) → Fin (tcTables nBuf tb) → BufTy
  | .hbm, ⟨0, _⟩ => ⟨S16x512x256, .f32⟩
  | .hbm, ⟨1, _⟩ => ⟨S16, .i32⟩
  | .hbm, ⟨2, _⟩ => ⟨S1024x256, .f32⟩
  | .hbm, ⟨3, _⟩ => ⟨S1024x256, .f32⟩
  | .hbm, ⟨4, _⟩ => ⟨S1024, .f32⟩
  | .hbm, ⟨5, _⟩ => ⟨S1024, .f32⟩
  | .hbm, ⟨6, _⟩ => ⟨S1024x256, .f32⟩
  | .hbm, ⟨7, _⟩ => ⟨S1024x256, .f32⟩
  | .hbm, ⟨8, _⟩ => ⟨S1024, .f32⟩
  | .hbm, ⟨9, _⟩ => ⟨S1024, .f32⟩
  | .hbm, ⟨10, _⟩ => ⟨S256x128, .f32⟩
  | .hbm, ⟨11, _⟩ => ⟨S256x128, .f32⟩
  | .hbm, ⟨12, _⟩ => ⟨S2x128, .f32⟩
  | .hbm, ⟨13, _⟩ => ⟨S16, .f32⟩
  | .hbm, ⟨14, _⟩ => ⟨S16x1, .f32⟩
  | .hbm, ⟨15, _⟩ => ⟨S512x16x256, .f32⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S256x1024, .f32⟩
  | .hbm, ⟨21, _⟩ => ⟨S256x1024, .f32⟩
  | .hbm, ⟨22, _⟩ => ⟨S256x1024, .bf16⟩
  | .hbm, ⟨23, _⟩ => ⟨S256x1024, .f32⟩
  | .hbm, ⟨24, _⟩ => ⟨S256x1024, .bf16⟩
  | .hbm, ⟨25, _⟩ => ⟨S256x1024, .f32⟩
  | .hbm, ⟨26, _⟩ => ⟨S256x1024, .bf16⟩
  | .hbm, ⟨27, _⟩ => ⟨S512x16x256, .f32⟩
  | .hbm, ⟨28, _⟩ => ⟨S512x4096, .f32⟩
  | .hbm, ⟨29, _⟩ => ⟨S16x1x128, .f32⟩
  | .hbm, ⟨30, _⟩ => ⟨S16x1x512, .f32⟩
  | .hbm, ⟨31, _⟩ => ⟨S16x128, .f32⟩
  | .hbm, ⟨32, _⟩ => ⟨S16x512, .f32⟩
  | .local _ .vmem, ⟨0, _⟩ => ⟨S16x1, .f32⟩
  | .local _ .vmem, ⟨1, _⟩ => ⟨S64x16x256, .f32⟩
  | .local _ .vmem, ⟨2, _⟩ => ⟨S64x16x256, .f32⟩
  | .local _ .vmem, ⟨3, _⟩ => ⟨S256x1024, .f32⟩
  | .local _ .vmem, ⟨4, _⟩ => ⟨S256x1024, .bf16⟩
  | .local _ .vmem, ⟨5, _⟩ => ⟨S1x1024, .f32⟩
  | .local _ .vmem, ⟨6, _⟩ => ⟨S256x1024, .bf16⟩
  | .local _ .vmem, ⟨7, _⟩ => ⟨S256x1024, .bf16⟩
  | .local _ .vmem, ⟨8, _⟩ => ⟨S1x1024, .f32⟩
  | .local _ .vmem, ⟨9, _⟩ => ⟨S512x16x256, .f32⟩
  | .local _ .vmem, ⟨10, _⟩ => ⟨S1024x1024, .bf16⟩
  | .local _ .vmem, ⟨11, _⟩ => ⟨S1024x1024, .bf16⟩
  | .local _ .vmem, ⟨12, _⟩ => ⟨S2048x256, .bf16⟩
  | .local _ .vmem, ⟨13, _⟩ => ⟨S16x256, .f32⟩
  | .local _ .vmem, ⟨14, _⟩ => ⟨S16x256, .f32⟩
  | .local _ .vmem, ⟨15, _⟩ => ⟨S16x256, .f32⟩
  | .local _ .vmem, ⟨16, _⟩ => ⟨S16x256, .f32⟩
  | .local _ .vmem, ⟨17, _⟩ => ⟨S1x512x256, .f32⟩
  | .local _ .vmem, ⟨18, _⟩ => ⟨S1x512x256, .f32⟩
  | .local _ .vmem, ⟨19, _⟩ => ⟨S512x256, .f32⟩
  | .local _ .vmem, ⟨20, _⟩ => ⟨S512x256, .f32⟩
  | .local _ .vmem, ⟨21, _⟩ => ⟨S256x128, .f32⟩
  | .local _ .vmem, ⟨22, _⟩ => ⟨S256x128, .f32⟩
  | .local _ .vmem, ⟨23, _⟩ => ⟨S2x128, .f32⟩
  | .local _ .vmem, ⟨24, _⟩ => ⟨S1x1x128, .f32⟩
  | .local _ .vmem, ⟨25, _⟩ => ⟨S1x1x128, .f32⟩
  | .local _ .vmem, ⟨26, _⟩ => ⟨S1x1x512, .f32⟩
  | .local _ .vmem, ⟨27, _⟩ => ⟨S1x1x512, .f32⟩
  | _, _ => ⟨S16x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16_0 : Ref sig .tc := ⟨.hbm, 29, rfl⟩
abbrev main_call0_v16_1 : Ref sig .tc := ⟨.hbm, 30, rfl⟩
abbrev main_v0_0 : Ref sig .tc := ⟨.hbm, 31, rfl⟩
abbrev main_v0_1 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc1_sem6_0 : DmaSem sig := 19
abbrev cc1_sem6_1 : DmaSem sig := 20

abbrev nD : Nat := 1
abbrev τ : Topo := Topo.v7x

variable {F : FTy → Type} [FloatOps F]

abbrev grid0 : Pipeline.Grid := ⟨1, ![9], ![false]⟩

def k0_off1 (i : grid0.Coords) : Fin 2 → Nat :=
  let arg0 : BitVec 32 := BitVec.ofNat 32 (i 0).val
  let c1_i32_7 : BitVec 32 := 1#32
  let v21 : BitVec 32 := Scalar.subi arg0 c1_i32_7
  let c2_i32 : BitVec 32 := 2#32
  let c0_i32_8 : BitVec 32 := 0#32
  let v22 : BitVec 1 := Scalar.cmpi .eq c2_i32 c0_i32_8
  let c1_i32_9 : BitVec 32 := 1#32
  let v23 : BitVec 32 := Scalar.select v22 c1_i32_9 c2_i32
  let v24 : BitVec 32 := Scalar.remsi v21 v23
  let c0_i32_11 : BitVec 32 := 0#32
  let v26 : BitVec 1 := Scalar.cmpi .slt v24 c0_i32_11
  let c0_i32_12 : BitVec 32 := 0#32
  let v27 : BitVec 1 := Scalar.cmpi .slt v23 c0_i32_12
  let v28 : BitVec 1 := Scalar.xori v26 v27
  let c0_i32_10 : BitVec 32 := 0#32
  let v25 : BitVec 1 := Scalar.cmpi .ne v24 c0_i32_10
  let v29 : BitVec 1 := Scalar.andi v28 v25
  let v30 : BitVec 32 := Scalar.addi v24 v23
  let v31 : BitVec 32 := Scalar.select v29 v30 v24
  let c64_i32_13 : BitVec 32 := 64#32
  let v32 : BitVec 32 := Scalar.muli v31 c64_i32_13
  let c16_i32 : BitVec 32 := 16#32
  let v33 : BitVec 32 := Scalar.muli v32 c16_i32
  let v34 : Index := Scalar.indexCast v33
  let c0_14 : Index := 0#32
  ![v34.toNat, 0]
def k0_off2 (i : grid0.Coords) : Fin 3 → Nat :=
  let arg0 : BitVec 32 := BitVec.ofNat 32 (i 0).val
  let c1_i32 : BitVec 32 := 1#32
  let v11 : BitVec 32 := Scalar.subi arg0 c1_i32
  let c64_i32_2 : BitVec 32 := 64#32
  let v12 : BitVec 32 := Scalar.muli v11 c64_i32_2
  let c0_i32_23 : BitVec 32 := 0#32
  let v48 : BitVec 32 := Scalar.maxsi v12 c0_i32_23
  let v49 : Index := Scalar.indexCast v48
  let c0_24 : Index := 0#32
  let c0_25 : Index := 0#32
  ![v49.toNat, 0, 0]
@[reducible] def k0_t1_loop (i : grid0.Coords) (v9 : BitVec 32) : Scf.Loop 32 :=
  let c0_i32_56 : BitVec 32 := 0#32
  let c64_i32_38 : BitVec 32 := 64#32
  let c0_i32_37 : BitVec 32 := 0#32
  let arg0 : BitVec 32 := BitVec.ofNat 32 (i 0).val
  let c1_i32_34 : BitVec 32 := 1#32
  let v65 : BitVec 32 := Scalar.subi arg0 c1_i32_34
  let c0_i32_35 : BitVec 32 := 0#32
  let v66 : BitVec 32 := Scalar.maxsi v65 c0_i32_35
  let c64_i32_36 : BitVec 32 := 64#32
  let v67 : BitVec 32 := Scalar.muli v66 c64_i32_36
  let v68 : BitVec 32 := Scalar.subi v9 v67
  let v69 : BitVec 32 := Scalar.maxsi c0_i32_37 v68
  let v70 : BitVec 32 := Scalar.minsi c64_i32_38 v69
  let c16_i32_39 : BitVec 32 := 16#32
  let v71 : BitVec 32 := Scalar.addi v70 c16_i32_39
  let c1_i32_40 : BitVec 32 := 1#32
  let v72 : BitVec 32 := Scalar.subi v71 c1_i32_40
  let c0_i32_42 : BitVec 32 := 0#32
  let v74 : BitVec 1 := Scalar.cmpi .sgt v72 c0_i32_42
  let v75 : BitVec 32 := Scalar.extui v74
  let c0_i32_43 : BitVec 32 := 0#32
  let v76 : BitVec 1 := Scalar.cmpi .slt v72 c0_i32_43
  let v77 : BitVec 32 := Scalar.extui v76
  let v78 : BitVec 32 := Scalar.subi v75 v77
  let c16_i32_41 : BitVec 32 := 16#32
  let c0_i32_44 : BitVec 32 := 0#32
  let v79 : BitVec 1 := Scalar.cmpi .sgt c16_i32_41 c0_i32_44
  let v80 : BitVec 32 := Scalar.extui v79
  let c0_i32_45 : BitVec 32 := 0#32
  let v81 : BitVec 1 := Scalar.cmpi .slt c16_i32_41 c0_i32_45
  let v82 : BitVec 32 := Scalar.extui v81
  let v83 : BitVec 32 := Scalar.subi v80 v82
  let v84 : BitVec 1 := Scalar.cmpi .ne v78 v83
  let v85 : BitVec 32 := Scalar.remsi v72 c16_i32_41
  let c0_i32_46 : BitVec 32 := 0#32
  let v86 : BitVec 1 := Scalar.cmpi .ne v85 c0_i32_46
  let v87 : BitVec 1 := Scalar.andi v84 v86
  let v73 : BitVec 32 := Scalar.divsi v72 c16_i32_41
  let c1_i32_47 : BitVec 32 := 1#32
  let v88 : BitVec 32 := Scalar.subi v73 c1_i32_47
  let v89 : BitVec 32 := Scalar.select v87 v88 v73
  let v94 : BitVec 32 := Scalar.subi v89 c0_i32_56
  let c1_i32_57 : BitVec 32 := 1#32
  let v96 : BitVec 32 := Scalar.divsi v94 c1_i32_57
  let v97 : BitVec 32 := Scalar.muli v96 c1_i32_57
  let v98 : BitVec 32 := Scalar.addi c0_i32_56 v97
  let c1_i32_58 : BitVec 32 := 1#32
  ⟨c0_i32_56, v98, c1_i32_58⟩

def k0_off3 (i : grid0.Coords) (v9 : BitVec 32) (k0_t1 : Fin (k0_t1_loop i v9).trips) (c0_i32_69 : BitVec 32) : Fin 2 → Nat :=
  let c16_i32_68 : BitVec 32 := 16#32
  let c0_i32_56 : BitVec 32 := 0#32
  let c1_i32_58 : BitVec 32 := 1#32
  let arg17 : BitVec 32 := Scf.iv c0_i32_56 c1_i32_58 k0_t1
  let v113 : BitVec 32 := Scalar.muli c16_i32_68 arg17
  let v114 : BitVec 32 := Scalar.addi v113 c0_i32_69
  let c16_i32_70 : BitVec 32 := 16#32
  let v121 : BitVec 32 := Scalar.muli v114 c16_i32_70
  let v122 : Index := Scalar.indexCast v121
  let c0_71 : Index := 0#32
  ![v122.toNat, 0]
def k0_off4 (i : grid0.Coords) (v9 : BitVec 32) (k0_t1 : Fin (k0_t1_loop i v9).trips) (c0_i32_69 : BitVec 32) : Fin 2 → Nat :=
  let arg0 : BitVec 32 := BitVec.ofNat 32 (i 0).val
  let c2_i32_26 : BitVec 32 := 2#32
  let c0_i32_27 : BitVec 32 := 0#32
  let v53 : BitVec 1 := Scalar.cmpi .eq c2_i32_26 c0_i32_27
  let c1_i32_28 : BitVec 32 := 1#32
  let v54 : BitVec 32 := Scalar.select v53 c1_i32_28 c2_i32_26
  let v55 : BitVec 32 := Scalar.remsi arg0 v54
  let c0_i32_30 : BitVec 32 := 0#32
  let v57 : BitVec 1 := Scalar.cmpi .slt v55 c0_i32_30
  let c0_i32_31 : BitVec 32 := 0#32
  let v58 : BitVec 1 := Scalar.cmpi .slt v54 c0_i32_31
  let v59 : BitVec 1 := Scalar.xori v57 v58
  let c0_i32_29 : BitVec 32 := 0#32
  let v56 : BitVec 1 := Scalar.cmpi .ne v55 c0_i32_29
  let v60 : BitVec 1 := Scalar.andi v59 v56
  let v61 : BitVec 32 := Scalar.addi v55 v54
  let v62 : BitVec 32 := Scalar.select v60 v61 v55
  let c64_i32_32 : BitVec 32 := 64#32
  let v63 : BitVec 32 := Scalar.muli v62 c64_i32_32
  let c16_i32_33 : BitVec 32 := 16#32
  let v64 : BitVec 32 := Scalar.muli v63 c16_i32_33
  let c16_i32_68 : BitVec 32 := 16#32
  let c0_i32_56 : BitVec 32 := 0#32
  let c1_i32_58 : BitVec 32 := 1#32
  let arg17 : BitVec 32 := Scf.iv c0_i32_56 c1_i32_58 k0_t1
  let v113 : BitVec 32 := Scalar.muli c16_i32_68 arg17
  let v114 : BitVec 32 := Scalar.addi v113 c0_i32_69
  let c16_i32_75 : BitVec 32 := 16#32
  let v146 : BitVec 32 := Scalar.muli v114 c16_i32_75
  let v147 : BitVec 32 := Scalar.addi v64 v146
  let v148 : Index := Scalar.indexCast v147
  let c0_76 : Index := 0#32
  ![v148.toNat, 0]
def k0_off5 (i : grid0.Coords) (v9 : BitVec 32) (k0_t1 : Fin (k0_t1_loop i v9).trips) (c0_i32_69 : BitVec 32) : Fin 3 → Nat :=
  let arg0 : BitVec 32 := BitVec.ofNat 32 (i 0).val
  let c1_i32 : BitVec 32 := 1#32
  let v11 : BitVec 32 := Scalar.subi arg0 c1_i32
  let c64_i32_2 : BitVec 32 := 64#32
  let v12 : BitVec 32 := Scalar.muli v11 c64_i32_2
  let c16_i32_68 : BitVec 32 := 16#32
  let c0_i32_56 : BitVec 32 := 0#32
  let c1_i32_58 : BitVec 32 := 1#32
  let arg17 : BitVec 32 := Scf.iv c0_i32_56 c1_i32_58 k0_t1
  let v113 : BitVec 32 := Scalar.muli c16_i32_68 arg17
  let v114 : BitVec 32 := Scalar.addi v113 c0_i32_69
  let v198 : BitVec 32 := Scalar.addi v12 v114
  let c0_i32_85 : BitVec 32 := 0#32
  let v199 : BitVec 32 := Scalar.maxsi v198 c0_i32_85
  let v200 : Index := Scalar.indexCast v199
  let c0_86 : Index := 0#32
  let c0_87 : Index := 0#32
  ![v200.toNat, 0, 0]
@[reducible] def k0_t2_loop (i : grid0.Coords) (v9 : BitVec 32) : Scf.Loop 32 :=
  let c0_i32_56 : BitVec 32 := 0#32
  let c64_i32_38 : BitVec 32 := 64#32
  let c0_i32_37 : BitVec 32 := 0#32
  let arg0 : BitVec 32 := BitVec.ofNat 32 (i 0).val
  let c1_i32_34 : BitVec 32 := 1#32
  let v65 : BitVec 32 := Scalar.subi arg0 c1_i32_34
  let c0_i32_35 : BitVec 32 := 0#32
  let v66 : BitVec 32 := Scalar.maxsi v65 c0_i32_35
  let c64_i32_36 : BitVec 32 := 64#32
  let v67 : BitVec 32 := Scalar.muli v66 c64_i32_36
  let v68 : BitVec 32 := Scalar.subi v9 v67
  let v69 : BitVec 32 := Scalar.maxsi c0_i32_37 v68
  let v70 : BitVec 32 := Scalar.minsi c64_i32_38 v69
  let c16_i32_39 : BitVec 32 := 16#32
  let v71 : BitVec 32 := Scalar.addi v70 c16_i32_39
  let c1_i32_40 : BitVec 32 := 1#32
  let v72 : BitVec 32 := Scalar.subi v71 c1_i32_40
  let c0_i32_42 : BitVec 32 := 0#32
  let v74 : BitVec 1 := Scalar.cmpi .sgt v72 c0_i32_42
  let v75 : BitVec 32 := Scalar.extui v74
  let c0_i32_43 : BitVec 32 := 0#32
  let v76 : BitVec 1 := Scalar.cmpi .slt v72 c0_i32_43
  let v77 : BitVec 32 := Scalar.extui v76
  let v78 : BitVec 32 := Scalar.subi v75 v77
  let c16_i32_41 : BitVec 32 := 16#32
  let c0_i32_44 : BitVec 32 := 0#32
  let v79 : BitVec 1 := Scalar.cmpi .sgt c16_i32_41 c0_i32_44
  let v80 : BitVec 32 := Scalar.extui v79
  let c0_i32_45 : BitVec 32 := 0#32
  let v81 : BitVec 1 := Scalar.cmpi .slt c16_i32_41 c0_i32_45
  let v82 : BitVec 32 := Scalar.extui v81
  let v83 : BitVec 32 := Scalar.subi v80 v82
  let v84 : BitVec 1 := Scalar.cmpi .ne v78 v83
  let v85 : BitVec 32 := Scalar.remsi v72 c16_i32_41
  let c0_i32_46 : BitVec 32 := 0#32
  let v86 : BitVec 1 := Scalar.cmpi .ne v85 c0_i32_46
  let v87 : BitVec 1 := Scalar.andi v84 v86
  let v73 : BitVec 32 := Scalar.divsi v72 c16_i32_41
  let c1_i32_47 : BitVec 32 := 1#32
  let v88 : BitVec 32 := Scalar.subi v73 c1_i32_47
  let v89 : BitVec 32 := Scalar.select v87 v88 v73
  let v94 : BitVec 32 := Scalar.subi v89 c0_i32_56
  let c1_i32_57 : BitVec 32 := 1#32
  let v96 : BitVec 32 := Scalar.divsi v94 c1_i32_57
  let v97 : BitVec 32 := Scalar.muli v96 c1_i32_57
  let v98 : BitVec 32 := Scalar.addi c0_i32_56 v97
  let v95 : BitVec 32 := Scalar.addi c0_i32_56 v94
  let c1_i32_59 : BitVec 32 := 1#32
  ⟨v98, v95, c1_i32_59⟩
def k0_off6 (i : grid0.Coords) (v9 : BitVec 32) (k0_t2 : Fin (k0_t2_loop i v9).trips) (c0_i32_69 : BitVec 32) : Fin 2 → Nat :=
  let c16_i32_68 : BitVec 32 := 16#32
  let c0_i32_56 : BitVec 32 := 0#32
  let c64_i32_38 : BitVec 32 := 64#32
  let c0_i32_37 : BitVec 32 := 0#32
  let arg0 : BitVec 32 := BitVec.ofNat 32 (i 0).val
  let c1_i32_34 : BitVec 32 := 1#32
  let v65 : BitVec 32 := Scalar.subi arg0 c1_i32_34
  let c0_i32_35 : BitVec 32 := 0#32
  let v66 : BitVec 32 := Scalar.maxsi v65 c0_i32_35
  let c64_i32_36 : BitVec 32 := 64#32
  let v67 : BitVec 32 := Scalar.muli v66 c64_i32_36
  let v68 : BitVec 32 := Scalar.subi v9 v67
  let v69 : BitVec 32 := Scalar.maxsi c0_i32_37 v68
  let v70 : BitVec 32 := Scalar.minsi c64_i32_38 v69
  let c16_i32_39 : BitVec 32 := 16#32
  let v71 : BitVec 32 := Scalar.addi v70 c16_i32_39
  let c1_i32_40 : BitVec 32 := 1#32
  let v72 : BitVec 32 := Scalar.subi v71 c1_i32_40
  let c0_i32_42 : BitVec 32 := 0#32
  let v74 : BitVec 1 := Scalar.cmpi .sgt v72 c0_i32_42
  let v75 : BitVec 32 := Scalar.extui v74
  let c0_i32_43 : BitVec 32 := 0#32
  let v76 : BitVec 1 := Scalar.cmpi .slt v72 c0_i32_43
  let v77 : BitVec 32 := Scalar.extui v76
  let v78 : BitVec 32 := Scalar.subi v75 v77
  let c16_i32_41 : BitVec 32 := 16#32
  let c0_i32_44 : BitVec 32 := 0#32
  let v79 : BitVec 1 := Scalar.cmpi .sgt c16_i32_41 c0_i32_44
  let v80 : BitVec 32 := Scalar.extui v79
  let c0_i32_45 : BitVec 32 := 0#32
  let v81 : BitVec 1 := Scalar.cmpi .slt c16_i32_41 c0_i32_45
  let v82 : BitVec 32 := Scalar.extui v81
  let v83 : BitVec 32 := Scalar.subi v80 v82
  let v84 : BitVec 1 := Scalar.cmpi .ne v78 v83
  let v85 : BitVec 32 := Scalar.remsi v72 c16_i32_41
  let c0_i32_46 : BitVec 32 := 0#32
  let v86 : BitVec 1 := Scalar.cmpi .ne v85 c0_i32_46
  let v87 : BitVec 1 := Scalar.andi v84 v86
  let v73 : BitVec 32 := Scalar.divsi v72 c16_i32_41
  let c1_i32_47 : BitVec 32 := 1#32
  let v88 : BitVec 32 := Scalar.subi v73 c1_i32_47
  let v89 : BitVec 32 := Scalar.select v87 v88 v73
  let v94 : BitVec 32 := Scalar.subi v89 c0_i32_56
  let c1_i32_57 : BitVec 32 := 1#32
  let v96 : BitVec 32 := Scalar.divsi v94 c1_i32_57
  let v97 : BitVec 32 := Scalar.muli v96 c1_i32_57
  let v98 : BitVec 32 := Scalar.addi c0_i32_56 v97
  let c1_i32_59 : BitVec 32 := 1#32
  let arg17 : BitVec 32 := Scf.iv v98 c1_i32_59 k0_t2
  let v113 : BitVec 32 := Scalar.muli c16_i32_68 arg17
  let v114 : BitVec 32 := Scalar.addi v113 c0_i32_69
  let c16_i32_70 : BitVec 32 := 16#32
  let v121 : BitVec 32 := Scalar.muli v114 c16_i32_70
  let v122 : Index := Scalar.indexCast v121
  let c0_71 : Index := 0#32
  ![v122.toNat, 0]
def k0_off7 (i : grid0.Coords) (v9 : BitVec 32) (k0_t2 : Fin (k0_t2_loop i v9).trips) (c0_i32_69 : BitVec 32) : Fin 2 → Nat :=
  let arg0 : BitVec 32 := BitVec.ofNat 32 (i 0).val
  let c2_i32_26 : BitVec 32 := 2#32
  let c0_i32_27 : BitVec 32 := 0#32
  let v53 : BitVec 1 := Scalar.cmpi .eq c2_i32_26 c0_i32_27
  let c1_i32_28 : BitVec 32 := 1#32
  let v54 : BitVec 32 := Scalar.select v53 c1_i32_28 c2_i32_26
  let v55 : BitVec 32 := Scalar.remsi arg0 v54
  let c0_i32_30 : BitVec 32 := 0#32
  let v57 : BitVec 1 := Scalar.cmpi .slt v55 c0_i32_30
  let c0_i32_31 : BitVec 32 := 0#32
  let v58 : BitVec 1 := Scalar.cmpi .slt v54 c0_i32_31
  let v59 : BitVec 1 := Scalar.xori v57 v58
  let c0_i32_29 : BitVec 32 := 0#32
  let v56 : BitVec 1 := Scalar.cmpi .ne v55 c0_i32_29
  let v60 : BitVec 1 := Scalar.andi v59 v56
  let v61 : BitVec 32 := Scalar.addi v55 v54
  let v62 : BitVec 32 := Scalar.select v60 v61 v55
  let c64_i32_32 : BitVec 32 := 64#32
  let v63 : BitVec 32 := Scalar.muli v62 c64_i32_32
  let c16_i32_33 : BitVec 32 := 16#32
  let v64 : BitVec 32 := Scalar.muli v63 c16_i32_33
  let c16_i32_68 : BitVec 32 := 16#32
  let c0_i32_56 : BitVec 32 := 0#32
  let c64_i32_38 : BitVec 32 := 64#32
  let c0_i32_37 : BitVec 32 := 0#32
  let c1_i32_34 : BitVec 32 := 1#32
  let v65 : BitVec 32 := Scalar.subi arg0 c1_i32_34
  let c0_i32_35 : BitVec 32 := 0#32
  let v66 : BitVec 32 := Scalar.maxsi v65 c0_i32_35
  let c64_i32_36 : BitVec 32 := 64#32
  let v67 : BitVec 32 := Scalar.muli v66 c64_i32_36
  let v68 : BitVec 32 := Scalar.subi v9 v67
  let v69 : BitVec 32 := Scalar.maxsi c0_i32_37 v68
  let v70 : BitVec 32 := Scalar.minsi c64_i32_38 v69
  let c16_i32_39 : BitVec 32 := 16#32
  let v71 : BitVec 32 := Scalar.addi v70 c16_i32_39
  let c1_i32_40 : BitVec 32 := 1#32
  let v72 : BitVec 32 := Scalar.subi v71 c1_i32_40
  let c0_i32_42 : BitVec 32 := 0#32
  let v74 : BitVec 1 := Scalar.cmpi .sgt v72 c0_i32_42
  let v75 : BitVec 32 := Scalar.extui v74
  let c0_i32_43 : BitVec 32 := 0#32
  let v76 : BitVec 1 := Scalar.cmpi .slt v72 c0_i32_43
  let v77 : BitVec 32 := Scalar.extui v76
  let v78 : BitVec 32 := Scalar.subi v75 v77
  let c16_i32_41 : BitVec 32 := 16#32
  let c0_i32_44 : BitVec 32 := 0#32
  let v79 : BitVec 1 := Scalar.cmpi .sgt c16_i32_41 c0_i32_44
  let v80 : BitVec 32 := Scalar.extui v79
  let c0_i32_45 : BitVec 32 := 0#32
  let v81 : BitVec 1 := Scalar.cmpi .slt c16_i32_41 c0_i32_45
  let v82 : BitVec 32 := Scalar.extui v81
  let v83 : BitVec 32 := Scalar.subi v80 v82
  let v84 : BitVec 1 := Scalar.cmpi .ne v78 v83
  let v85 : BitVec 32 := Scalar.remsi v72 c16_i32_41
  let c0_i32_46 : BitVec 32 := 0#32
  let v86 : BitVec 1 := Scalar.cmpi .ne v85 c0_i32_46
  let v87 : BitVec 1 := Scalar.andi v84 v86
  let v73 : BitVec 32 := Scalar.divsi v72 c16_i32_41
  let c1_i32_47 : BitVec 32 := 1#32
  let v88 : BitVec 32 := Scalar.subi v73 c1_i32_47
  let v89 : BitVec 32 := Scalar.select v87 v88 v73
  let v94 : BitVec 32 := Scalar.subi v89 c0_i32_56
  let c1_i32_57 : BitVec 32 := 1#32
  let v96 : BitVec 32 := Scalar.divsi v94 c1_i32_57
  let v97 : BitVec 32 := Scalar.muli v96 c1_i32_57
  let v98 : BitVec 32 := Scalar.addi c0_i32_56 v97
  let c1_i32_59 : BitVec 32 := 1#32
  let arg17 : BitVec 32 := Scf.iv v98 c1_i32_59 k0_t2
  let v113 : BitVec 32 := Scalar.muli c16_i32_68 arg17
  let v114 : BitVec 32 := Scalar.addi v113 c0_i32_69
  let c16_i32_75 : BitVec 32 := 16#32
  let v146 : BitVec 32 := Scalar.muli v114 c16_i32_75
  let v147 : BitVec 32 := Scalar.addi v64 v146
  let v148 : Index := Scalar.indexCast v147
  let c0_76 : Index := 0#32
  ![v148.toNat, 0]
def k0_off8 (i : grid0.Coords) (v9 : BitVec 32) (k0_t2 : Fin (k0_t2_loop i v9).trips) (c0_i32_69 : BitVec 32) : Fin 3 → Nat :=
  let arg0 : BitVec 32 := BitVec.ofNat 32 (i 0).val
  let c1_i32 : BitVec 32 := 1#32
  let v11 : BitVec 32 := Scalar.subi arg0 c1_i32
  let c64_i32_2 : BitVec 32 := 64#32
  let v12 : BitVec 32 := Scalar.muli v11 c64_i32_2
  let c16_i32_68 : BitVec 32 := 16#32
  let c0_i32_56 : BitVec 32 := 0#32
  let c64_i32_38 : BitVec 32 := 64#32
  let c0_i32_37 : BitVec 32 := 0#32
  let c1_i32_34 : BitVec 32 := 1#32
  let v65 : BitVec 32 := Scalar.subi arg0 c1_i32_34
  let c0_i32_35 : BitVec 32 := 0#32
  let v66 : BitVec 32 := Scalar.maxsi v65 c0_i32_35
  let c64_i32_36 : BitVec 32 := 64#32
  let v67 : BitVec 32 := Scalar.muli v66 c64_i32_36
  let v68 : BitVec 32 := Scalar.subi v9 v67
  let v69 : BitVec 32 := Scalar.maxsi c0_i32_37 v68
  let v70 : BitVec 32 := Scalar.minsi c64_i32_38 v69
  let c16_i32_39 : BitVec 32 := 16#32
  let v71 : BitVec 32 := Scalar.addi v70 c16_i32_39
  let c1_i32_40 : BitVec 32 := 1#32
  let v72 : BitVec 32 := Scalar.subi v71 c1_i32_40
  let c0_i32_42 : BitVec 32 := 0#32
  let v74 : BitVec 1 := Scalar.cmpi .sgt v72 c0_i32_42
  let v75 : BitVec 32 := Scalar.extui v74
  let c0_i32_43 : BitVec 32 := 0#32
  let v76 : BitVec 1 := Scalar.cmpi .slt v72 c0_i32_43
  let v77 : BitVec 32 := Scalar.extui v76
  let v78 : BitVec 32 := Scalar.subi v75 v77
  let c16_i32_41 : BitVec 32 := 16#32
  let c0_i32_44 : BitVec 32 := 0#32
  let v79 : BitVec 1 := Scalar.cmpi .sgt c16_i32_41 c0_i32_44
  let v80 : BitVec 32 := Scalar.extui v79
  let c0_i32_45 : BitVec 32 := 0#32
  let v81 : BitVec 1 := Scalar.cmpi .slt c16_i32_41 c0_i32_45
  let v82 : BitVec 32 := Scalar.extui v81
  let v83 : BitVec 32 := Scalar.subi v80 v82
  let v84 : BitVec 1 := Scalar.cmpi .ne v78 v83
  let v85 : BitVec 32 := Scalar.remsi v72 c16_i32_41
  let c0_i32_46 : BitVec 32 := 0#32
  let v86 : BitVec 1 := Scalar.cmpi .ne v85 c0_i32_46
  let v87 : BitVec 1 := Scalar.andi v84 v86
  let v73 : BitVec 32 := Scalar.divsi v72 c16_i32_41
  let c1_i32_47 : BitVec 32 := 1#32
  let v88 : BitVec 32 := Scalar.subi v73 c1_i32_47
  let v89 : BitVec 32 := Scalar.select v87 v88 v73
  let v94 : BitVec 32 := Scalar.subi v89 c0_i32_56
  let c1_i32_57 : BitVec 32 := 1#32
  let v96 : BitVec 32 := Scalar.divsi v94 c1_i32_57
  let v97 : BitVec 32 := Scalar.muli v96 c1_i32_57
  let v98 : BitVec 32 := Scalar.addi c0_i32_56 v97
  let c1_i32_59 : BitVec 32 := 1#32
  let arg17 : BitVec 32 := Scf.iv v98 c1_i32_59 k0_t2
  let v113 : BitVec 32 := Scalar.muli c16_i32_68 arg17
  let v114 : BitVec 32 := Scalar.addi v113 c0_i32_69
  let v198 : BitVec 32 := Scalar.addi v12 v114
  let c0_i32_85 : BitVec 32 := 0#32
  let v199 : BitVec 32 := Scalar.maxsi v198 c0_i32_85
  let v200 : Index := Scalar.indexCast v199
  let c0_86 : Index := 0#32
  let c0_87 : Index := 0#32
  ![v200.toNat, 0, 0]

def k0_chk1 (i : grid0.Coords) (v9 : BitVec 32) : Prop :=
  ((k0_t1_loop i v9).OK) ∧
  (∀ k0_t1 : Fin (k0_t1_loop i v9).trips, ∀ (r : Fin 16), ∀ a, (k0_off3 i v9 k0_t1 (BitVec.ofNat 32 r.val)) a + S16x1024.size a ≤ S1024x1024.size a) ∧
  (∀ k0_t1 : Fin (k0_t1_loop i v9).trips, ∀ (r : Fin 16), ∀ a, (k0_off4 i v9 k0_t1 (BitVec.ofNat 32 r.val)) a + S16x256.size a ≤ S2048x256.size a) ∧
  (∀ k0_t1 : Fin (k0_t1_loop i v9).trips, ∀ (r : Fin 16), ∀ (hinb : ∀ a, (k0_off4 i v9 k0_t1 (BitVec.ofNat 32 r.val)) a + S16x256.size a ≤ S2048x256.size a), (Rect.unit (s := S2048x256) (k0_off4 i v9 k0_t1 (BitVec.ofNat 32 r.val)) S16x256.size hinb).PackedRows (EltTy.packing .bf16)) ∧
  (∀ k0_t1 : Fin (k0_t1_loop i v9).trips, ∀ (r : Fin 16), ∀ a, (k0_off5 i v9 k0_t1 (BitVec.ofNat 32 r.val)) a + S1x16x256.size a ≤ S512x16x256.size a) ∧
  ((k0_t2_loop i v9).OK) ∧
  (∀ k0_t2 : Fin (k0_t2_loop i v9).trips, ∀ (r : Fin 16), ∀ a, (k0_off6 i v9 k0_t2 (BitVec.ofNat 32 r.val)) a + S16x1024.size a ≤ S1024x1024.size a) ∧
  (∀ k0_t2 : Fin (k0_t2_loop i v9).trips, ∀ (r : Fin 16), ∀ a, (k0_off7 i v9 k0_t2 (BitVec.ofNat 32 r.val)) a + S16x256.size a ≤ S2048x256.size a) ∧
  (∀ k0_t2 : Fin (k0_t2_loop i v9).trips, ∀ (r : Fin 16), ∀ (hinb : ∀ a, (k0_off7 i v9 k0_t2 (BitVec.ofNat 32 r.val)) a + S16x256.size a ≤ S2048x256.size a), (Rect.unit (s := S2048x256) (k0_off7 i v9 k0_t2 (BitVec.ofNat 32 r.val)) S16x256.size hinb).PackedRows (EltTy.packing .bf16)) ∧
  (∀ k0_t2 : Fin (k0_t2_loop i v9).trips, ∀ (r : Fin 16), ∀ a, (k0_off8 i v9 k0_t2 (BitVec.ofNat 32 r.val)) a + S1x16x256.size a ≤ S512x16x256.size a)
theorem k0_t1_ok : ∀ (i : grid0.Coords) (v9 : BitVec 32) (k0_hw1 : k0_chk1 i v9), (k0_t1_loop i v9).OK := fun i v9 k0_hw1 => k0_hw1.1
theorem k0_off3_inb : ∀ (i : grid0.Coords) (v9 : BitVec 32) (k0_hw1 : k0_chk1 i v9) (k0_t1 : Fin (k0_t1_loop i v9).trips), ∀ (r : Fin 16), ∀ a, (k0_off3 i v9 k0_t1 (BitVec.ofNat 32 r.val)) a + S16x1024.size a ≤ S1024x1024.size a := fun i v9 k0_hw1 k0_t1 r => k0_hw1.2.1 k0_t1 r
theorem k0_off4_inb : ∀ (i : grid0.Coords) (v9 : BitVec 32) (k0_hw1 : k0_chk1 i v9) (k0_t1 : Fin (k0_t1_loop i v9).trips), ∀ (r : Fin 16), ∀ a, (k0_off4 i v9 k0_t1 (BitVec.ofNat 32 r.val)) a + S16x256.size a ≤ S2048x256.size a := fun i v9 k0_hw1 k0_t1 r => k0_hw1.2.2.1 k0_t1 r
theorem k0_off4_packedbf16 : ∀ (i : grid0.Coords) (v9 : BitVec 32) (k0_hw1 : k0_chk1 i v9) (k0_t1 : Fin (k0_t1_loop i v9).trips), ∀ (r : Fin 16), (Rect.unit (s := S2048x256) (k0_off4 i v9 k0_t1 (BitVec.ofNat 32 r.val)) S16x256.size (k0_off4_inb i v9 k0_hw1 k0_t1 r)).PackedRows (EltTy.packing .bf16) := fun i v9 k0_hw1 k0_t1 r => k0_hw1.2.2.2.1 k0_t1 r (k0_off4_inb i v9 k0_hw1 k0_t1 r)
theorem k0_off5_inb : ∀ (i : grid0.Coords) (v9 : BitVec 32) (k0_hw1 : k0_chk1 i v9) (k0_t1 : Fin (k0_t1_loop i v9).trips), ∀ (r : Fin 16), ∀ a, (k0_off5 i v9 k0_t1 (BitVec.ofNat 32 r.val)) a + S1x16x256.size a ≤ S512x16x256.size a := fun i v9 k0_hw1 k0_t1 r => k0_hw1.2.2.2.2.1 k0_t1 r
theorem k0_t2_ok : ∀ (i : grid0.Coords) (v9 : BitVec 32) (k0_hw1 : k0_chk1 i v9), (k0_t2_loop i v9).OK := fun i v9 k0_hw1 => k0_hw1.2.2.2.2.2.1
theorem k0_off6_inb : ∀ (i : grid0.Coords) (v9 : BitVec 32) (k0_hw1 : k0_chk1 i v9) (k0_t2 : Fin (k0_t2_loop i v9).trips), ∀ (r : Fin 16), ∀ a, (k0_off6 i v9 k0_t2 (BitVec.ofNat 32 r.val)) a + S16x1024.size a ≤ S1024x1024.size a := fun i v9 k0_hw1 k0_t2 r => k0_hw1.2.2.2.2.2.2.1 k0_t2 r
theorem k0_off7_inb : ∀ (i : grid0.Coords) (v9 : BitVec 32) (k0_hw1 : k0_chk1 i v9) (k0_t2 : Fin (k0_t2_loop i v9).trips), ∀ (r : Fin 16), ∀ a, (k0_off7 i v9 k0_t2 (BitVec.ofNat 32 r.val)) a + S16x256.size a ≤ S2048x256.size a := fun i v9 k0_hw1 k0_t2 r => k0_hw1.2.2.2.2.2.2.2.1 k0_t2 r
theorem k0_off7_packedbf16 : ∀ (i : grid0.Coords) (v9 : BitVec 32) (k0_hw1 : k0_chk1 i v9) (k0_t2 : Fin (k0_t2_loop i v9).trips), ∀ (r : Fin 16), (Rect.unit (s := S2048x256) (k0_off7 i v9 k0_t2 (BitVec.ofNat 32 r.val)) S16x256.size (k0_off7_inb i v9 k0_hw1 k0_t2 r)).PackedRows (EltTy.packing .bf16) := fun i v9 k0_hw1 k0_t2 r => k0_hw1.2.2.2.2.2.2.2.2.1 k0_t2 r (k0_off7_inb i v9 k0_hw1 k0_t2 r)
theorem k0_off8_inb : ∀ (i : grid0.Coords) (v9 : BitVec 32) (k0_hw1 : k0_chk1 i v9) (k0_t2 : Fin (k0_t2_loop i v9).trips), ∀ (r : Fin 16), ∀ a, (k0_off8 i v9 k0_t2 (BitVec.ofNat 32 r.val)) a + S1x16x256.size a ≤ S512x16x256.size a := fun i v9 k0_hw1 k0_t2 r => k0_hw1.2.2.2.2.2.2.2.2.2 k0_t2 r

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S16x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x16x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceIdeal.lean ====
abbrev S16x512x256 : Shape := ⟨3, ![16, 512, 256]⟩
abbrev S16 : Shape := ⟨1, ![16]⟩
abbrev S1024x256 : Shape := ⟨2, ![1024, 256]⟩
abbrev S1024 : Shape := ⟨1, ![1024]⟩
abbrev S256x128 : Shape := ⟨2, ![256, 128]⟩
abbrev S2x128 : Shape := ⟨2, ![2, 128]⟩
abbrev S512 : Shape := ⟨1, ![512]⟩
abbrev S1x512 : Shape := ⟨2, ![1, 512]⟩
abbrev S16x1 : Shape := ⟨2, ![16, 1]⟩
abbrev S16x512 : Shape := ⟨2, ![16, 512]⟩
abbrev S_ : Shape := ⟨0, ![]⟩
abbrev S16x256 : Shape := ⟨2, ![16, 256]⟩
abbrev S512x16x256 : Shape := ⟨3, ![512, 16, 256]⟩
abbrev S512x16 : Shape := ⟨2, ![512, 16]⟩
abbrev S1x16x256 : Shape := ⟨3, ![1, 16, 256]⟩
abbrev S1x16 : Shape := ⟨2, ![1, 16]⟩
abbrev S256x1024 : Shape := ⟨2, ![256, 1024]⟩
abbrev S16x1024 : Shape := ⟨2, ![16, 1024]⟩
abbrev S1x1024 : Shape := ⟨2, ![1, 1024]⟩
abbrev S16x512x128 : Shape := ⟨3, ![16, 512, 128]⟩
abbrev S16x1x512x128 : Shape := ⟨4, ![16, 1, 512, 128]⟩
abbrev S1x2x1x128 : Shape := ⟨4, ![1, 2, 1, 128]⟩
abbrev S16x2x512x128 : Shape := ⟨4, ![16, 2, 512, 128]⟩
abbrev S16x2x512x512 : Shape := ⟨4, ![16, 2, 512, 512]⟩
abbrev S16x2x512 : Shape := ⟨3, ![16, 2, 512]⟩
abbrev S16x2x512x1 : Shape := ⟨4, ![16, 2, 512, 1]⟩
abbrev S16x2x128 : Shape := ⟨3, ![16, 2, 128]⟩
abbrev S16x128 : Shape := ⟨2, ![16, 128]⟩
abbrev S16x512x512 : Shape := ⟨3, ![16, 512, 512]⟩
abbrev S512x1 : Shape := ⟨2, ![512, 1]⟩
abbrev S512x2 : Shape := ⟨2, ![512, 2]⟩

abbrev nBuf : Space → Nat
  | .hbm => 252
  | .vmem => 0
  | .smem => 0
  | _ => 0

abbrev hbmTy0_0 (i : Nat) : BufTy := match i % 128 with
  | 0 => ⟨S16x512x256, .f32⟩
  | 1 => ⟨S16, .i32⟩
  | 2 => ⟨S1024x256, .f32⟩
  | 3 => ⟨S1024x256, .f32⟩
  | 4 => ⟨S1024, .f32⟩
  | 5 => ⟨S1024, .f32⟩
  | 6 => ⟨S1024x256, .f32⟩
  | 7 => ⟨S1024x256, .f32⟩
  | 8 => ⟨S1024, .f32⟩
  | 9 => ⟨S1024, .f32⟩
  | 10 => ⟨S256x128, .f32⟩
  | 11 => ⟨S256x128, .f32⟩
  | 12 => ⟨S2x128, .f32⟩
  | 13 => ⟨S512, .i32⟩
  | 14 => ⟨S1x512, .i32⟩
  | 15 => ⟨S16x1, .i32⟩
  | 16 => ⟨S16x512, .i32⟩
  | 17 => ⟨S16x512, .i32⟩
  | 18 => ⟨S16x512, .i1⟩
  | 19 => ⟨S16x512, .f32⟩
  | 20 => ⟨S_, .f32⟩
  | 21 => ⟨S16x256, .f32⟩
  | 22 => ⟨S_, .f32⟩
  | 23 => ⟨S16x256, .f32⟩
  | 24 => ⟨S_, .f32⟩
  | 25 => ⟨S16x256, .f32⟩
  | 26 => ⟨S_, .f32⟩
  | 27 => ⟨S16x256, .f32⟩
  | 28 => ⟨S512x16x256, .f32⟩
  | 29 => ⟨S512x16, .f32⟩
  | 30 => ⟨S_, .f32⟩
  | 31 => ⟨S512x16x256, .f32⟩
  | 32 => ⟨S_, .i32⟩
  | 33 => ⟨S512x16x256, .f32⟩
  | 34 => ⟨S512x16, .f32⟩
  | 35 => ⟨S1024x256, .f32⟩
  | 36 => ⟨S1024, .f32⟩
  | 37 => ⟨S1024x256, .f32⟩
  | 38 => ⟨S1024, .f32⟩
  | 39 => ⟨S1024x256, .f32⟩
  | 40 => ⟨S1024, .f32⟩
  | 41 => ⟨S1024x256, .f32⟩
  | 42 => ⟨S1024, .f32⟩
  | 43 => ⟨S_, .i32⟩
  | 44 => ⟨S16x256, .f32⟩
  | 45 => ⟨S16x256, .f32⟩
  | 46 => ⟨S16x256, .f32⟩
  | 47 => ⟨S16x256, .f32⟩
  | 48 => ⟨S512x16x256, .f32⟩
  | 49 => ⟨S_, .i32⟩
  | 50 => ⟨S_, .i1⟩
  | 51 => ⟨S_, .i32⟩
  | 52 => ⟨S_, .i32⟩
  | 53 => ⟨S1x16x256, .f32⟩
  | 54 => ⟨S16x256, .f32⟩
  | 55 => ⟨S_, .i32⟩
  | 56 => ⟨S1x16, .f32⟩
  | 57 => ⟨S16, .f32⟩
  | 58 => ⟨S256x1024, .f32⟩
  | 59 => ⟨S16x1024, .f32⟩
  | 60 => ⟨S1x1024, .f32⟩
  | 61 => ⟨S16x1024, .f32⟩
  | 62 => ⟨S16x1024, .f32⟩
  | 63 => ⟨S256x1024, .f32⟩
  | 64 => ⟨S16x1024, .f32⟩
  | 65 => ⟨S16x1024, .f32⟩
  | 66 => ⟨S1x1024, .f32⟩
  | 67 => ⟨S16x1024, .f32⟩
  | 68 => ⟨S16x1024, .f32⟩
  | 69 => ⟨S16x256, .f32⟩
  | 70 => ⟨S16x256, .f32⟩
  | 71 => ⟨S16x256, .f32⟩
  | 72 => ⟨S16x256, .f32⟩
  | 73 => ⟨S16x256, .f32⟩
  | 74 => ⟨S16x256, .f32⟩
  | 75 => ⟨S_, .f32⟩
  | 76 => ⟨S16x256, .f32⟩
  | 77 => ⟨S16x256, .f32⟩
  | 78 => ⟨S_, .f32⟩
  | 79 => ⟨S16x256, .f32⟩
  | 80 => ⟨S16x256, .f32⟩
  | 81 => ⟨S16x256, .f32⟩
  | 82 => ⟨S16x256, .f32⟩
  | 83 => ⟨S_, .f32⟩
  | 84 => ⟨S16x256, .f32⟩
  | 85 => ⟨S16x256, .f32⟩
  | 86 => ⟨S_, .f32⟩
  | 87 => ⟨S16x256, .f32⟩
  | 88 => ⟨S16x256, .f32⟩
  | 89 => ⟨S16x256, .f32⟩
  | 90 => ⟨S16x256, .f32⟩
  | 91 => ⟨S16x256, .f32⟩
  | 92 => ⟨S_, .f32⟩
  | 93 => ⟨S16x256, .f32⟩
  | 94 => ⟨S16x256, .f32⟩
  | 95 => ⟨S_, .f32⟩
  | 96 => ⟨S16x256, .f32⟩
  | 97 => ⟨S16x256, .f32⟩
  | 98 => ⟨S16x256, .f32⟩
  | 99 => ⟨S16x256, .f32⟩
  | 100 => ⟨S16x256, .f32⟩
  | 101 => ⟨S16x256, .f32⟩
  | 102 => ⟨S16x256, .f32⟩
  | 103 => ⟨S16x1, .f32⟩
  | 104 => ⟨S16x256, .f32⟩
  | 105 => ⟨S16x256, .f32⟩
  | 106 => ⟨S_, .f32⟩
  | 107 => ⟨S16x1, .f32⟩
  | 108 => ⟨S16x1, .f32⟩
  | 109 => ⟨S16x256, .f32⟩
  | 110 => ⟨S16x256, .f32⟩
  | 111 => ⟨S16x256, .f32⟩
  | 112 => ⟨S16x256, .f32⟩
  | 113 => ⟨S16x256, .f32⟩
  | 114 => ⟨S_, .f32⟩
  | 115 => ⟨S16x1, .f32⟩
  | 116 => ⟨S16x1, .f32⟩
  | 117 => ⟨S16x256, .f32⟩
  | 118 => ⟨S16x256, .f32⟩
  | 119 => ⟨S16x256, .f32⟩
  | 120 => ⟨S16x256, .f32⟩
  | 121 => ⟨S16x256, .f32⟩
  | 122 => ⟨S256x1024, .f32⟩
  | 123 => ⟨S16x1024, .f32⟩
  | 124 => ⟨S1x1024, .f32⟩
  | 125 => ⟨S16x1024, .f32⟩
  | 126 => ⟨S16x1024, .f32⟩
  | 127 => ⟨S256x1024, .f32⟩
  | _ => ⟨S16x512x256, .f32⟩

abbrev hbmTy0_1 (i : Nat) : BufTy := match i % 128 with
  | 0 => ⟨S16x1024, .f32⟩
  | 1 => ⟨S16x1024, .f32⟩
  | 2 => ⟨S1x1024, .f32⟩
  | 3 => ⟨S16x1024, .f32⟩
  | 4 => ⟨S16x1024, .f32⟩
  | 5 => ⟨S16x256, .f32⟩
  | 6 => ⟨S16x256, .f32⟩
  | 7 => ⟨S16x256, .f32⟩
  | 8 => ⟨S16x256, .f32⟩
  | 9 => ⟨S16x256, .f32⟩
  | 10 => ⟨S16x256, .f32⟩
  | 11 => ⟨S_, .f32⟩
  | 12 => ⟨S16x256, .f32⟩
  | 13 => ⟨S16x256, .f32⟩
  | 14 => ⟨S_, .f32⟩
  | 15 => ⟨S16x256, .f32⟩
  | 16 => ⟨S16x256, .f32⟩
  | 17 => ⟨S16x256, .f32⟩
  | 18 => ⟨S16x256, .f32⟩
  | 19 => ⟨S_, .f32⟩
  | 20 => ⟨S16x256, .f32⟩
  | 21 => ⟨S16x256, .f32⟩
  | 22 => ⟨S_, .f32⟩
  | 23 => ⟨S16x256, .f32⟩
  | 24 => ⟨S16x256, .f32⟩
  | 25 => ⟨S16x256, .f32⟩
  | 26 => ⟨S16x256, .f32⟩
  | 27 => ⟨S16x256, .f32⟩
  | 28 => ⟨S_, .f32⟩
  | 29 => ⟨S16x256, .f32⟩
  | 30 => ⟨S16x256, .f32⟩
  | 31 => ⟨S_, .f32⟩
  | 32 => ⟨S16x256, .f32⟩
  | 33 => ⟨S16x256, .f32⟩
  | 34 => ⟨S16x256, .f32⟩
  | 35 => ⟨S16x256, .f32⟩
  | 36 => ⟨S16x256, .f32⟩
  | 37 => ⟨S16x256, .f32⟩
  | 38 => ⟨S16x256, .f32⟩
  | 39 => ⟨S16x1, .f32⟩
  | 40 => ⟨S16x256, .f32⟩
  | 41 => ⟨S16x256, .f32⟩
  | 42 => ⟨S_, .f32⟩
  | 43 => ⟨S16x1, .f32⟩
  | 44 => ⟨S16x1, .f32⟩
  | 45 => ⟨S16x256, .f32⟩
  | 46 => ⟨S16x256, .f32⟩
  | 47 => ⟨S16x256, .f32⟩
  | 48 => ⟨S16x256, .f32⟩
  | 49 => ⟨S16x256, .f32⟩
  | 50 => ⟨S_, .f32⟩
  | 51 => ⟨S16x1, .f32⟩
  | 52 => ⟨S16x1, .f32⟩
  | 53 => ⟨S16x256, .f32⟩
  | 54 => ⟨S16x256, .f32⟩
  | 55 => ⟨S16x256, .f32⟩
  | 56 => ⟨S16x256, .f32⟩
  | 57 => ⟨S16x256, .f32⟩
  | 58 => ⟨S1x16x256, .f32⟩
  | 59 => ⟨S_, .i32⟩
  | 60 => ⟨S_, .i32⟩
  | 61 => ⟨S512x16x256, .f32⟩
  | 62 => ⟨S_, .i32⟩
  | 63 => ⟨S_, .i32⟩
  | 64 => ⟨S16x512x256, .f32⟩
  | 65 => ⟨S16x512x128, .f32⟩
  | 66 => ⟨S16x512x128, .f32⟩
  | 67 => ⟨S16x512x128, .f32⟩
  | 68 => ⟨S16x512x128, .f32⟩
  | 69 => ⟨S16x1x512x128, .f32⟩
  | 70 => ⟨S1x2x1x128, .f32⟩
  | 71 => ⟨S16x2x512x128, .f32⟩
  | 72 => ⟨S16x2x512x128, .f32⟩
  | 73 => ⟨S16x2x512x128, .f32⟩
  | 74 => ⟨S16x2x512x512, .f32⟩
  | 75 => ⟨S_, .f32⟩
  | 76 => ⟨S16x2x512, .f32⟩
  | 77 => ⟨S_, .f32⟩
  | 78 => ⟨S16x2x512, .f32⟩
  | 79 => ⟨S16x2x512, .f32⟩
  | 80 => ⟨S16x2x512x1, .f32⟩
  | 81 => ⟨S16x2x512x512, .f32⟩
  | 82 => ⟨S16x2x512x512, .f32⟩
  | 83 => ⟨S16x2x512x512, .f32⟩
  | 84 => ⟨S_, .f32⟩
  | 85 => ⟨S16x2x512, .f32⟩
  | 86 => ⟨S16x2x512x1, .f32⟩
  | 87 => ⟨S16x2x512x512, .f32⟩
  | 88 => ⟨S16x2x512x512, .f32⟩
  | 89 => ⟨S16x1x512x128, .f32⟩
  | 90 => ⟨S16x2x512x128, .f32⟩
  | 91 => ⟨S16x2x512x128, .f32⟩
  | 92 => ⟨S16x2x512x128, .f32⟩
  | 93 => ⟨S_, .f32⟩
  | 94 => ⟨S16x2x128, .f32⟩
  | 95 => ⟨S_, .f32⟩
  | 96 => ⟨S16x128, .f32⟩
  | 97 => ⟨S_, .f32⟩
  | 98 => ⟨S16x512x512, .f32⟩
  | 99 => ⟨S512, .i32⟩
  | 100 => ⟨S512, .i32⟩
  | 101 => ⟨S_, .i32⟩
  | 102 => ⟨S512, .i32⟩
  | 103 => ⟨S512, .i1⟩
  | 104 => ⟨S_, .i32⟩
  | 105 => ⟨S512, .i32⟩
  | 106 => ⟨S512, .i32⟩
  | 107 => ⟨S512, .i32⟩
  | 108 => ⟨S_, .i32⟩
  | 109 => ⟨S512, .i32⟩
  | 110 => ⟨S512, .i1⟩
  | 111 => ⟨S_, .i32⟩
  | 112 => ⟨S512, .i32⟩
  | 113 => ⟨S512, .i32⟩
  | 114 => ⟨S512, .i32⟩
  | 115 => ⟨S512x1, .i32⟩
  | 116 => ⟨S512x1, .i32⟩
  | 117 => ⟨S512x2, .i32⟩
  | 118 => ⟨S16x512, .f32⟩
  | 119 => ⟨S_, .f32⟩
  | 120 => ⟨S16, .f32⟩
  | 121 => ⟨S16x1, .f32⟩
  | 122 => ⟨S16x512, .f32⟩
  | 123 => ⟨S16x512, .f32⟩
  | _ => ⟨S16x512x256, .f32⟩

abbrev hbmTy (i : Nat) : BufTy := match i / 128 with
  | 0 => hbmTy0_0 i
  | 1 => hbmTy0_1 i
  | _ => ⟨S16x512x256, .f32⟩

abbrev bufTy : (tb : Table) → Fin (tcTables nBuf tb) → BufTy
  | .hbm, ⟨i, _⟩ => hbmTy i
  | _, _ => ⟨S16x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_c : Ref sig .tc := ⟨.hbm, 32, rfl⟩
abbrev main_v14_0 : Ref sig .tc := ⟨.hbm, 33, rfl⟩
abbrev main_v14_1 : Ref sig .tc := ⟨.hbm, 34, rfl⟩
abbrev main_v14_2 : Ref sig .tc := ⟨.hbm, 35, rfl⟩
abbrev main_v14_3 : Ref sig .tc := ⟨.hbm, 36, rfl⟩
abbrev main_v14_4 : Ref sig .tc := ⟨.hbm, 37, rfl⟩
abbrev main_v14_5 : Ref sig .tc := ⟨.hbm, 38, rfl⟩
abbrev main_v14_6 : Ref sig .tc := ⟨.hbm, 39, rfl⟩
abbrev main_v14_7 : Ref sig .tc := ⟨.hbm, 40, rfl⟩
abbrev main_v14_8 : Ref sig .tc := ⟨.hbm, 41, rfl⟩
abbrev main_v14_9 : Ref sig .tc := ⟨.hbm, 42, rfl⟩
abbrev main_v14_10 : Ref sig .tc := ⟨.hbm, 43, rfl⟩
abbrev main_v14_11 : Ref sig .tc := ⟨.hbm, 44, rfl⟩
abbrev main_v14_12 : Ref sig .tc := ⟨.hbm, 45, rfl⟩
abbrev main_v14_13 : Ref sig .tc := ⟨.hbm, 46, rfl⟩
abbrev main_v14_14 : Ref sig .tc := ⟨.hbm, 47, rfl⟩
abbrev main_v14_15 : Ref sig .tc := ⟨.hbm, 48, rfl⟩
abbrev main_while0c_c_26 : Ref sig .tc := ⟨.hbm, 49, rfl⟩
abbrev main_while0c_v49 : Ref sig .tc := ⟨.hbm, 50, rfl⟩
abbrev main_while0b_call0_c : Ref sig .tc := ⟨.hbm, 51, rfl⟩
abbrev main_while0b_call0_c_0 : Ref sig .tc := ⟨.hbm, 52, rfl⟩
abbrev main_while0b_call0_v0 : Ref sig .tc := ⟨.hbm, 53, rfl⟩
abbrev main_while0b_v49 : Ref sig .tc := ⟨.hbm, 54, rfl⟩
abbrev main_while0b_call1_c : Ref sig .tc := ⟨.hbm, 55, rfl⟩
abbrev main_while0b_call1_v0 : Ref sig .tc := ⟨.hbm, 56, rfl⟩
abbrev main_while0b_v50 : Ref sig .tc := ⟨.hbm, 57, rfl⟩
abbrev main_while0b_v51 : Ref sig .tc := ⟨.hbm, 58, rfl⟩
abbrev main_while0b_v52 : Ref sig .tc := ⟨.hbm, 59, rfl⟩
abbrev main_while0b_v53 : Ref sig .tc := ⟨.hbm, 60, rfl⟩
abbrev main_while0b_v54 : Ref sig .tc := ⟨.hbm, 61, rfl⟩
abbrev main_while0b_v55 : Ref sig .tc := ⟨.hbm, 62, rfl⟩
abbrev main_while0b_v56 : Ref sig .tc := ⟨.hbm, 63, rfl⟩
abbrev main_while0b_v57 : Ref sig .tc := ⟨.hbm, 64, rfl⟩
abbrev main_while0b_v58 : Ref sig .tc := ⟨.hbm, 65, rfl⟩
abbrev main_while0b_v59 : Ref sig .tc := ⟨.hbm, 66, rfl⟩
abbrev main_while0b_v60 : Ref sig .tc := ⟨.hbm, 67, rfl⟩
abbrev main_while0b_v61 : Ref sig .tc := ⟨.hbm, 68, rfl⟩
abbrev main_while0b_v62 : Ref sig .tc := ⟨.hbm, 69, rfl⟩
abbrev main_while0b_v63 : Ref sig .tc := ⟨.hbm, 70, rfl⟩
abbrev main_while0b_v64 : Ref sig .tc := ⟨.hbm, 71, rfl⟩
abbrev main_while0b_v65 : Ref sig .tc := ⟨.hbm, 72, rfl⟩
abbrev main_while0b_v66 : Ref sig .tc := ⟨.hbm, 73, rfl⟩
abbrev main_while0b_v67 : Ref sig .tc := ⟨.hbm, 74, rfl⟩
abbrev main_while0b_cst_26 : Ref sig .tc := ⟨.hbm, 75, rfl⟩
abbrev main_while0b_v68 : Ref sig .tc := ⟨.hbm, 76, rfl⟩
abbrev main_while0b_v69 : Ref sig .tc := ⟨.hbm, 77, rfl⟩
abbrev main_while0b_cst_27 : Ref sig .tc := ⟨.hbm, 78, rfl⟩
abbrev main_while0b_v70 : Ref sig .tc := ⟨.hbm, 79, rfl⟩
abbrev main_while0b_v71 : Ref sig .tc := ⟨.hbm, 80, rfl⟩
abbrev main_while0b_v72 : Ref sig .tc := ⟨.hbm, 81, rfl⟩
abbrev main_while0b_v73 : Ref sig .tc := ⟨.hbm, 82, rfl⟩
abbrev main_while0b_cst_28 : Ref sig .tc := ⟨.hbm, 83, rfl⟩
abbrev main_while0b_v74 : Ref sig .tc := ⟨.hbm, 84, rfl⟩
abbrev main_while0b_v75 : Ref sig .tc := ⟨.hbm, 85, rfl⟩
abbrev main_while0b_cst_29 : Ref sig .tc := ⟨.hbm, 86, rfl⟩
abbrev main_while0b_v76 : Ref sig .tc := ⟨.hbm, 87, rfl⟩
abbrev main_while0b_v77 : Ref sig .tc := ⟨.hbm, 88, rfl⟩
abbrev main_while0b_v78 : Ref sig .tc := ⟨.hbm, 89, rfl⟩
abbrev main_while0b_v79 : Ref sig .tc := ⟨.hbm, 90, rfl⟩
abbrev main_while0b_v80 : Ref sig .tc := ⟨.hbm, 91, rfl⟩
abbrev main_while0b_cst_30 : Ref sig .tc := ⟨.hbm, 92, rfl⟩
abbrev main_while0b_v81 : Ref sig .tc := ⟨.hbm, 93, rfl⟩
abbrev main_while0b_v82 : Ref sig .tc := ⟨.hbm, 94, rfl⟩
abbrev main_while0b_cst_31 : Ref sig .tc := ⟨.hbm, 95, rfl⟩
abbrev main_while0b_v83 : Ref sig .tc := ⟨.hbm, 96, rfl⟩
abbrev main_while0b_v84 : Ref sig .tc := ⟨.hbm, 97, rfl⟩
abbrev main_while0b_v85 : Ref sig .tc := ⟨.hbm, 98, rfl⟩
abbrev main_while0b_v86 : Ref sig .tc := ⟨.hbm, 99, rfl⟩
abbrev main_while0b_v87 : Ref sig .tc := ⟨.hbm, 100, rfl⟩
abbrev main_while0b_v88 : Ref sig .tc := ⟨.hbm, 101, rfl⟩
abbrev main_while0b_v89 : Ref sig .tc := ⟨.hbm, 102, rfl⟩
abbrev main_while0b_v90 : Ref sig .tc := ⟨.hbm, 103, rfl⟩
abbrev main_while0b_v91 : Ref sig .tc := ⟨.hbm, 104, rfl⟩
abbrev main_while0b_v92 : Ref sig .tc := ⟨.hbm, 105, rfl⟩
abbrev main_while0b_cst_32 : Ref sig .tc := ⟨.hbm, 106, rfl⟩
abbrev main_while0b_v93 : Ref sig .tc := ⟨.hbm, 107, rfl⟩
abbrev main_while0b_v94 : Ref sig .tc := ⟨.hbm, 108, rfl⟩
abbrev main_while0b_v95 : Ref sig .tc := ⟨.hbm, 109, rfl⟩
abbrev main_while0b_v96 : Ref sig .tc := ⟨.hbm, 110, rfl⟩
abbrev main_while0b_v97 : Ref sig .tc := ⟨.hbm, 111, rfl⟩
abbrev main_while0b_v98 : Ref sig .tc := ⟨.hbm, 112, rfl⟩
abbrev main_while0b_v99 : Ref sig .tc := ⟨.hbm, 113, rfl⟩
abbrev main_while0b_cst_33 : Ref sig .tc := ⟨.hbm, 114, rfl⟩
abbrev main_while0b_v100 : Ref sig .tc := ⟨.hbm, 115, rfl⟩
abbrev main_while0b_v101 : Ref sig .tc := ⟨.hbm, 116, rfl⟩
abbrev main_while0b_v102 : Ref sig .tc := ⟨.hbm, 117, rfl⟩
abbrev main_while0b_v103 : Ref sig .tc := ⟨.hbm, 118, rfl⟩
abbrev main_while0b_v104 : Ref sig .tc := ⟨.hbm, 119, rfl⟩
abbrev main_while0b_v105 : Ref sig .tc := ⟨.hbm, 120, rfl⟩
abbrev main_while0b_v106 : Ref sig .tc := ⟨.hbm, 121, rfl⟩
abbrev main_while0b_v107 : Ref sig .tc := ⟨.hbm, 122, rfl⟩
abbrev main_while0b_v108 : Ref sig .tc := ⟨.hbm, 123, rfl⟩
abbrev main_while0b_v109 : Ref sig .tc := ⟨.hbm, 124, rfl⟩
abbrev main_while0b_v110 : Ref sig .tc := ⟨.hbm, 125, rfl⟩
abbrev main_while0b_v111 : Ref sig .tc := ⟨.hbm, 126, rfl⟩
abbrev main_while0b_v112 : Ref sig .tc := ⟨.hbm, 127, rfl⟩
abbrev main_while0b_v113 : Ref sig .tc := ⟨.hbm, 128, rfl⟩
abbrev main_while0b_v114 : Ref sig .tc := ⟨.hbm, 129, rfl⟩
abbrev main_while0b_v115 : Ref sig .tc := ⟨.hbm, 130, rfl⟩
abbrev main_while0b_v116 : Ref sig .tc := ⟨.hbm, 131, rfl⟩
abbrev main_while0b_v117 : Ref sig .tc := ⟨.hbm, 132, rfl⟩
abbrev main_while0b_v118 : Ref sig .tc := ⟨.hbm, 133, rfl⟩
abbrev main_while0b_v119 : Ref sig .tc := ⟨.hbm, 134, rfl⟩
abbrev main_while0b_v120 : Ref sig .tc := ⟨.hbm, 135, rfl⟩
abbrev main_while0b_v121 : Ref sig .tc := ⟨.hbm, 136, rfl⟩
abbrev main_while0b_v122 : Ref sig .tc := ⟨.hbm, 137, rfl⟩
abbrev main_while0b_v123 : Ref sig .tc := ⟨.hbm, 138, rfl⟩
abbrev main_while0b_cst_34 : Ref sig .tc := ⟨.hbm, 139, rfl⟩
abbrev main_while0b_v124 : Ref sig .tc := ⟨.hbm, 140, rfl⟩
abbrev main_while0b_v125 : Ref sig .tc := ⟨.hbm, 141, rfl⟩
abbrev main_while0b_cst_35 : Ref sig .tc := ⟨.hbm, 142, rfl⟩
abbrev main_while0b_v126 : Ref sig .tc := ⟨.hbm, 143, rfl⟩
abbrev main_while0b_v127 : Ref sig .tc := ⟨.hbm, 144, rfl⟩
abbrev main_while0b_v128 : Ref sig .tc := ⟨.hbm, 145, rfl⟩
abbrev main_while0b_v129 : Ref sig .tc := ⟨.hbm, 146, rfl⟩
abbrev main_while0b_cst_36 : Ref sig .tc := ⟨.hbm, 147, rfl⟩
abbrev main_while0b_v130 : Ref sig .tc := ⟨.hbm, 148, rfl⟩
abbrev main_while0b_v131 : Ref sig .tc := ⟨.hbm, 149, rfl⟩
abbrev main_while0b_cst_37 : Ref sig .tc := ⟨.hbm, 150, rfl⟩
abbrev main_while0b_v132 : Ref sig .tc := ⟨.hbm, 151, rfl⟩
abbrev main_while0b_v133 : Ref sig .tc := ⟨.hbm, 152, rfl⟩
abbrev main_while0b_v134 : Ref sig .tc := ⟨.hbm, 153, rfl⟩
abbrev main_while0b_v135 : Ref sig .tc := ⟨.hbm, 154, rfl⟩
abbrev main_while0b_v136 : Ref sig .tc := ⟨.hbm, 155, rfl⟩
abbrev main_while0b_cst_38 : Ref sig .tc := ⟨.hbm, 156, rfl⟩
abbrev main_while0b_v137 : Ref sig .tc := ⟨.hbm, 157, rfl⟩
abbrev main_while0b_v138 : Ref sig .tc := ⟨.hbm, 158, rfl⟩
abbrev main_while0b_cst_39 : Ref sig .tc := ⟨.hbm, 159, rfl⟩
abbrev main_while0b_v139 : Ref sig .tc := ⟨.hbm, 160, rfl⟩
abbrev main_while0b_v140 : Ref sig .tc := ⟨.hbm, 161, rfl⟩
abbrev main_while0b_v141 : Ref sig .tc := ⟨.hbm, 162, rfl⟩
abbrev main_while0b_v142 : Ref sig .tc := ⟨.hbm, 163, rfl⟩
abbrev main_while0b_v143 : Ref sig .tc := ⟨.hbm, 164, rfl⟩
abbrev main_while0b_v144 : Ref sig .tc := ⟨.hbm, 165, rfl⟩
abbrev main_while0b_v145 : Ref sig .tc := ⟨.hbm, 166, rfl⟩
abbrev main_while0b_v146 : Ref sig .tc := ⟨.hbm, 167, rfl⟩
abbrev main_while0b_v147 : Ref sig .tc := ⟨.hbm, 168, rfl⟩
abbrev main_while0b_v148 : Ref sig .tc := ⟨.hbm, 169, rfl⟩
abbrev main_while0b_cst_40 : Ref sig .tc := ⟨.hbm, 170, rfl⟩
abbrev main_while0b_v149 : Ref sig .tc := ⟨.hbm, 171, rfl⟩
abbrev main_while0b_v150 : Ref sig .tc := ⟨.hbm, 172, rfl⟩
abbrev main_while0b_v151 : Ref sig .tc := ⟨.hbm, 173, rfl⟩
abbrev main_while0b_v152 : Ref sig .tc := ⟨.hbm, 174, rfl⟩
abbrev main_while0b_v153 : Ref sig .tc := ⟨.hbm, 175, rfl⟩
abbrev main_while0b_v154 : Ref sig .tc := ⟨.hbm, 176, rfl⟩
abbrev main_while0b_v155 : Ref sig .tc := ⟨.hbm, 177, rfl⟩
abbrev main_while0b_cst_41 : Ref sig .tc := ⟨.hbm, 178, rfl⟩
abbrev main_while0b_v156 : Ref sig .tc := ⟨.hbm, 179, rfl⟩
abbrev main_while0b_v157 : Ref sig .tc := ⟨.hbm, 180, rfl⟩
abbrev main_while0b_v158 : Ref sig .tc := ⟨.hbm, 181, rfl⟩
abbrev main_while0b_v159 : Ref sig .tc := ⟨.hbm, 182, rfl⟩
abbrev main_while0b_v160 : Ref sig .tc := ⟨.hbm, 183, rfl⟩
abbrev main_while0b_v161 : Ref sig .tc := ⟨.hbm, 184, rfl⟩
abbrev main_while0b_v162 : Ref sig .tc := ⟨.hbm, 185, rfl⟩
abbrev main_while0b_call2_v0 : Ref sig .tc := ⟨.hbm, 186, rfl⟩
abbrev main_while0b_call2_c : Ref sig .tc := ⟨.hbm, 187, rfl⟩
abbrev main_while0b_call2_c_0 : Ref sig .tc := ⟨.hbm, 188, rfl⟩
abbrev main_while0b_v163 : Ref sig .tc := ⟨.hbm, 189, rfl⟩
abbrev main_while0b_c_42 : Ref sig .tc := ⟨.hbm, 190, rfl⟩
abbrev main_while0b_v164 : Ref sig .tc := ⟨.hbm, 191, rfl⟩
abbrev main_v15 : Ref sig .tc := ⟨.hbm, 192, rfl⟩
abbrev main_v16 : Ref sig .tc := ⟨.hbm, 193, rfl⟩
abbrev main_v17 : Ref sig .tc := ⟨.hbm, 194, rfl⟩
abbrev main_v18 : Ref sig .tc := ⟨.hbm, 195, rfl⟩
abbrev main_v19 : Ref sig .tc := ⟨.hbm, 196, rfl⟩
abbrev main_v20 : Ref sig .tc := ⟨.hbm, 197, rfl⟩
abbrev main_v21 : Ref sig .tc := ⟨.hbm, 198, rfl⟩
abbrev main_v22 : Ref sig .tc := ⟨.hbm, 199, rfl⟩
abbrev main_v23 : Ref sig .tc := ⟨.hbm, 200, rfl⟩
abbrev main_v24 : Ref sig .tc := ⟨.hbm, 201, rfl⟩
abbrev main_v25 : Ref sig .tc := ⟨.hbm, 202, rfl⟩
abbrev main_cst_4 : Ref sig .tc := ⟨.hbm, 203, rfl⟩
abbrev main_v26 : Ref sig .tc := ⟨.hbm, 204, rfl⟩
abbrev main_cst_5 : Ref sig .tc := ⟨.hbm, 205, rfl⟩
abbrev main_v27 : Ref sig .tc := ⟨.hbm, 206, rfl⟩
abbrev main_v28 : Ref sig .tc := ⟨.hbm, 207, rfl⟩
abbrev main_v29 : Ref sig .tc := ⟨.hbm, 208, rfl⟩
abbrev main_v30 : Ref sig .tc := ⟨.hbm, 209, rfl⟩
abbrev main_v31 : Ref sig .tc := ⟨.hbm, 210, rfl⟩
abbrev main_v32 : Ref sig .tc := ⟨.hbm, 211, rfl⟩
abbrev main_cst_6 : Ref sig .tc := ⟨.hbm, 212, rfl⟩
abbrev main_v33 : Ref sig .tc := ⟨.hbm, 213, rfl⟩
abbrev main_v34 : Ref sig .tc := ⟨.hbm, 214, rfl⟩
abbrev main_v35 : Ref sig .tc := ⟨.hbm, 215, rfl⟩
abbrev main_v36 : Ref sig .tc := ⟨.hbm, 216, rfl⟩
abbrev main_v37 : Ref sig .tc := ⟨.hbm, 217, rfl⟩
abbrev main_v38 : Ref sig .tc := ⟨.hbm, 218, rfl⟩
abbrev main_v39 : Ref sig .tc := ⟨.hbm, 219, rfl⟩
abbrev main_v40 : Ref sig .tc := ⟨.hbm, 220, rfl⟩
abbrev main_cst_7 : Ref sig .tc := ⟨.hbm, 221, rfl⟩
abbrev main_v41 : Ref sig .tc := ⟨.hbm, 222, rfl⟩
abbrev main_cst_8 : Ref sig .tc := ⟨.hbm, 223, rfl⟩
abbrev main_v42 : Ref sig .tc := ⟨.hbm, 224, rfl⟩
abbrev main_cst_9 : Ref sig .tc := ⟨.hbm, 225, rfl⟩
abbrev main_v43 : Ref sig .tc := ⟨.hbm, 226, rfl⟩
abbrev main_call3_v0 : Ref sig .tc := ⟨.hbm, 227, rfl⟩
abbrev main_call3_v1 : Ref sig .tc := ⟨.hbm, 228, rfl⟩
abbrev main_call3_c : Ref sig .tc := ⟨.hbm, 229, rfl⟩
abbrev main_call3_v2 : Ref sig .tc := ⟨.hbm, 230, rfl⟩
abbrev main_call3_v3 : Ref sig .tc := ⟨.hbm, 231, rfl⟩
abbrev main_call3_c_0 : Ref sig .tc := ⟨.hbm, 232, rfl⟩
abbrev main_call3_v4 : Ref sig .tc := ⟨.hbm, 233, rfl⟩
abbrev main_call3_v5 : Ref sig .tc := ⟨.hbm, 234, rfl⟩
abbrev main_call3_v6 : Ref sig .tc := ⟨.hbm, 235, rfl⟩
abbrev main_call3_c_1 : Ref sig .tc := ⟨.hbm, 236, rfl⟩
abbrev main_call3_v7 : Ref sig .tc := ⟨.hbm, 237, rfl⟩
abbrev main_call3_v8 : Ref sig .tc := ⟨.hbm, 238, rfl⟩
abbrev main_call3_c_2 : Ref sig .tc := ⟨.hbm, 239, rfl⟩
abbrev main_call3_v9 : Ref sig .tc := ⟨.hbm, 240, rfl⟩
abbrev main_call3_v10 : Ref sig .tc := ⟨.hbm, 241, rfl⟩
abbrev main_call3_v11 : Ref sig .tc := ⟨.hbm, 242, rfl⟩
abbrev main_call3_v12 : Ref sig .tc := ⟨.hbm, 243, rfl⟩
abbrev main_call3_v13 : Ref sig .tc := ⟨.hbm, 244, rfl⟩
abbrev main_call3_v14 : Ref sig .tc := ⟨.hbm, 245, rfl⟩
abbrev main_v44 : Ref sig .tc := ⟨.hbm, 246, rfl⟩
abbrev main_cst_10 : Ref sig .tc := ⟨.hbm, 247, rfl⟩
abbrev main_v45 : Ref sig .tc := ⟨.hbm, 248, rfl⟩
abbrev main_v46 : Ref sig .tc := ⟨.hbm, 249, rfl⟩
abbrev main_v47 : Ref sig .tc := ⟨.hbm, 250, rfl⟩
abbrev main_v48 : Ref sig .tc := ⟨.hbm, 251, rfl⟩

abbrev nD : Nat := 1
abbrev τ : Topo := Topo.v7x

variable {F : FTy → Type} [FloatOps F]

abbrev main_while0_count : Scf.Loop 32 := ⟨0#32, 512#32, 1#32⟩
-- ==== Proof.Words.lean ====
/- The word arithmetic of the recurrent call. At a grid point with block number `b` the body reads the longest length as
a word `v9`, clips `v9 - 64 * max (b - 1) 0` to `0 … 64`, and runs one trip per started group of sixteen steps. Here: the
clipped count as a natural number, the two loops' trip counts (the second loop makes none), the rows every access
starts at, and that the condition the body assumes of `v9` holds of every word. -/
module

public import proofs.«01_k».proof.Proof.Gen.KernelIdeal.Skeleton
public import Idealize.ShloMosaic.Lib.WordCmp

@[expose] public section

set_option maxRecDepth 16384

namespace Cert.KernelIdeal.Runs

open Cert.KernelIdeal Cert.KernelIdeal.Gen
open Idealize.ShloMosaic Idealize.ShloMosaic.TcCoe

/-- The block number as a word. -/
abbrev blkW (i : grid0.Coords) : BitVec 32 := BitVec.ofNat 32 (i 0).val

/-- The clipped count of steps left from row `64 * max (b - 1) 0` on, as the body computes it. -/
def cntW (i : grid0.Coords) (v9 : BitVec 32) : BitVec 32 :=
  Scalar.minsi 64#32 (Scalar.maxsi 0#32 (Scalar.subi v9 (Scalar.muli (Scalar.maxsi (Scalar.subi (blkW i) 1#32) 0#32) 64#32)))

/-- The number of groups of sixteen, rounded up, as the body computes it from the clipped count. -/
def groupsW (w : BitVec 32) : BitVec 32 :=
  let v72 := Scalar.subi (Scalar.addi w 16#32) 1#32
  let v78 := Scalar.subi (Scalar.extui (Scalar.cmpi .sgt v72 0#32)) (Scalar.extui (Scalar.cmpi .slt v72 0#32))
  let v83 := Scalar.subi (Scalar.extui (Scalar.cmpi .sgt 16#32 0#32)) (Scalar.extui (Scalar.cmpi .slt 16#32 0#32))
  let v87 := Scalar.andi (Scalar.cmpi .ne v78 v83) (Scalar.cmpi .ne (Scalar.remsi v72 16#32) 0#32)
  let v73 := Scalar.divsi v72 16#32
  Scalar.select v87 (Scalar.subi v73 1#32) v73

def boundW (w : BitVec 32) : BitVec 32 :=
  Scalar.addi 0#32 (Scalar.muli (Scalar.divsi (Scalar.subi (groupsW w) 0#32) 1#32) 1#32)

/-- Clipping any word to `0 … 64` gives one of 65 words. -/
theorem clip_mem (x : BitVec 32) : ∃ n : Fin 65, Scalar.minsi 64#32 (Scalar.maxsi 0#32 x) = BitVec.ofNat 32 n.val := by
  by_cases h0 : x.slt 0#32
  · refine ⟨0, ?_⟩
    simp only [Scalar.minsi, Scalar.maxsi, IntOp.minsi, IntOp.maxsi, h0, if_true]; decide
  by_cases h1 : (64#32).slt x
  · refine ⟨64, ?_⟩
    simp [Scalar.minsi, Scalar.maxsi, IntOp.minsi, IntOp.maxsi, h0, h1]
  · refine ⟨⟨x.toNat, ?_⟩, ?_⟩
    · rw [BitVec.slt_iff_toInt_lt] at h0 h1
      have e : x.toInt = (x.toNat : Int) := by
        rw [BitVec.toInt_eq_toNat_cond] at h0 ⊢
        split at h0 <;> split <;> simp at * <;> omega
      have : (64#32).toInt = 64 := by decide
      omega
    · simp [Scalar.minsi, Scalar.maxsi, IntOp.minsi, IntOp.maxsi, h0, h1]

/-- The clipped count as a natural number. -/
def cnt (i : grid0.Coords) (v9 : BitVec 32) : ℕ := (cntW i v9).toNat

theorem cntW_mem (i : grid0.Coords) (v9 : BitVec 32) : ∃ n : Fin 65, cntW i v9 = BitVec.ofNat 32 n.val := clip_mem _

theorem boundW_eq : ∀ n : Fin 65, boundW (BitVec.ofNat 32 n.val) = BitVec.ofNat 32 ((n.val + 15) / 16) := by decide

theorem groupsW_eq : ∀ n : Fin 65, groupsW (BitVec.ofNat 32 n.val) = BitVec.ofNat 32 ((n.val + 15) / 16) := by decide

theorem cntW_eq (i : grid0.Coords) (v9 : BitVec 32) : cntW i v9 = BitVec.ofNat 32 (cnt i v9) ∧ cnt i v9 ≤ 64 := by
  obtain ⟨n, hn⟩ := cntW_mem i v9
  unfold cnt; rw [hn]
  have := n.isLt
  have e : (BitVec.ofNat 32 n.val).toNat = n.val := by rw [BitVec.toNat_ofNat]; omega
  rw [e]; exact ⟨rfl, by omega⟩

/-- The trips the recurrent loop makes: one per started group of sixteen steps, four at most. -/
def groups (i : grid0.Coords) (v9 : BitVec 32) : ℕ := (cnt i v9 + 15) / 16

theorem groups_le (i : grid0.Coords) (v9 : BitVec 32) : groups i v9 ≤ 4 := by
  have := (cntW_eq i v9).2; unfold groups; omega

theorem loop1_eq (i : grid0.Coords) (v9 : BitVec 32) : k0_t1_loop i v9 = ⟨0#32, BitVec.ofNat 32 (groups i v9), 1#32⟩ := by
  have h : k0_t1_loop i v9 = ⟨0#32, boundW (cntW i v9), 1#32⟩ := rfl
  obtain ⟨e, l⟩ := cntW_eq i v9
  rw [h, e, boundW_eq ⟨cnt i v9, by omega⟩]; rfl

theorem trips_small : ∀ n : Fin 5, Scf.trips 0#32 (BitVec.ofNat 32 n.val) 1#32 = n.val := by decide

theorem ok_small : ∀ n : Fin 5, Scf.OK 0#32 (BitVec.ofNat 32 n.val) 1#32 := by decide

theorem loop1_trips (i : grid0.Coords) (v9 : BitVec 32) : (k0_t1_loop i v9).trips = groups i v9 := by
  rw [loop1_eq]; exact trips_small ⟨groups i v9, by have := groups_le i v9; omega⟩

theorem loop1_ok (i : grid0.Coords) (v9 : BitVec 32) : (k0_t1_loop i v9).OK := by
  rw [loop1_eq]; exact ok_small ⟨groups i v9, by have := groups_le i v9; omega⟩

theorem trips_none : ∀ n : Fin 5, Scf.trips (BitVec.ofNat 32 n.val) (BitVec.ofNat 32 n.val) 1#32 = 0 := by decide

theorem ok_none : ∀ n : Fin 5, Scf.OK (BitVec.ofNat 32 n.val) (BitVec.ofNat 32 n.val) 1#32 := by decide

theorem loop2_eq (i : grid0.Coords) (v9 : BitVec 32) :
    k0_t2_loop i v9 = ⟨BitVec.ofNat 32 (groups i v9), BitVec.ofNat 32 (groups i v9), 1#32⟩ := by
  have h : k0_t2_loop i v9
      = ⟨boundW (cntW i v9), Scalar.addi 0#32 (Scalar.subi (groupsW (cntW i v9)) 0#32), 1#32⟩ := rfl
  obtain ⟨e, l⟩ := cntW_eq i v9
  rw [h, e, boundW_eq ⟨cnt i v9, by omega⟩, groupsW_eq ⟨cnt i v9, by omega⟩]
  simp [groups, Scalar.addi, Scalar.subi, IntOp.addi, IntOp.subi]

/-- The remainder loop makes no trip. -/
theorem loop2_trips (i : grid0.Coords) (v9 : BitVec 32) : (k0_t2_loop i v9).trips = 0 := by
  rw [loop2_eq]; exact trips_none ⟨groups i v9, by have := groups_le i v9; omega⟩

theorem loop2_ok (i : grid0.Coords) (v9 : BitVec 32) : (k0_t2_loop i v9).OK := by
  rw [loop2_eq]; exact ok_none ⟨groups i v9, by have := groups_le i v9; omega⟩

theorem trip_lt_four (i : grid0.Coords) (v9 : BitVec 32) (k : Fin (k0_t1_loop i v9).trips) : k.val < 4 :=
  lt_of_lt_of_le k.isLt (by rw [loop1_trips]; exact groups_le i v9)

/-! ## The rows the accesses start at -/

/-- The step number inside the block, of unrolled step `r` of trip `k`, as a word. -/
def stepW (k r : ℕ) : BitVec 32 := Scalar.addi (Scalar.muli 16#32 (Scf.iv 0#32 1#32 k)) (BitVec.ofNat 32 r)

/-- The half of the layer-0 output buffer the block writes. -/
def halfW (b : BitVec 32) : BitVec 32 :=
  let v54 := Scalar.select (Scalar.cmpi .eq 2#32 0#32) 1#32 2#32
  let v55 := Scalar.remsi b v54
  let v59 := Scalar.xori (Scalar.cmpi .slt v55 0#32) (Scalar.cmpi .slt v54 0#32)
  let v60 := Scalar.andi v59 (Scalar.cmpi .ne v55 0#32)
  Scalar.select v60 (Scalar.addi v55 v54) v55

theorem gateRow : ∀ (k : Fin 4) (r : Fin 16), (Scalar.muli (stepW k.val r.val) 16#32).toNat = 16 * (16 * k.val + r.val) := by
  decide

theorem outRow : ∀ (b : Fin 9) (k : Fin 4) (r : Fin 16),
    (Scalar.addi (Scalar.muli (Scalar.muli (halfW (BitVec.ofNat 32 b.val)) 64#32) 16#32) (Scalar.muli (stepW k.val r.val) 16#32)).toNat
      = 1024 * (b.val % 2) + 16 * (16 * k.val + r.val) := by
  decide

theorem ctxRow : ∀ (b : Fin 9) (k : Fin 4) (r : Fin 16),
    (Scalar.maxsi (Scalar.addi (Scalar.muli (Scalar.subi (BitVec.ofNat 32 b.val) 1#32) 64#32) (stepW k.val r.val)) 0#32).toNat
      = 64 * b.val + 16 * k.val + r.val - 64 := by
  decide

theorem i_lt (i : grid0.Coords) : (i 0).val < 9 := (i 0).isLt

theorem off3_eq (i : grid0.Coords) (v9 : BitVec 32) (k : Fin (k0_t1_loop i v9).trips) (r : Fin 16) :
    k0_off3 i v9 k (BitVec.ofNat 32 r.val) = ![16 * (16 * k.val + r.val), 0] := by
  have h : k0_off3 i v9 k (BitVec.ofNat 32 r.val) = ![(Scalar.muli (stepW k.val r.val) 16#32).toNat, 0] := rfl
  rw [h, gateRow ⟨k.val, trip_lt_four i v9 k⟩ r]

theorem off4_eq (i : grid0.Coords) (v9 : BitVec 32) (k : Fin (k0_t1_loop i v9).trips) (r : Fin 16) :
    k0_off4 i v9 k (BitVec.ofNat 32 r.val) = ![1024 * ((i 0).val % 2) + 16 * (16 * k.val + r.val), 0] := by
  have h : k0_off4 i v9 k (BitVec.ofNat 32 r.val)
      = ![(Scalar.addi (Scalar.muli (Scalar.muli (halfW (blkW i)) 64#32) 16#32) (Scalar.muli (stepW k.val r.val) 16#32)).toNat, 0] := rfl
  rw [h, outRow ⟨(i 0).val, i_lt i⟩ ⟨k.val, trip_lt_four i v9 k⟩ r]

theorem off5_eq (i : grid0.Coords) (v9 : BitVec 32) (k : Fin (k0_t1_loop i v9).trips) (r : Fin 16) :
    k0_off5 i v9 k (BitVec.ofNat 32 r.val) = ![64 * (i 0).val + 16 * k.val + r.val - 64, 0, 0] := by
  have h : k0_off5 i v9 k (BitVec.ofNat 32 r.val)
      = ![(Scalar.maxsi (Scalar.addi (Scalar.muli (Scalar.subi (blkW i) 1#32) 64#32) (stepW k.val r.val)) 0#32).toNat, 0, 0] := rfl
  rw [h, ctxRow ⟨(i 0).val, i_lt i⟩ ⟨k.val, trip_lt_four i v9 k⟩ r]

theorem off1_eq (i : grid0.Coords) : k0_off1 i = ![1024 * (((i 0).val + 1) % 2), 0] := by
  have h : ∀ b : Fin 9, (Scalar.indexCast (Scalar.muli (Scalar.muli (halfW (Scalar.subi (BitVec.ofNat 32 b.val) 1#32)) 64#32) 16#32)).toNat
      = 1024 * ((b.val + 1) % 2) := by decide
  have e : k0_off1 i = ![(Scalar.indexCast (Scalar.muli (Scalar.muli (halfW (Scalar.subi (blkW i) 1#32)) 64#32) 16#32)).toNat, 0] := rfl
  rw [e, h ⟨(i 0).val, i_lt i⟩]

theorem off2_eq (i : grid0.Coords) : k0_off2 i = ![64 * (i 0).val - 64, 0, 0] := by
  have h : ∀ b : Fin 9, (Scalar.indexCast (Scalar.maxsi (Scalar.muli (Scalar.subi (BitVec.ofNat 32 b.val) 1#32) 64#32) 0#32)).toNat
      = 64 * b.val - 64 := by decide
  have e : k0_off2 i = ![(Scalar.indexCast (Scalar.maxsi (Scalar.muli (Scalar.subi (blkW i) 1#32) 64#32) 0#32)).toNat, 0, 0] := rfl
  rw [e, h ⟨(i 0).val, i_lt i⟩]

/-! ## The assumed condition -/

theorem packed_rows16 : ∀ j : Fin 128, S2048x256.PackedRowsAt (EltTy.packing .bf16) ![16 * j.val, 0] S16x256.size (fun _ => 1) := by
  decide

/-- The condition the body assumes of the word it has read holds of every word. -/
theorem assumed (i : grid0.Coords) (v9 : BitVec 32) : k0_chk1 i v9 := by
  have hi := i_lt i
  have none : ∀ k : Fin (k0_t2_loop i v9).trips, False := fun k =>
    absurd (lt_of_lt_of_eq k.isLt (loop2_trips i v9)) (Nat.not_lt_zero _)
  unfold k0_chk1
  refine ⟨loop1_ok i v9, fun k r => ?_, fun k r => ?_, fun k r h => ?_, fun k r => ?_, loop2_ok i v9,
    fun k => (none k).elim, fun k => (none k).elim, fun k => (none k).elim, fun k => (none k).elim⟩
  all_goals have hk := trip_lt_four i v9 k; have hr := r.isLt
  · rw [off3_eq]; intro a; fin_cases a
    · show 16 * (16 * k.val + r.val) + 16 ≤ 1024; omega
    · show 0 + 1024 ≤ 1024; omega
  · rw [off4_eq]; intro a; fin_cases a
    · show 1024 * ((i 0).val % 2) + 16 * (16 * k.val + r.val) + 16 ≤ 2048; omega
    · show 0 + 256 ≤ 256; omega
  · rw [Rect.packedRows_iff_at]
    show S2048x256.PackedRowsAt _ (k0_off4 i v9 k (BitVec.ofNat 32 r.val)) S16x256.size (fun _ => 1)
    rw [off4_eq, show 1024 * ((i 0).val % 2) + 16 * (16 * k.val + r.val) = 16 * (64 * ((i 0).val % 2) + 16 * k.val + r.val) by omega]
    exact packed_rows16 ⟨64 * ((i 0).val % 2) + 16 * k.val + r.val, by omega⟩
  · rw [off5_eq]; intro a; fin_cases a
    · show 64 * (i 0).val + 16 * k.val + r.val - 64 + 1 ≤ 512; omega
    · show 0 + 16 ≤ 16; omega
    · show 0 + 256 ≤ 256; omega

end Cert.KernelIdeal.Runs
-- ==== Proof.LstmStep.lean ====
/- One time step of the two stacked recurrent layers as the kernel's body performs it, on values: the two masks, one
cell, the blend of new and old state, and the sixteen steps of one trip in a row. Stated at any float carrier. -/
module

public import proofs.«01_k».proof.Proof.Gen.KernelIdeal.Loops
public import proofs.«01_k».proof.Proof.Words
public import Idealize.ShloMosaic.Lib.Pipeline.FrameBody

@[expose] public section

set_option maxRecDepth 16384

noncomputable section

namespace Cert.KernelIdeal.Runs

open Cert.KernelIdeal Cert.KernelIdeal.Gen
open Idealize.ShloMosaic Idealize.ShloMosaic.TcCoe

variable {F : FTy → Type} [FloatOps F]

/-- The state a step carries: hidden and cell state of layer 0, then of layer 1. -/
abbrev Carry (F : FTy → Type) [FloatOps F] : Type :=
  Vec F S16x256 .f32 × Vec F S16x256 .f32 × Vec F S16x256 .f32 × Vec F S16x256 .f32

/-- The time of step `w` in a block starting at `base`. -/
def timeAt (base : F .f32) (w : BitVec 32) : F .f32 := Scalar.addf base (Scalar.sitofp .f32 w)

/-- Layer 0's mask: one on the rows whose length exceeds the time. -/
def mask0 (lens : FVec F S16x1 .f32) (base : F .f32) (w : BitVec 32) : FVec F S16x1 .f32 :=
  sitofp .f32 (extui 32 (cmpf .olt (broadcast S16x1 (timeAt base w)) lens) natLt_1_32)

/-- Layer 1's mask: the same at its own time, and zero before time zero. -/
def mask1 (lens : FVec F S16x1 .f32) (base : F .f32) (w : BitVec 32) : FVec F S16x1 .f32 :=
  sitofp .f32 (extui 32 (andi (broadcast S16x1 (Scalar.cmpf .oge (timeAt base w) (Scalar.ofBits .f32 0x00000000#32)))
    (cmpf .olt (broadcast S16x1 (timeAt base w)) lens)) natLt_1_32)

/-- A mask spread over the columns, and its complement. -/
def spread (m : FVec F S16x1 .f32) : FVec F S16x256 .f32 := broadcastTo S16x256 m broadcasts_S16x1_S16x256
def spreadNot (m : FVec F S16x1 .f32) : FVec F S16x256 .f32 :=
  broadcastTo S16x256 (subf (broadcast S16x1 (Scalar.ofBits .f32 0x3F800000#32)) m) broadcasts_S16x1_S16x256

/-- The four gates before their activation. -/
def gates (h : Vec F S16x256 .f32) (g : Vec F S16x1024 .bf16) (w : Vec F S256x1024 .bf16) : FVec F S16x1024 .f32 :=
  addf (extf .f32 g bitsLt_bf16_f32)
    (matmul dot_S16x256_S256x1024_S16x1024_1_0_0_1_n_n none (truncf .bf16 h bitsLt_bf16_f32)
      (shapeCast S256x1024 w shapeCasts_S256x1024_S256x1024) (constant S16x1024 .f32 0x00000000#32))

/-- The new cell state, -/
def cellC (h c : Vec F S16x256 .f32) (g : Vec F S16x1024 .bf16) (w : Vec F S256x1024 .bf16) : FVec F S16x256 .f32 :=
  addf (mulf (logistic (extractStridedSlice S16x256 ![0, 256] (gates h g w) slices_S16x1024_o0_256_S16x256)) c)
    (mulf (logistic (extractStridedSlice S16x256 ![0, 0] (gates h g w) slices_S16x1024_o0_0_S16x256))
      (tanh (extractStridedSlice S16x256 ![0, 512] (gates h g w) slices_S16x1024_o0_512_S16x256)))

/-- and the new hidden state. -/
def cellH (h c : Vec F S16x256 .f32) (g : Vec F S16x1024 .bf16) (w : Vec F S256x1024 .bf16) : FVec F S16x256 .f32 :=
  mulf (logistic (extractStridedSlice S16x256 ![0, 768] (gates h g w) slices_S16x1024_o0_768_S16x256)) (tanh (cellC h c g w))

/-- New state where the mask is one, old where it is zero. -/
def blend (m : FVec F S16x1 .f32) (new old : FVec F S16x256 .f32) : FVec F S16x256 .f32 :=
  addf (mulf (spread m) new) (mulf (spreadNot m) old)

/-- What a step leaves of layer 0's output (kept for layer 1 one block later) and of layer 1's. -/
def emit0 (m : FVec F S16x1 .f32) (new : FVec F S16x256 .f32) : FVec F S16x256 .bf16 :=
  shapeCast S16x256 (truncf .bf16 (mulf (spread m) new) bitsLt_bf16_f32) shapeCasts_S16x256_S16x256
def emit1 (m : FVec F S16x1 .f32) (new : FVec F S16x256 .f32) : FVec F S1x16x256 .f32 :=
  shapeCast S1x16x256 (mulf (spread m) new) shapeCasts_S16x256_S1x16x256

/-- One layer's step on its pair of states. -/
def layer (m : FVec F S16x1 .f32) (g : Vec F S16x1024 .bf16) (w : Vec F S256x1024 .bf16)
    (s : Vec F S16x256 .f32 × Vec F S16x256 .f32) : Vec F S16x256 .f32 × Vec F S16x256 .f32 :=
  (blend m (cellH s.1 s.2 g w) s.1, blend m (cellC s.1 s.2 g w) s.2)

section Trip
variable (i : grid0.Coords) (v9 : BitVec 32) (lens : FVec F S16x1 .f32) (base0 base1 : F .f32)
  (w0 w1 : Vec F S256x1024 .bf16) (g0 g1 : Vec F S1024x1024 .bf16) (k : Fin (k0_t1_loop i v9).trips)

/-- The gate rows of unrolled step `r`. -/
abbrev gateRect (r : Fin 16) : Rect S1024x1024 :=
  Rect.unit (s := S1024x1024) (k0_off3 i v9 k (BitVec.ofNat 32 r.val)) S16x1024.size (k0_off3_inb i v9 (assumed i v9) k r)

/-- Both layers' step `r` of trip `k`. -/
def stepAt (r : Fin 16) (a : Carry F) : Carry F :=
  let s0 := layer (mask0 lens base0 (stepW k.val r.val)) (View.ld g0 (gateRect i v9 k r)) w0 (a.1, a.2.1)
  let s1 := layer (mask1 lens base1 (stepW k.val r.val)) (View.ld g1 (gateRect i v9 k r)) w1 (a.2.2.1, a.2.2.2)
  (s0.1, s0.2, s1.1, s1.2)

/-- The state before step `r` of the trip. -/
def before (a : Carry F) : ℕ → Carry F
  | 0 => a
  | r + 1 => if h : r < 16 then stepAt i v9 lens base0 base1 w0 w1 g0 g1 k ⟨r, h⟩ (before a r) else before a r

end Trip

end Cert.KernelIdeal.Runs
end
-- ==== Proof.LstmTrip.lean ====
/- The loop of the recurrent body on values: the stores of one trip as lists, the state after some trips, and the
generated recursion rewritten to them. -/
module

public import proofs.«01_k».proof.Proof.LstmStep

@[expose] public section

set_option maxRecDepth 16384

noncomputable section

namespace Cert.KernelIdeal.Runs

open Cert.KernelIdeal Cert.KernelIdeal.Gen
open Idealize.ShloMosaic Idealize.ShloMosaic.TcCoe

variable {F : FTy → Type} [FloatOps F]

/-- The rectangle of a whole weight matrix. -/
abbrev wholeW : Rect S256x1024 :=
  Rect.unit (s := S256x1024) ![0, 0] S256x1024.size inb_S256x1024_S256x1024_0_0

section Values
variable (i : grid0.Coords) (v9 : BitVec 32) (lens : FVec F S16x1 .f32) (base0 base1 : F .f32)
  (w0 w1 : Vec F S256x1024 .bf16) (g0 g1 : Vec F S1024x1024 .bf16)

/-- The context row that step `r` of trip `k` stores into, -/
abbrev ctxRect (k : Fin (k0_t1_loop i v9).trips) (r : Fin 16) : Rect S512x16x256 :=
  Rect.unit (s := S512x16x256) (k0_off5 i v9 k (BitVec.ofNat 32 r.val)) S1x16x256.size (k0_off5_inb i v9 (assumed i v9) k r)

/-- and the rows of layer 0's output. -/
abbrev outRect (k : Fin (k0_t1_loop i v9).trips) (r : Fin 16) : Rect S2048x256 :=
  Rect.unit (s := S2048x256) (k0_off4 i v9 k (BitVec.ofNat 32 r.val)) S16x256.size (k0_off4_inb i v9 (assumed i v9) k r)

/-- What step `r` of trip `k` stores into its context row, from the state before it, -/
def ctxPay (k : Fin (k0_t1_loop i v9).trips) (r : Fin 16) (a : Carry F) : FVec F S1x16x256 .f32 :=
  emit1 (mask1 lens base1 (stepW k.val r.val)) (cellH a.2.2.1 a.2.2.2 (View.ld g1 (gateRect i v9 k r)) w1)

/-- and into layer 0's output. -/
def outPay (k : Fin (k0_t1_loop i v9).trips) (r : Fin 16) (a : Carry F) : FVec F S16x256 .bf16 :=
  emit0 (mask0 lens base0 (stepW k.val r.val)) (cellH a.1 a.2.1 (View.ld g0 (gateRect i v9 k r)) w0)

/-- The context stores of the first steps of trip `k`, last first, -/
def ctxPieces (k : Fin (k0_t1_loop i v9).trips) (a : Carry F) : ℕ → List (View.Piece (Elt F) S512x16x256 .f32)
  | 0 => []
  | r + 1 => if h : r < 16 then
      ⟨ctxRect i v9 k ⟨r, h⟩, ctxPay i v9 lens base1 w1 g1 k ⟨r, h⟩ (before i v9 lens base0 base1 w0 w1 g0 g1 k a r)⟩
        :: ctxPieces k a r
    else ctxPieces k a r

/-- and those of layer 0's output. -/
def outPieces (k : Fin (k0_t1_loop i v9).trips) (a : Carry F) : ℕ → List (View.Piece (Elt F) S2048x256 .bf16)
  | 0 => []
  | r + 1 => if h : r < 16 then
      ⟨outRect i v9 k ⟨r, h⟩, outPay i v9 lens base0 w0 g0 k ⟨r, h⟩ (before i v9 lens base0 base1 w0 w1 g0 g1 k a r)⟩
        :: outPieces k a r
    else outPieces k a r

/-- The state and the stores before trip `k`. -/
def loopState (a : Carry F) :
    ℕ → Carry F × List (View.Piece (Elt F) S512x16x256 .f32) × List (View.Piece (Elt F) S2048x256 .bf16)
  | 0 => (a, [], [])
  | k + 1 => if h : k < (k0_t1_loop i v9).trips then
      (before i v9 lens base0 base1 w0 w1 g0 g1 ⟨k, h⟩ (loopState a k).1 16,
        ctxPieces i v9 lens base0 base1 w0 w1 g0 g1 ⟨k, h⟩ (loopState a k).1 16 ++ (loopState a k).2.1,
        outPieces i v9 lens base0 base1 w0 w1 g0 g1 ⟨k, h⟩ (loopState a k).1 16 ++ (loopState a k).2.2)
    else loopState a k

end Values

section Generated
variable
  (𝒱 : Variants) (c : Dev nD) (bd : Option 𝒱.V) (i : grid0.Coords) (arg1 : Memref sig .tc .vmem S16x1 .f32)
   (harg1 : arg1.IsWhole) (arg2 : Memref sig .tc .vmem S64x16x256 .f32) (harg2 : arg2.IsWhole)
   (arg3 : Memref sig .tc .vmem S256x1024 .f32) (harg3 : arg3.IsWhole) (arg4 : Memref sig .tc .vmem S256x1024 .bf16)
   (harg4 : arg4.IsWhole) (arg5 : Memref sig .tc .vmem S1x1024 .f32) (harg5 : arg5.IsWhole)
   (arg6 : Memref sig .tc .vmem S256x1024 .bf16) (harg6 : arg6.IsWhole)
   (arg7 : Memref sig .tc .vmem S256x1024 .bf16) (harg7 : arg7.IsWhole) (arg8 : Memref sig .tc .vmem S1x1024 .f32)
   (harg8 : arg8.IsWhole) (arg9 : Memref sig .tc .vmem S512x16x256 .f32) (harg9 : arg9.IsWhole)
   (arg10 : Memref sig .tc .vmem S1024x1024 .bf16) (harg10 : arg10.IsWhole)
   (arg11 : Memref sig .tc .vmem S1024x1024 .bf16) (harg11 : arg11.IsWhole)
   (arg12 : Memref sig .tc .vmem S2048x256 .bf16) (harg12 : arg12.IsWhole)
   (arg13 : Memref sig .tc .vmem S16x256 .f32) (harg13 : arg13.IsWhole) (arg14 : Memref sig .tc .vmem S16x256 .f32)
   (harg14 : arg14.IsWhole) (arg15 : Memref sig .tc .vmem S16x256 .f32) (harg15 : arg15.IsWhole)
   (arg16 : Memref sig .tc .vmem S16x256 .f32) (harg16 : arg16.IsWhole) (v4 : FVec F S16x1 .f32) (v9 : BitVec 32)
   (k0_hw1 : k0_chk1 i v9) (v12 : BitVec 32) (v51 : F .f32) (v52 : F .f32) (v64 : BitVec 32) (v68 : BitVec 32)
   (X_arg4 : BufTy.Contents (Elt F) arg4.view.ty) (X_arg7 : BufTy.Contents (Elt F) arg7.view.ty)
   (X_arg10 : BufTy.Contents (Elt F) arg10.view.ty) (X_arg11 : BufTy.Contents (Elt F) arg11.view.ty)

/-- One generated trip yields the sixteen steps' state, -/
theorem tripR_eq (k : Fin (k0_t1_loop i v9).trips) (acc : Carry F) :
    tripR_k0_t1 (F := F)
      𝒱 c bd i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 v4 v9
      k0_hw1 v12 v51 v52 v64 v68 X_arg4 X_arg7 X_arg10 X_arg11 k acc
      = before i v9 v4 v51 v52 (View.ld (View.read (Elt F) arg4.view X_arg4) wholeW) (View.ld (View.read (Elt F) arg7.view X_arg7) wholeW) (View.read (Elt F) arg10.view X_arg10) (View.read (Elt F) arg11.view X_arg11) k acc 16 := by
  unfold tripR_k0_t1 trip_k0_t1
  dsimp only
  rfl

/-- its context stores are the sixteen listed, -/
theorem tripL_ctx (k : Fin (k0_t1_loop i v9).trips) (acc : Carry F) :
    (tripL_k0_t1 (F := F)
      𝒱 c bd i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 v4 v9
      k0_hw1 v12 v51 v52 v64 v68 X_arg4 X_arg7 X_arg10 X_arg11 k acc).1
      = ctxPieces i v9 v4 v51 v52 (View.ld (View.read (Elt F) arg4.view X_arg4) wholeW) (View.ld (View.read (Elt F) arg7.view X_arg7) wholeW) (View.read (Elt F) arg10.view X_arg10) (View.read (Elt F) arg11.view X_arg11) k acc 16 := by
  unfold tripL_k0_t1 trip_k0_t1
  dsimp only
  rfl

/-- and so are those of layer 0's output. -/
theorem tripL_out (k : Fin (k0_t1_loop i v9).trips) (acc : Carry F) :
    (tripL_k0_t1 (F := F)
      𝒱 c bd i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 v4 v9
      k0_hw1 v12 v51 v52 v64 v68 X_arg4 X_arg7 X_arg10 X_arg11 k acc).2
      = outPieces i v9 v4 v51 v52 (View.ld (View.read (Elt F) arg4.view X_arg4) wholeW) (View.ld (View.read (Elt F) arg7.view X_arg7) wholeW) (View.read (Elt F) arg10.view X_arg10) (View.read (Elt F) arg11.view X_arg11) k acc 16 := by
  unfold tripL_k0_t1 trip_k0_t1
  dsimp only
  rfl

/-- The generated recursion is the state above. -/
theorem state_eq (acc : Carry F) : ∀ n : ℕ, n ≤ (k0_t1_loop i v9).trips →
    st_k0_t1 (F := F)
      𝒱 c bd i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 v4 v9
      k0_hw1 v12 v51 v52 v64 v68 X_arg4 X_arg7 X_arg10 X_arg11 acc n
      = loopState i v9 v4 v51 v52 (View.ld (View.read (Elt F) arg4.view X_arg4) wholeW) (View.ld (View.read (Elt F) arg7.view X_arg7) wholeW) (View.read (Elt F) arg10.view X_arg10) (View.read (Elt F) arg11.view X_arg11) acc n
  | 0, _ => rfl
  | n + 1, h => by
    have ih := state_eq acc n (Nat.le_of_succ_le h)
    have e := st_k0_t1_succ (F := F)
      𝒱 c bd i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 v4 v9
      k0_hw1 v12 v51 v52 v64 v68 X_arg4 X_arg7 X_arg10 X_arg11 acc ⟨n, h⟩
    rw [tripR_eq, tripL_ctx, tripL_out, ih] at e
    rw [e, loopState, dif_pos (Nat.lt_of_succ_le h)]

/-- At its end. -/
theorem state_end (acc : Carry F) :
    st_k0_t1 (F := F)
      𝒱 c bd i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 v4 v9
      k0_hw1 v12 v51 v52 v64 v68 X_arg4 X_arg7 X_arg10 X_arg11 acc (Scf.trips (k0_t1_loop i v9).lb (k0_t1_loop i v9).ub (k0_t1_loop i v9).st)
      = loopState i v9 v4 v51 v52 (View.ld (View.read (Elt F) arg4.view X_arg4) wholeW) (View.ld (View.read (Elt F) arg7.view X_arg7) wholeW) (View.read (Elt F) arg10.view X_arg10) (View.read (Elt F) arg11.view X_arg11) acc (k0_t1_loop i v9).trips :=
  state_eq
      𝒱 c bd i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 v4 v9
      k0_hw1 v12 v51 v52 v64 v68 X_arg4 X_arg7 X_arg10 X_arg11 acc _ le_rfl

end Generated

end Cert.KernelIdeal.Runs
end
-- ==== Proof.LstmBody.lean ====
/- The recurrent call's body at one grid point: its first part (initial state, lengths, layer 0's gate products), its
second part (layer 1's gate products, the cleared context rows, the loop, the carried state), and the whole triple with
every buffer's contents after it as a function of those before. Stated at any float carrier. -/
module

public import proofs.«01_k».proof.Proof.LstmTrip
public import proofs.«01_k».proof.Proof.Gen.KernelIdeal.Launch
public import proofs.«01_k».proof.Proof.Gen.KernelIdeal.Points
public import Idealize.ShloMosaic.Lib.Pipeline.Value
import Idealize.ShloMosaic.Lib.VecWindow
public import Idealize.ShloMosaic.Lib.Tactic

@[expose] public section

set_option maxRecDepth 16384

noncomputable section

namespace Cert.KernelIdeal.Runs

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## Stores over given values -/

/-- The values after the stores `L` (last first) over `X`. -/
def over {Val : EltTy → Type} {s : Shape} {e : EltTy} (X : s.Idx → Val e) : List (View.Piece Val s e) → s.Idx → Val e
  | [] => X
  | p :: L => p.1.overlay (over X L) p.2

theorem read_over {Val : EltTy → Type} {κ : Kind} {sp : Space} {s : Shape} {e : EltTy} (v : View sig κ sp s e)
    (f : v.ty.Contents Val) : ∀ L : List (View.Piece Val s e), v.read Val (v.writes Val f L) = over (v.read Val f) L
  | [] => rfl
  | p :: L => by
    funext y
    by_cases hy : y ∈ p.1.set
    · obtain ⟨x, rfl⟩ : ∃ x, p.1.emb x = y := p.1.exists_idx_of_mem hy
      exact (View.read_writes_cons_emb v f p.1 p.2 L x).trans (p.1.overlay_emb _ _ x).symm
    · exact (View.read_writes_cons_miss v f p L y hy).trans
        ((congrFun (read_over v f L) y).trans (p.1.overlay_of_not_mem _ _ hy).symm)

/-! ## The first part -/

/-- The accesses of the buffers read whole. -/
abbrev wholeLen : Rect S16x1 := Rect.unit (s := S16x1) ![0, 0] S16x1.size inb_S16x1_S16x1_0_0
abbrev wholeX : Rect S64x16x256 := Rect.unit (s := S64x16x256) ![0, 0, 0] S64x16x256.size inb_S64x16x256_S64x16x256_0_0_0
abbrev wholeB : Rect S1x1024 := Rect.unit (s := S1x1024) ![0, 0] S1x1024.size inb_S1x1024_S1x1024_0_0
abbrev wholeS : Rect S16x256 := Rect.unit (s := S16x256) ![0, 0] S16x256.size inb_S16x256_S16x256_0_0

/-- The greatest length, as a word. -/
def lenWord (x1 : Vec F S16x1 .f32) : BitVec 32 := Scalar.fptosi 32 (k0_pay572 (View.ld x1 wholeLen))

/-- The first grid point, which sets the state to zero. -/
def First (i : grid0.Coords) : Prop :=
  Scalar.cmpi .ne (Scalar.extui (Scalar.cmpi .eq (BitVec.ofNat 32 (i 0).val) 0#32) : BitVec 32) 0#32 = 1#1

/-- The points that compute layer 0's gate products: those before the last with a step to do. -/
def Prep (i : grid0.Coords) (v9 : BitVec 32) : Prop :=
  Scalar.cmpi .ne (Scalar.extui (Scalar.andi (Scalar.cmpi .slt (BitVec.ofNat 32 (i 0).val) 8#32)
    (Scalar.cmpi .sgt (Scalar.minsi 64#32 (Scalar.maxsi 0#32
      (Scalar.subi v9 (Scalar.muli (BitVec.ofNat 32 (i 0).val) 64#32)))) 0#32)) : BitVec 32) 0#32 = 1#1

instance (i : grid0.Coords) : Decidable (First i) := inferInstanceAs (Decidable (_ = _))
instance (i : grid0.Coords) (v9 : BitVec 32) : Decidable (Prep i v9) := inferInstanceAs (Decidable (_ = _))

/-- The state the loop starts from, -/
def startState (i : grid0.Coords) (a : Carry F) : Carry F :=
  if First i then (k0_pay566, k0_pay567, k0_pay568, k0_pay569) else a

/-- layer 0's kept output there, -/
def startOut (i : grid0.Coords) (o : Vec F S2048x256 .bf16) : Vec F S2048x256 .bf16 := if First i then k0_pay570 else o

/-- and layer 0's gate products. -/
def startGate (i : grid0.Coords) (x1 : Vec F S16x1 .f32) (x2 : Vec F S64x16x256 .f32) (x3 : Vec F S256x1024 .f32)
    (x5 : Vec F S1x1024 .f32) (g : Vec F S1024x1024 .bf16) : Vec F S1024x1024 .bf16 :=
  if Prep i (lenWord x1) then k0_pay573 (View.ld x2 wholeX) (View.ld x3 wholeW) (View.ld x5 wholeB) else g

/-- What the first part hands on, -/
abbrev HeadResult (F : FTy → Type) [FloatOps F] (i : grid0.Coords) : Type :=
  Σ' (arg0 : BitVec 32) (v4 : FVec F S16x1 .f32) (v9 : BitVec 32) (k0_hw1 : k0_chk1 i v9) (v10 : BitVec 32)
    (v12 : BitVec 32), BitVec 32

/-- and its value, from the lengths (the last word is not used again). -/
def headResult (i : grid0.Coords) (x1 : Vec F S16x1 .f32) (v33 : BitVec 32) : HeadResult F i :=
  ⟨BitVec.ofNat 32 (i 0).val, k0_pay571 (View.ld x1 wholeLen), lenWord x1, assumed i (lenWord x1),
    Scalar.muli (BitVec.ofNat 32 (i 0).val) 64#32,
    Scalar.muli (Scalar.subi (BitVec.ofNat 32 (i 0).val) 1#32) 64#32, v33⟩

set_option maxHeartbeats 600000 in
/-- The first part's triple. -/
theorem head_triple (c : Dev nD) (E : Set ℕ) (i : grid0.Coords)
    (arg1 : Memref sig .tc .vmem S16x1 .f32) (harg1 : arg1.IsWhole)
    (arg2 : Memref sig .tc .vmem S64x16x256 .f32) (harg2 : arg2.IsWhole)
    (arg3 : Memref sig .tc .vmem S256x1024 .f32) (harg3 : arg3.IsWhole)
    (arg4 : Memref sig .tc .vmem S256x1024 .bf16) (harg4 : arg4.IsWhole)
    (arg5 : Memref sig .tc .vmem S1x1024 .f32) (harg5 : arg5.IsWhole)
    (arg6 : Memref sig .tc .vmem S256x1024 .bf16) (harg6 : arg6.IsWhole)
    (arg7 : Memref sig .tc .vmem S256x1024 .bf16) (harg7 : arg7.IsWhole)
    (arg8 : Memref sig .tc .vmem S1x1024 .f32) (harg8 : arg8.IsWhole)
    (arg9 : Memref sig .tc .vmem S512x16x256 .f32) (harg9 : arg9.IsWhole)
    (arg10 : Memref sig .tc .vmem S1024x1024 .bf16) (harg10 : arg10.IsWhole)
    (arg11 : Memref sig .tc .vmem S1024x1024 .bf16) (harg11 : arg11.IsWhole)
    (arg12 : Memref sig .tc .vmem S2048x256 .bf16) (harg12 : arg12.IsWhole)
    (arg13 : Memref sig .tc .vmem S16x256 .f32) (harg13 : arg13.IsWhole)
    (arg14 : Memref sig .tc .vmem S16x256 .f32) (harg14 : arg14.IsWhole)
    (arg15 : Memref sig .tc .vmem S16x256 .f32) (harg15 : arg15.IsWhole)
    (arg16 : Memref sig .tc .vmem S16x256 .f32) (harg16 : arg16.IsWhole)
    (x1 : Vec F S16x1 .f32) (x2 : Vec F S64x16x256 .f32) (x3 : Vec F S256x1024 .f32) (x5 : Vec F S1x1024 .f32)
    (g : Vec F S1024x1024 .bf16) (o : Vec F S2048x256 .bf16) (a : Carry F)
    (K : HeadResult F i → sProp 𝕄) :
    iprop(owns (c : Thread nD τ) arg1 fullShare x1 ∗ owns (c : Thread nD τ) arg2 fullShare x2
        ∗ owns (c : Thread nD τ) arg3 fullShare x3 ∗ owns (c : Thread nD τ) arg5 fullShare x5
        ∗ owns (c : Thread nD τ) arg10 fullShare g ∗ owns (c : Thread nD τ) arg12 fullShare o
        ∗ owns (c : Thread nD τ) arg13 fullShare a.1 ∗ owns (c : Thread nD τ) arg14 fullShare a.2.1
        ∗ owns (c : Thread nD τ) arg15 fullShare a.2.2.1 ∗ owns (c : Thread nD τ) arg16 fullShare a.2.2.2
        ∗ (∀ r, iprop(⌜∃ v33 : BitVec 32, r = headResult i x1 v33⌝ ∗ owns (c : Thread nD τ) arg1 fullShare x1 ∗ owns (c : Thread nD τ) arg2 fullShare x2
            ∗ owns (c : Thread nD τ) arg3 fullShare x3 ∗ owns (c : Thread nD τ) arg5 fullShare x5
            ∗ owns (c : Thread nD τ) arg10 fullShare (startGate i x1 x2 x3 x5 g)
            ∗ owns (c : Thread nD τ) arg12 fullShare (startOut i o)
            ∗ owns (c : Thread nD τ) arg13 fullShare (startState i a).1
            ∗ owns (c : Thread nD τ) arg14 fullShare (startState i a).2.1
            ∗ owns (c : Thread nD τ) arg15 fullShare (startState i a).2.2.1
            ∗ owns (c : Thread nD τ) arg16 fullShare (startState i a).2.2.2)
          -∗ K r))
      ⊢ wp frame (wpE (defs₀ (F := F)) Variants.none c none) E
          (k0_part69 i arg1 harg1 arg2 harg2 arg3 harg3 arg4 harg4 arg5 harg5 arg6 harg6 arg7 harg7 arg8 harg8 arg9 harg9
            arg10 harg10 arg11 harg11 arg12 harg12 arg13 harg13 arg14 harg14 arg15 harg15 arg16 harg16) K := by
  simp only [k0_part69_eq_skeleton]; unfold k0_part69_skel
  have hchk := fun v9 => assumed i v9
  by_cases h1 : First i <;> by_cases h2 : Prep i (lenWord x1) <;>
  · simp only [startGate, startOut, startState, h1, h2, if_true, if_false]
    unfold First at h1
    unfold Prep lenWord at h2
    unfold owns
    iintro ⟨⟨%f1, %e1, H1⟩, ⟨%f2, %e2, H2⟩, ⟨%f3, %e3, H3⟩, ⟨%f5, %e5, H5⟩, ⟨%f10, %e10, H10⟩, ⟨%f12, %e12, H12⟩,
      ⟨%f13, %e13, H13⟩, ⟨%f14, %e14, H14⟩, ⟨%f15, %e15, H15⟩, ⟨%f16, %e16, H16⟩, Hk⟩
    subst e1 e2 e3 e5
    sl_exec
    sl_step
    iapply Hk
    isplitr
    · ipureintro; exact ⟨_, rfl⟩
    isplitl [H1]
    · iexists _; isplitr
      swap; · iexact H1
      ipureintro
      first | with_reducible rfl | with_reducible assumption | exact View.read_writes_full _ _ _ _ _
    isplitl [H2]
    · iexists _; isplitr
      swap; · iexact H2
      ipureintro
      first | with_reducible rfl | with_reducible assumption | exact View.read_writes_full _ _ _ _ _
    isplitl [H3]
    · iexists _; isplitr
      swap; · iexact H3
      ipureintro
      first | with_reducible rfl | with_reducible assumption | exact View.read_writes_full _ _ _ _ _
    isplitl [H5]
    · iexists _; isplitr
      swap; · iexact H5
      ipureintro
      first | with_reducible rfl | with_reducible assumption | exact View.read_writes_full _ _ _ _ _
    isplitl [H10]
    · iexists _; isplitr
      swap; · iexact H10
      ipureintro
      first | with_reducible rfl | with_reducible assumption | exact View.read_writes_full _ _ _ _ _
    isplitl [H12]
    · iexists _; isplitr
      swap; · iexact H12
      ipureintro
      first | with_reducible rfl | with_reducible assumption | exact View.read_writes_full _ _ _ _ _
    isplitl [H13]
    · iexists _; isplitr
      swap; · iexact H13
      ipureintro
      first | with_reducible rfl | with_reducible assumption | exact View.read_writes_full _ _ _ _ _
    isplitl [H14]
    · iexists _; isplitr
      swap; · iexact H14
      ipureintro
      first | with_reducible rfl | with_reducible assumption | exact View.read_writes_full _ _ _ _ _
    isplitl [H15]
    · iexists _; isplitr
      swap; · iexact H15
      ipureintro
      first | with_reducible rfl | with_reducible assumption | exact View.read_writes_full _ _ _ _ _
    iexists _; isplitr
    swap; · iexact H16
    ipureintro
    first | with_reducible rfl | with_reducible assumption | exact View.read_writes_full _ _ _ _ _

/-! ## The whole body -/

/-- The half of layer 0's kept output that layer 1 reads at this point, -/
abbrev lateRect (i : grid0.Coords) : Rect S2048x256 := Rect.unit (s := S2048x256) (k0_off1 i) S1024x256.size (k0_off1_inb i)

/-- the context rows cleared there, -/
abbrev clearRect (i : grid0.Coords) : Rect S512x16x256 := Rect.unit (s := S512x16x256) (k0_off2 i) S64x16x256.size (k0_off2_inb i)

/-- layer 1's gate products, from layer 0's kept output, -/
def lateGate (i : grid0.Coords) (x6 : Vec F S256x1024 .bf16) (x8 : Vec F S1x1024 .f32) (o : Vec F S2048x256 .bf16) :
    Vec F S1024x1024 .bf16 :=
  k0_pay574 (View.ld o (lateRect i)) (View.ld x6 wholeW) (View.ld x8 wholeB)

/-- the lengths as the body uses them, -/
def lensOf (x1 : Vec F S16x1 .f32) : FVec F S16x1 .f32 := k0_pay571 (View.ld x1 wholeLen)

/-- and the first time of the point's block for each layer. -/
def base0 (i : grid0.Coords) : F .f32 := k0_pay576 (Scalar.muli (BitVec.ofNat 32 (i 0).val) 64#32)
def base1 (i : grid0.Coords) : F .f32 := k0_pay577 (Scalar.muli (Scalar.subi (BitVec.ofNat 32 (i 0).val) 1#32) 64#32)

section After
variable (i : grid0.Coords) (x1 : Vec F S16x1 .f32) (x2 : Vec F S64x16x256 .f32) (x3 : Vec F S256x1024 .f32)
  (x4 : Vec F S256x1024 .bf16) (x5 : Vec F S1x1024 .f32) (x6 x7 : Vec F S256x1024 .bf16) (x8 : Vec F S1x1024 .f32)
  (g : Vec F S1024x1024 .bf16) (o : Vec F S2048x256 .bf16) (a : Carry F)

/-- The state and the stores after the loop. -/
def loopEnd : Carry F × List (View.Piece (Elt F) S512x16x256 .f32) × List (View.Piece (Elt F) S2048x256 .bf16) :=
  loopState i (lenWord x1) (lensOf x1) (base0 i) (base1 i) (View.ld x4 wholeW) (View.ld x7 wholeW)
    (startGate i x1 x2 x3 x5 g) (lateGate i x6 x8 (startOut i o)) (startState i a) (k0_t1_loop i (lenWord x1)).trips

/-- The context after the body, -/
def ctxAfter (x9 : Vec F S512x16x256 .f32) : Vec F S512x16x256 .f32 :=
  over (over x9 [⟨clearRect i, k0_pay575⟩]) (loopEnd i x1 x2 x3 x4 x5 x6 x7 x8 g o a).2.1

/-- layer 0's kept output, -/
def outAfter : Vec F S2048x256 .bf16 := over (startOut i o) (loopEnd i x1 x2 x3 x4 x5 x6 x7 x8 g o a).2.2

/-- and the state. -/
def stateAfter : Carry F := (loopEnd i x1 x2 x3 x4 x5 x6 x7 x8 g o a).1

end After

/-- What the second part hands on. -/
abbrev MidResult (F : FTy → Type) [FloatOps F] : Type := Σ' (v51 : F .f32) (v52 : F .f32) (v64 : BitVec 32), BitVec 32

set_option maxHeartbeats 1000000 in
/-- The second part's triple: layer 1's gate products and the cleared context rows. -/
theorem mid_triple (c : Dev nD) (E : Set ℕ) (i : grid0.Coords)
    (arg1 : Memref sig .tc .vmem S16x1 .f32) (harg1 : arg1.IsWhole)
    (arg2 : Memref sig .tc .vmem S64x16x256 .f32) (harg2 : arg2.IsWhole)
    (arg3 : Memref sig .tc .vmem S256x1024 .f32) (harg3 : arg3.IsWhole)
    (arg4 : Memref sig .tc .vmem S256x1024 .bf16) (harg4 : arg4.IsWhole)
    (arg5 : Memref sig .tc .vmem S1x1024 .f32) (harg5 : arg5.IsWhole)
    (arg6 : Memref sig .tc .vmem S256x1024 .bf16) (harg6 : arg6.IsWhole)
    (arg7 : Memref sig .tc .vmem S256x1024 .bf16) (harg7 : arg7.IsWhole)
    (arg8 : Memref sig .tc .vmem S1x1024 .f32) (harg8 : arg8.IsWhole)
    (arg9 : Memref sig .tc .vmem S512x16x256 .f32) (harg9 : arg9.IsWhole)
    (arg10 : Memref sig .tc .vmem S1024x1024 .bf16) (harg10 : arg10.IsWhole)
    (arg11 : Memref sig .tc .vmem S1024x1024 .bf16) (harg11 : arg11.IsWhole)
    (arg12 : Memref sig .tc .vmem S2048x256 .bf16) (harg12 : arg12.IsWhole)
    (arg13 : Memref sig .tc .vmem S16x256 .f32) (harg13 : arg13.IsWhole)
    (arg14 : Memref sig .tc .vmem S16x256 .f32) (harg14 : arg14.IsWhole)
    (arg15 : Memref sig .tc .vmem S16x256 .f32) (harg15 : arg15.IsWhole)
    (arg16 : Memref sig .tc .vmem S16x256 .f32) (harg16 : arg16.IsWhole)
    (arg0 v9 v10 v12 v33 : BitVec 32)
    (x6 : Vec F S256x1024 .bf16) (x8 : Vec F S1x1024 .f32) (x9 : Vec F S512x16x256 .f32) (o : Vec F S2048x256 .bf16)
    (K : MidResult F → sProp 𝕄) :
    iprop(owns (c : Thread nD τ) arg6 fullShare x6 ∗ owns (c : Thread nD τ) arg8 fullShare x8
        ∗ owns (c : Thread nD τ) arg9 fullShare x9 ∗ (∃ d, owns (c : Thread nD τ) arg11 fullShare d)
        ∗ owns (c : Thread nD τ) arg12 fullShare o
        ∗ (∀ r, iprop(⌜∃ v64 v68 : BitVec 32, r = (⟨k0_pay576 v10, k0_pay577 v12, v64, v68⟩ : MidResult F)⌝
            ∗ owns (c : Thread nD τ) arg6 fullShare x6 ∗ owns (c : Thread nD τ) arg8 fullShare x8
            ∗ owns (c : Thread nD τ) arg9 fullShare (over x9 [⟨clearRect i, k0_pay575⟩])
            ∗ owns (c : Thread nD τ) arg11 fullShare (lateGate i x6 x8 o)
            ∗ owns (c : Thread nD τ) arg12 fullShare o) -∗ K r))
      ⊢ wp frame (wpE (defs₀ (F := F)) Variants.none c none) E
          (k0_part70 i arg1 harg1 arg2 harg2 arg3 harg3 arg4 harg4 arg5 harg5 arg6 harg6 arg7 harg7 arg8 harg8 arg9 harg9
            arg10 harg10 arg11 harg11 arg12 harg12 arg13 harg13 arg14 harg14 arg15 harg15 arg16 harg16 arg0 v9 v10 v12 v33) K := by
  simp only [k0_part70_eq_skeleton]; unfold k0_part70_skel
  unfold owns
  iintro ⟨⟨%f6, %e6, H6⟩, ⟨%f8, %e8, H8⟩, ⟨%f9, %e9, H9⟩, ⟨%d11, %f11, -, H11⟩, ⟨%f12, %e12, H12⟩, Hk⟩
  subst e6 e8 e9 e12
  sl_exec
  sl_step
  iapply Hk
  isplitr
  · ipureintro; exact ⟨_, _, rfl⟩
  isplitl [H6]
  · iexists _; isplitr
    swap; · iexact H6
    ipureintro
    first | with_reducible rfl | with_reducible assumption | exact View.read_writes_full _ _ _ _ _
  isplitl [H8]
  · iexists _; isplitr
    swap; · iexact H8
    ipureintro
    first | with_reducible rfl | with_reducible assumption | exact View.read_writes_full _ _ _ _ _
  isplitl [H9]
  · iexists _; isplitr
    swap; · iexact H9
    ipureintro
    exact read_over _ _ _
  isplitl [H11]
  · iexists _; isplitr
    swap; · iexact H11
    ipureintro
    first | with_reducible rfl | with_reducible assumption | exact View.read_writes_full _ _ _ _ _
  iexists _; isplitr
  swap; · iexact H12
  ipureintro
  first | with_reducible rfl | with_reducible assumption | exact View.read_writes_full _ _ _ _ _

/-- The loop and its result on values. -/
abbrev LoopResult (F : FTy → Type) [FloatOps F] : Type :=
  Σ' (v100_1 : Vec F S16x256 .f32) (v100_2 : Vec F S16x256 .f32) (v100_3 : Vec F S16x256 .f32), FVec F S16x256 .f32

set_option maxHeartbeats 1000000 in
/-- The third part's triple: the loop over the groups of sixteen steps; the remainder loop makes no trip. -/
theorem loop_triple (c : Dev nD) (E : Set ℕ) (i : grid0.Coords)
    (arg1 : Memref sig .tc .vmem S16x1 .f32) (harg1 : arg1.IsWhole)
    (arg2 : Memref sig .tc .vmem S64x16x256 .f32) (harg2 : arg2.IsWhole)
    (arg3 : Memref sig .tc .vmem S256x1024 .f32) (harg3 : arg3.IsWhole)
    (arg4 : Memref sig .tc .vmem S256x1024 .bf16) (harg4 : arg4.IsWhole)
    (arg5 : Memref sig .tc .vmem S1x1024 .f32) (harg5 : arg5.IsWhole)
    (arg6 : Memref sig .tc .vmem S256x1024 .bf16) (harg6 : arg6.IsWhole)
    (arg7 : Memref sig .tc .vmem S256x1024 .bf16) (harg7 : arg7.IsWhole)
    (arg8 : Memref sig .tc .vmem S1x1024 .f32) (harg8 : arg8.IsWhole)
    (arg9 : Memref sig .tc .vmem S512x16x256 .f32) (harg9 : arg9.IsWhole)
    (arg10 : Memref sig .tc .vmem S1024x1024 .bf16) (harg10 : arg10.IsWhole)
    (arg11 : Memref sig .tc .vmem S1024x1024 .bf16) (harg11 : arg11.IsWhole)
    (arg12 : Memref sig .tc .vmem S2048x256 .bf16) (harg12 : arg12.IsWhole)
    (arg13 : Memref sig .tc .vmem S16x256 .f32) (harg13 : arg13.IsWhole)
    (arg14 : Memref sig .tc .vmem S16x256 .f32) (harg14 : arg14.IsWhole)
    (arg15 : Memref sig .tc .vmem S16x256 .f32) (harg15 : arg15.IsWhole)
    (arg16 : Memref sig .tc .vmem S16x256 .f32) (harg16 : arg16.IsWhole)
    (v4 : FVec F S16x1 .f32) (v9 : BitVec 32) (k0_hw1 : k0_chk1 i v9) (v12 : BitVec 32) (v51 v52 : F .f32) (v64 v68 : BitVec 32)
    (x4 x7 : Vec F S256x1024 .bf16) (x9 : Vec F S512x16x256 .f32) (g g' : Vec F S1024x1024 .bf16) (o : Vec F S2048x256 .bf16)
    (a13 a14 a15 a16 : Vec F S16x256 .f32) (K : LoopResult F → sProp 𝕄) (S)
    (hS : S = loopState i v9 v4 v51 v52 (View.ld x4 wholeW) (View.ld x7 wholeW) g g' (a13, a14, a15, a16) (k0_t1_loop i v9).trips) :
    iprop(owns (c : Thread nD τ) arg4 fullShare x4 ∗ owns (c : Thread nD τ) arg7 fullShare x7
        ∗ owns (c : Thread nD τ) arg9 fullShare x9 ∗ owns (c : Thread nD τ) arg10 fullShare g
        ∗ owns (c : Thread nD τ) arg11 fullShare g' ∗ owns (c : Thread nD τ) arg12 fullShare o
        ∗ owns (c : Thread nD τ) arg13 fullShare a13 ∗ owns (c : Thread nD τ) arg14 fullShare a14
        ∗ owns (c : Thread nD τ) arg15 fullShare a15 ∗ owns (c : Thread nD τ) arg16 fullShare a16
        ∗ (∀ r, iprop(⌜r = (⟨S.1.2.1, S.1.2.2.1, S.1.2.2.2, k0_pay584 S.1.1⟩ : LoopResult F)⌝
            ∗ owns (c : Thread nD τ) arg4 fullShare x4 ∗ owns (c : Thread nD τ) arg7 fullShare x7
            ∗ owns (c : Thread nD τ) arg9 fullShare (over x9 S.2.1) ∗ owns (c : Thread nD τ) arg10 fullShare g
            ∗ owns (c : Thread nD τ) arg11 fullShare g' ∗ owns (c : Thread nD τ) arg12 fullShare (over o S.2.2)
            ∗ owns (c : Thread nD τ) arg13 fullShare a13 ∗ owns (c : Thread nD τ) arg14 fullShare a14
            ∗ owns (c : Thread nD τ) arg15 fullShare a15 ∗ owns (c : Thread nD τ) arg16 fullShare a16) -∗ K r))
      ⊢ wp frame (wpE (defs₀ (F := F)) Variants.none c none) E
          (k0_part71 i arg1 harg1 arg2 harg2 arg3 harg3 arg4 harg4 arg5 harg5 arg6 harg6 arg7 harg7 arg8 harg8 arg9 harg9
            arg10 harg10 arg11 harg11 arg12 harg12 arg13 harg13 arg14 harg14 arg15 harg15 arg16 harg16 v4 v9 k0_hw1 v12 v51 v52 v64 v68) K := by
  simp only [k0_part71_eq_skeleton]; unfold k0_part71_skel
  have hno : (k0_t2_loop i v9).trips = 0 := loop2_trips i v9
  unfold owns
  iintro ⟨⟨%f4, %e4, H4⟩, ⟨%f7, %e7, H7⟩, ⟨%f9, %e9, H9⟩, ⟨%f10, %e10, H10⟩, ⟨%f11, %e11, H11⟩, ⟨%f12, %e12, H12⟩,
    ⟨%f13, %e13, H13⟩, ⟨%f14, %e14, H14⟩, ⟨%f15, %e15, H15⟩, ⟨%f16, %e16, H16⟩, Hk⟩
  subst e4 e7 e9 e10 e11 e12 e13 e14 e15 e16
  sl_exec
  have t2 : Scf.trips (k0_t2_loop i v9).lb (k0_t2_loop i v9).ub (k0_t2_loop i v9).st = 0 := hno
  rw [t2, st_k0_t2.eq_1, state_end]
  dsimp only
  rw [View.readAt_full, View.readAt_full, View.readAt_full, View.readAt_full]
  rw [← hS]
  sl_step
  iapply Hk
  isplitr
  · ipureintro; rfl
  isplitl [H4]
  · iexists _; isplitr
    swap; · iexact H4
    ipureintro
    rfl
  isplitl [H7]
  · iexists _; isplitr
    swap; · iexact H7
    ipureintro
    rfl
  isplitl [H9]
  · iexists _; isplitr
    swap; · iexact H9
    ipureintro
    exact read_over _ _ _
  isplitl [H10]
  · iexists _; isplitr
    swap; · iexact H10
    ipureintro
    rfl
  isplitl [H11]
  · iexists _; isplitr
    swap; · iexact H11
    ipureintro
    rfl
  isplitl [H12]
  · iexists _; isplitr
    swap; · iexact H12
    ipureintro
    exact read_over _ _ _
  isplitl [H13]
  · iexists _; isplitr
    swap; · iexact H13
    ipureintro
    rfl
  isplitl [H14]
  · iexists _; isplitr
    swap; · iexact H14
    ipureintro
    rfl
  isplitl [H15]
  · iexists _; isplitr
    swap; · iexact H15
    ipureintro
    rfl
  iexists _; isplitr
  swap; · iexact H16
  ipureintro
  rfl

theorem cast_state (x : Vec F S16x256 .f32) : shapeCast S16x256 x shapeCasts_S16x256_S16x256 = x := Idealize.ShloMosaic.shapeCast_self _ _

set_option maxHeartbeats 1000000 in
/-- The body's triple. -/
theorem lstm_triple (c : Dev nD) (E : Set ℕ) (i : grid0.Coords)
    (arg1 : Memref sig .tc .vmem S16x1 .f32) (harg1 : arg1.IsWhole)
    (arg2 : Memref sig .tc .vmem S64x16x256 .f32) (harg2 : arg2.IsWhole)
    (arg3 : Memref sig .tc .vmem S256x1024 .f32) (harg3 : arg3.IsWhole)
    (arg4 : Memref sig .tc .vmem S256x1024 .bf16) (harg4 : arg4.IsWhole)
    (arg5 : Memref sig .tc .vmem S1x1024 .f32) (harg5 : arg5.IsWhole)
    (arg6 : Memref sig .tc .vmem S256x1024 .bf16) (harg6 : arg6.IsWhole)
    (arg7 : Memref sig .tc .vmem S256x1024 .bf16) (harg7 : arg7.IsWhole)
    (arg8 : Memref sig .tc .vmem S1x1024 .f32) (harg8 : arg8.IsWhole)
    (arg9 : Memref sig .tc .vmem S512x16x256 .f32) (harg9 : arg9.IsWhole)
    (arg10 : Memref sig .tc .vmem S1024x1024 .bf16) (harg10 : arg10.IsWhole)
    (arg11 : Memref sig .tc .vmem S1024x1024 .bf16) (harg11 : arg11.IsWhole)
    (arg12 : Memref sig .tc .vmem S2048x256 .bf16) (harg12 : arg12.IsWhole)
    (arg13 : Memref sig .tc .vmem S16x256 .f32) (harg13 : arg13.IsWhole)
    (arg14 : Memref sig .tc .vmem S16x256 .f32) (harg14 : arg14.IsWhole)
    (arg15 : Memref sig .tc .vmem S16x256 .f32) (harg15 : arg15.IsWhole)
    (arg16 : Memref sig .tc .vmem S16x256 .f32) (harg16 : arg16.IsWhole)
    (x1 : Vec F S16x1 .f32) (x2 : Vec F S64x16x256 .f32) (x3 : Vec F S256x1024 .f32) (x4 : Vec F S256x1024 .bf16)
    (x5 : Vec F S1x1024 .f32) (x6 x7 : Vec F S256x1024 .bf16) (x8 : Vec F S1x1024 .f32) (x9 : Vec F S512x16x256 .f32)
    (g : Vec F S1024x1024 .bf16) (o : Vec F S2048x256 .bf16) (a : Carry F) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare g
        ∗ (∃ d, owns (c : Thread nD τ) arg11 fullShare d)
        ∗ owns (c : Thread nD τ) arg12 fullShare o
        ∗ owns (c : Thread nD τ) arg13 fullShare a.1
        ∗ owns (c : Thread nD τ) arg14 fullShare a.2.1
        ∗ owns (c : Thread nD τ) arg15 fullShare a.2.2.1
        ∗ owns (c : Thread nD τ) arg16 fullShare a.2.2.2
        ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare (ctxAfter i x1 x2 x3 x4 x5 x6 x7 x8 g o a x9)
            ∗ owns (c : Thread nD τ) arg10 fullShare (startGate i x1 x2 x3 x5 g)
            ∗ (∃ d, owns (c : Thread nD τ) arg11 fullShare d)
            ∗ owns (c : Thread nD τ) arg12 fullShare (outAfter i x1 x2 x3 x4 x5 x6 x7 x8 g o a)
            ∗ owns (c : Thread nD τ) arg13 fullShare (stateAfter i x1 x2 x3 x4 x5 x6 x7 x8 g o a).1
            ∗ owns (c : Thread nD τ) arg14 fullShare (stateAfter i x1 x2 x3 x4 x5 x6 x7 x8 g o a).2.1
            ∗ owns (c : Thread nD τ) arg15 fullShare (stateAfter i x1 x2 x3 x4 x5 x6 x7 x8 g o a).2.2.1
            ∗ owns (c : Thread nD τ) arg16 fullShare (stateAfter i x1 x2 x3 x4 x5 x6 x7 x8 g o a).2.2.2) -∗ K ⟨⟩))
      ⊢ wp frame (wpE (defs₀ (F := F)) Variants.none c none) E
          (cc0__lstm_body i arg1 harg1 arg2 harg2 arg3 harg3 arg4 harg4 arg5 harg5 arg6 harg6 arg7 harg7 arg8 harg8 arg9 harg9
            arg10 harg10 arg11 harg11 arg12 harg12 arg13 harg13 arg14 harg14 arg15 harg15 arg16 harg16) K := by
  simp only [cc0__lstm_body_eq_skeleton]; unfold cc0__lstm_body_skel
  rw [wp_bind]
  iintro ⟨H1, H2, H3, H4, H5, H6, H7, H8, H9, H10, ⟨%d11, H11⟩, H12, H13, H14, H15, H16, Hk⟩
  iapply (head_triple c E i arg1 harg1 arg2 harg2 arg3 harg3 arg4 harg4 arg5 harg5 arg6 harg6 arg7 harg7 arg8 harg8 arg9 harg9
            arg10 harg10 arg11 harg11 arg12 harg12 arg13 harg13 arg14 harg14 arg15 harg15 arg16 harg16 x1 x2 x3 x5 g o a)
  isplitl [H1]; · iexact H1
  isplitl [H2]; · iexact H2
  isplitl [H3]; · iexact H3
  isplitl [H5]; · iexact H5
  isplitl [H10]; · iexact H10
  isplitl [H12]; · iexact H12
  isplitl [H13]; · iexact H13
  isplitl [H14]; · iexact H14
  isplitl [H15]; · iexact H15
  isplitl [H16]; · iexact H16
  iintro %r ⟨%hr, H1, H2, H3, H5, H10, H12, H13, H14, H15, H16⟩
  obtain ⟨v33, rfl⟩ := hr
  unfold headResult
  dsimp only
  rw [wp_bind]
  iapply (mid_triple c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ x6 x8 x9 (startOut i o))
  isplitl [H6]; · iexact H6
  isplitl [H8]; · iexact H8
  isplitl [H9]; · iexact H9
  isplitl [H11]; · iexists _; iexact H11
  isplitl [H12]; · iexact H12
  iintro %r ⟨%hr, H6, H8, H9, H11, H12⟩
  obtain ⟨v64, v68, rfl⟩ := hr
  dsimp only
  rw [wp_bind]
  iapply (loop_triple c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _
    x4 x7 _ _ _ _ _ _ _ _ _ (loopEnd i x1 x2 x3 x4 x5 x6 x7 x8 g o a) rfl)
  isplitl [H4]; · iexact H4
  isplitl [H7]; · iexact H7
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro %r ⟨%hr, H4, H7, H9, H10, H11, H12, H13, H14, H15, H16⟩
  subst hr
  dsimp only
  unfold owns
  icases H13 with ⟨%f13, %e13, H13⟩
  icases H14 with ⟨%f14, %e14, H14⟩
  icases H15 with ⟨%f15, %e15, H15⟩
  icases H16 with ⟨%f16, %e16, H16⟩
  sl_exec
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexact H12
  isplitl [H13]
  · iexists _; isplitr
    swap; · iexact H13
    ipureintro
    exact (View.read_writes_full _ _ _ _ _).trans (cast_state _)
  isplitl [H14]
  · iexists _; isplitr
    swap; · iexact H14
    ipureintro
    exact (View.read_writes_full _ _ _ _ _).trans (cast_state _)
  isplitl [H15]
  · iexists _; isplitr
    swap; · iexact H15
    ipureintro
    exact (View.read_writes_full _ _ _ _ _).trans (cast_state _)
  iexists _; isplitr
  swap; · iexact H16
  ipureintro
  exact (View.read_writes_full _ _ _ _ _).trans (cast_state _)

end Cert.KernelIdeal.Runs
end
-- ==== Proof.LstmModel.lean ====
/- The recurrent call from point to point: the context, layer 0's gate products, layer 0's kept output and the state
after each grid point, as a recursion over the points; and that what the buffers held before the first point does not
matter: the state is set to zero there, gate products are used at a point only if they were computed at that point or
the one before, and a context row is either cleared at its point or kept from before. -/
module

public import proofs.«01_k».proof.Proof.LstmBody

@[expose] public section

set_option maxRecDepth 16384

noncomputable section

namespace Cert.KernelIdeal.Runs

open Cert.KernelIdeal Cert.KernelIdeal.Gen
open Idealize.ShloMosaic Idealize.ShloMosaic.TcCoe
open Idealize.ShloMosaic.Pipeline (Dat RDat)

variable {F : FTy → Type} [FloatOps F]

/-! ## The words: the first point, and when there are trips -/

theorem first_small : ∀ b : Fin 9, Scalar.cmpi .ne (Scalar.extui (Scalar.cmpi .eq (BitVec.ofNat 32 b.val) 0#32) : BitVec 32) 0#32 = 1#1
    ↔ b.val = 0 := by decide

theorem first_iff (i : grid0.Coords) : First i ↔ (i 0).val = 0 := first_small (i 0)

theorem back_small : ∀ b : Fin 9, Scalar.muli (Scalar.maxsi (Scalar.subi (BitVec.ofNat 32 b.val) 1#32) 0#32) 64#32
    = Scalar.muli (BitVec.ofNat 32 (b.val - 1)) 64#32 := by decide

theorem prep_small : ∀ (b : Fin 8) (n : Fin 65), n.val ≠ 0 →
    Scalar.cmpi .ne (Scalar.extui (Scalar.andi (Scalar.cmpi .slt (BitVec.ofNat 32 b.val) 8#32)
      (Scalar.cmpi .sgt (BitVec.ofNat 32 n.val) 0#32)) : BitVec 32) 0#32 = 1#1 := by decide

/-- With a trip to make, the gate products were computed at the point before (at the first point: there). -/
theorem trips_prep (i j : grid0.Coords) (v9 : BitVec 32) (hj : (j 0).val = (i 0).val - 1) (h : (k0_t1_loop i v9).trips ≠ 0) :
    Prep j v9 := by
  rw [loop1_trips] at h
  obtain ⟨e, -⟩ := cntW_eq i v9
  have hc : cnt i v9 ≠ 0 := by unfold groups at h; omega
  have hi := (i 0).isLt
  obtain ⟨n, hn⟩ := cntW_mem i v9
  have hn0 : n.val ≠ 0 := by
    intro h0; apply hc; unfold cnt; rw [hn, h0]; rfl
  have hb := back_small (i 0)
  have hlt : (j 0).val < 8 := by
    have : (i 0).val < 9 := (i 0).isLt
    omega
  have hp := prep_small ⟨(j 0).val, hlt⟩ n hn0
  rw [← hn] at hp
  unfold cntW blkW at hp
  rw [hb, ← hj] at hp
  exact hp

/-! ## Stores over contents that agree -/

theorem over_at {s : Shape} {e : EltTy} {X X' : s.Idx → Elt F e} {y : s.Idx} (h : X y = X' y) :
    ∀ L : List (View.Piece (Elt F) s e), over X L y = over X' L y
  | [] => h
  | p :: L => by
    by_cases hy : y ∈ p.1.set
    · obtain ⟨x, rfl⟩ : ∃ x, p.1.emb x = y := p.1.exists_idx_of_mem hy
      exact (p.1.overlay_emb _ _ x).trans (p.1.overlay_emb _ _ x).symm
    · exact (p.1.overlay_of_not_mem _ _ hy).trans ((over_at h L).trans (p.1.overlay_of_not_mem _ _ hy).symm)

theorem over_piece {s : Shape} {e : EltTy} (X X' : s.Idx → Elt F e) (p : View.Piece (Elt F) s e) {y : s.Idx} (h : y ∈ p.1.set) :
    over X [p] y = over X' [p] y := by
  obtain ⟨x, rfl⟩ : ∃ x, p.1.emb x = y := p.1.exists_idx_of_mem h
  exact (p.1.overlay_emb _ _ x).trans (p.1.overlay_emb _ _ x).symm

/-- The cleared rows. -/
theorem clear_mem (i : grid0.Coords) (y : S512x16x256.Idx) (h : 64 * (i 0).val - 64 ≤ (y 0).val)
    (h' : (y 0).val < 64 * (i 0).val - 64 + 64) : y ∈ (clearRect i).set := by
  rw [Rect.mem_set_unit]
  rw [off2_eq]
  intro a
  match a with
  | ⟨0, _⟩ => exact ⟨h, h'⟩
  | ⟨1, _⟩ => exact ⟨Nat.zero_le _, (Nat.zero_add _).symm ▸ (y 1).isLt⟩
  | ⟨2, _⟩ => exact ⟨Nat.zero_le _, (Nat.zero_add _).symm ▸ (y 2).isLt⟩

/-! ## The recursion over the points -/

/-- What the call keeps from point to point: the context, layer 0's gate products, layer 0's output, the state. -/
abbrev Kept (F : FTy → Type) [FloatOps F] : Type :=
  Vec F S512x16x256 .f32 × Vec F S1024x1024 .bf16 × Vec F S2048x256 .bf16 × Carry F

/-- One point. -/
def nextKept (i : grid0.Coords) (x1 : Vec F S16x1 .f32) (x2 : Vec F S64x16x256 .f32) (x3 : Vec F S256x1024 .f32)
    (x4 : Vec F S256x1024 .bf16) (x5 : Vec F S1x1024 .f32) (x6 x7 : Vec F S256x1024 .bf16) (x8 : Vec F S1x1024 .f32)
    (s : Kept F) : Kept F :=
  (ctxAfter i x1 x2 x3 x4 x5 x6 x7 x8 s.2.1 s.2.2.1 s.2.2.2 s.1, startGate i x1 x2 x3 x5 s.2.1,
    outAfter i x1 x2 x3 x4 x5 x6 x7 x8 s.2.1 s.2.2.1 s.2.2.2, stateAfter i x1 x2 x3 x4 x5 x6 x7 x8 s.2.1 s.2.2.1 s.2.2.2)

/-- What of the buffers two runs must share before point `i` to share it after. -/
structure Alike (i : grid0.Coords) (v9 : BitVec 32) (g g' : Vec F S1024x1024 .bf16) (o o' : Vec F S2048x256 .bf16) (a a' : Carry F) :
    Prop where
  kept : (i 0).val ≠ 0 → o = o' ∧ a = a'
  gate : (i 0).val ≠ 0 → ∀ j : grid0.Coords, (j 0).val = (i 0).val - 1 → Prep j v9 → g = g'

section
variable (i : grid0.Coords) (x1 : Vec F S16x1 .f32) (x2 : Vec F S64x16x256 .f32) (x3 : Vec F S256x1024 .f32)
  (x4 : Vec F S256x1024 .bf16) (x5 : Vec F S1x1024 .f32) (x6 x7 : Vec F S256x1024 .bf16) (x8 : Vec F S1x1024 .f32)
  {g g' : Vec F S1024x1024 .bf16} {o o' : Vec F S2048x256 .bf16} {a a' : Carry F}

theorem startOut_alike (h : Alike i (lenWord x1) g g' o o' a a') : startOut i o = startOut i o' := by
  unfold startOut
  by_cases h0 : First i
  · rw [if_pos h0, if_pos h0]
  · rw [if_neg h0, if_neg h0]; exact (h.kept fun e => h0 ((first_iff i).mpr e)).1

theorem startState_alike (h : Alike i (lenWord x1) g g' o o' a a') : startState i a = startState i a' := by
  unfold startState
  by_cases h0 : First i
  · rw [if_pos h0, if_pos h0]
  · rw [if_neg h0, if_neg h0]; exact (h.kept fun e => h0 ((first_iff i).mpr e)).2

theorem startGate_prep (h : Prep i (lenWord x1)) : startGate i x1 x2 x3 x5 g = startGate i x1 x2 x3 x5 g' := by
  unfold startGate; rw [if_pos h, if_pos h]

theorem loopEnd_alike (h : Alike i (lenWord x1) g g' o o' a a') :
    loopEnd i x1 x2 x3 x4 x5 x6 x7 x8 g o a = loopEnd i x1 x2 x3 x4 x5 x6 x7 x8 g' o' a' := by
  unfold loopEnd
  rw [startOut_alike i x1 h, startState_alike i x1 h]
  by_cases ht : (k0_t1_loop i (lenWord x1)).trips = 0
  · rw [ht]; rfl
  · have e : startGate i x1 x2 x3 x5 g = startGate i x1 x2 x3 x5 g' := by
      by_cases h0 : (i 0).val = 0
      · exact startGate_prep i x1 x2 x3 x5 (trips_prep i i _ (by omega) ht)
      · rw [h.gate h0 (fun b => ⟨(i b).val - 1, lt_of_le_of_lt (Nat.sub_le _ _) (i b).isLt⟩) rfl (trips_prep i _ _ rfl ht)]
    rw [e]

theorem outAfter_alike (h : Alike i (lenWord x1) g g' o o' a a') :
    outAfter i x1 x2 x3 x4 x5 x6 x7 x8 g o a = outAfter i x1 x2 x3 x4 x5 x6 x7 x8 g' o' a' := by
  unfold outAfter; rw [loopEnd_alike i x1 x2 x3 x4 x5 x6 x7 x8 h, startOut_alike i x1 h]

theorem stateAfter_alike (h : Alike i (lenWord x1) g g' o o' a a') :
    stateAfter i x1 x2 x3 x4 x5 x6 x7 x8 g o a = stateAfter i x1 x2 x3 x4 x5 x6 x7 x8 g' o' a' := by
  unfold stateAfter; rw [loopEnd_alike i x1 x2 x3 x4 x5 x6 x7 x8 h]

/-- The context after a point: a row below the point's block agrees if it agreed before or is cleared there. -/
theorem ctxAfter_alike (h : Alike i (lenWord x1) g g' o o' a a') (x9 x9' : Vec F S512x16x256 .f32)
    (h9 : ∀ y, (y 0).val < 64 * (i 0).val - 64 → x9 y = x9' y) (y : S512x16x256.Idx)
    (hy : (y 0).val < 64 * (i 0).val - 64 + 64) :
    ctxAfter i x1 x2 x3 x4 x5 x6 x7 x8 g o a x9 y = ctxAfter i x1 x2 x3 x4 x5 x6 x7 x8 g' o' a' x9' y := by
  unfold ctxAfter
  rw [loopEnd_alike i x1 x2 x3 x4 x5 x6 x7 x8 h]
  refine over_at ?_ _
  by_cases hc : (y 0).val < 64 * (i 0).val - 64
  · exact over_at (h9 y hc) _
  · exact over_piece _ _ _ (clear_mem i y (Nat.not_lt.mp hc) hy)

end

end Cert.KernelIdeal.Runs
end
-- ==== Proof.FusionBody.lean ====
/- The attention-and-fusion call of the kernel, one grid point (one batch row) at a time: what the body leaves in its two
output blocks as a function of the five input blocks, the body's triple, the pipeline's proof data over the buffer
contents the call is entered with, and the body obligation. Stated at any float carrier. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Tactic
public import Idealize.ShloMosaic.Lib.WordCmp

@[expose] public section

set_option maxRecDepth 16384

noncomputable section

namespace Cert.KernelIdeal.Runs

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-- Buffer contents on every core, by reference: what a call is entered with. -/
abbrev Contents (F : FTy → Type) : Type :=
  (c : Dev nD) → (b : Ref sig .tc) → Buf (Elt F) ((c : Thread nD τ).loc b)

/-! ## What the body reads and leaves -/

/-- The accesses: each block whole, the two branch rows of the projection vectors apart. -/
abbrev accTxt : Rect S1x512x256 := Rect.unit (s := S1x512x256) ![0, 0, 0] S1x512x256.size inb_S1x512x256_S1x512x256_0_0_0
abbrev accCtx : Rect S512x256 := Rect.unit (s := S512x256) ![0, 0] S512x256.size inb_S512x256_S512x256_0_0
abbrev accMat : Rect S256x128 := Rect.unit (s := S256x128) ![0, 0] S256x128.size inb_S256x128_S256x128_0_0
abbrev accRow0 : Rect S2x128 := Rect.unit (s := S2x128) ![0, 0] S1x128.size inb_S2x128_S1x128_0_0
abbrev accRow1 : Rect S2x128 := Rect.unit (s := S2x128) ![1, 0] S1x128.size inb_S2x128_S1x128_1_0
abbrev accFused : Rect S1x1x128 := Rect.unit (s := S1x1x128) ![0, 0, 0] S1x1x128.size inb_S1x1x128_S1x1x128_0_0_0
abbrev accWeight : Rect S1x1x512 := Rect.unit (s := S1x1x512) ![0, 0, 0] S1x1x512.size inb_S1x1x512_S1x1x512_0_0_0

section
variable (x0 : Vec F S1x512x256 .f32) (x1 : Vec F S512x256 .f32) (x2 x3 : Vec F S256x128 .f32) (x4 : Vec F S2x128 .f32)

/-- The fused vector's payload, from the five blocks. -/
def fusedPay : Vec F S1x1x128 .f32 :=
  k1_pay6 (k1_pay8 (View.ld x0 accTxt) (View.ld x2 accMat)) (k1_pay9 (View.ld x1 accCtx) (View.ld x3 accMat))
    (k1_pay10 (View.ld x1 accCtx) (View.ld x3 accMat)) (k1_pay11 (F := F))
    (k1_pay18 (View.ld x0 accTxt) (View.ld x1 accCtx) (View.ld x2 accMat) (View.ld x3 accMat) (View.ld x4 accRow0)) (View.ld x4 accRow1)

/-- The attention weights' payload, from the five blocks. -/
def weightPay : Vec F S1x1x512 .f32 :=
  k1_pay7 (k1_pay8 (View.ld x0 accTxt) (View.ld x2 accMat)) (k1_pay9 (View.ld x1 accCtx) (View.ld x3 accMat))
    (k1_pay10 (View.ld x1 accCtx) (View.ld x3 accMat))
    (k1_pay17 (View.ld x0 accTxt) (View.ld x1 accCtx) (View.ld x2 accMat) (View.ld x3 accMat) (View.ld x4 accRow0)) (View.ld x4 accRow1)

/-- The two output blocks after the body: one store each, over the whole block. -/
def fusedOut : Vec F S1x1x128 .f32 := View.canon [⟨accFused, fusedPay x0 x1 x2 x3 x4⟩]
def weightOut : Vec F S1x1x512 .f32 := View.canon [⟨accWeight, weightPay x0 x1 x2 x3 x4⟩]
end

theorem fused_covered (p : Vec F S1x1x128 .f32) (y : S1x1x128.Idx) :
    ∃ pc ∈ ([⟨accFused, p⟩] : List (View.Piece (Elt F) S1x1x128 .f32)), y ∈ pc.1.set :=
  View.cover_of_tiled [⟨accFused, p⟩] S1x1x128.size (by rfl) y

theorem weight_covered (p : Vec F S1x1x512 .f32) (y : S1x1x512.Idx) :
    ∃ pc ∈ ([⟨accWeight, p⟩] : List (View.Piece (Elt F) S1x1x512 .f32)), y ∈ pc.1.set :=
  View.cover_of_tiled [⟨accWeight, p⟩] S1x1x512.size (by rfl) y

set_option maxHeartbeats 1000000 in
/-- The body's triple: on whole staging buffers with the inputs at `x0 … x4`, it ends with the inputs unchanged and the
two outputs at `fusedOut` and `weightOut`. -/
theorem fusion_triple (c : Dev nD) (E : Set ℕ) (i : grid1.Coords)
    (a0 : Memref sig .tc .vmem S1x512x256 .f32) (w0 : a0.IsWhole) (a1 : Memref sig .tc .vmem S512x256 .f32) (w1 : a1.IsWhole)
    (a2 : Memref sig .tc .vmem S256x128 .f32) (w2 : a2.IsWhole) (a3 : Memref sig .tc .vmem S256x128 .f32) (w3 : a3.IsWhole)
    (a4 : Memref sig .tc .vmem S2x128 .f32) (w4 : a4.IsWhole) (a5 : Memref sig .tc .vmem S1x1x128 .f32) (w5 : a5.IsWhole)
    (a6 : Memref sig .tc .vmem S1x1x512 .f32) (w6 : a6.IsWhole)
    (x0 : Vec F S1x512x256 .f32) (x1 : Vec F S512x256 .f32) (x2 x3 : Vec F S256x128 .f32) (x4 : Vec F S2x128 .f32)
    (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4
        ∗ (∃ d, owns (c : Thread nD τ) a5 fullShare d) ∗ (∃ d, owns (c : Thread nD τ) a6 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (fusedOut x0 x1 x2 x3 x4)
            ∗ owns (c : Thread nD τ) a6 fullShare (weightOut x0 x1 x2 x3 x4)) -∗ K ⟨⟩))
      ⊢ wp frame (wpE (defs₀ (F := F)) Variants.none c none) E
          (cc1__fusion_body i a0 w0 a1 w1 a2 w2 a3 w3 a4 w4 a5 w5 a6 w6) K := by
  simp only [cc1__fusion_body_eq_skeleton]; unfold cc1__fusion_body_skel
  simp only [k1_part1_eq_skeleton]
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, ⟨%d6, %f6, -, H6⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact (View.read_writes_eq_canon _ _ _ (fused_covered _)).trans rfl
  iexists _; isplitr
  swap; · iexact H6
  ipureintro
  exact (View.read_writes_eq_canon _ _ _ (weight_covered _)).trans rfl

/-! ## The proof data -/

variable (V : Contents F)

/-- Window `w`'s block at point `t`, read off its array as the call is entered. -/
def fblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The call's proof data: arrays as entered; every input block left as fetched, the outputs at the values above; the
other scoped buffers and the generator register untouched; nothing owed. -/
def fusionDat (c : Dev nD) : Dat τ (Elt F) Unit ℕ (UR sig nD τ) ℕ cfg1 c where
  A w := V c (Pipeline.arrRef spec1 w)
  after w t := match w with
    | ⟨0, _⟩ => fblk V c 0 t
    | ⟨1, _⟩ => fblk V c 1 t
    | ⟨2, _⟩ => fblk V c 2 t
    | ⟨3, _⟩ => fblk V c 3 t
    | ⟨4, _⟩ => fblk V c 4 t
    | ⟨5, _⟩ => fusedOut (fblk V c 0 t) (fblk V c 1 t) (fblk V c 2 t) (fblk V c 3 t) (fblk V c 4 t)
    | ⟨6, _⟩ => weightOut (fblk V c 0 t) (fblk V c 1 t) (fblk V c 2 t) (fblk V c 3 t) (fblk V c 4 t)
  Φ _ := Pipeline.ΦA spec1 c
  q _ := fullShare
  owed _ := 0

theorem fusionDat_A (c : Dev nD) (w : Fin cfg1.W) : (fusionDat V c).A w = V c (Pipeline.arrRef spec1 w) := by
  dsimp only [fusionDat]

/-- What an input window's staging buffer holds when the body runs, given that the body leaves that input in place. -/
theorem fusion_before {c : Dev nD} {w : Fin cfg1.W} {t : Fin cfg1.N} {d}
    (h : (fusionDat V c).before w t d = (fusionDat V c).fetched w t d)
    (h' : (fusionDat V c).fetched w t d = (fusionDat V c).after w t) :
    (fusionDat V c).before w t d = (fusionDat V c).after w t := h.trans h'

theorem fusion_before0 (c : Dev nD) (t : Fin cfg1.N) (d) : (fusionDat V c).before 0 t d = fblk V c 0 t :=
  fusion_before V ((fusionDat V c).before_in_eq_fetched 0 rfl (fun _ => rfl) (fun _ _ _ => rfl) (fun _ => rfl) t d) rfl
theorem fusion_before1 (c : Dev nD) (t : Fin cfg1.N) (d) : (fusionDat V c).before 1 t d = fblk V c 1 t :=
  fusion_before V ((fusionDat V c).before_in_eq_fetched 1 rfl (fun _ => rfl) (fun _ _ _ => rfl) (fun _ => rfl) t d) rfl
theorem fusion_before2 (c : Dev nD) (t : Fin cfg1.N) (d) : (fusionDat V c).before 2 t d = fblk V c 2 t :=
  fusion_before V ((fusionDat V c).before_in_eq_fetched 2 rfl (fun _ => rfl) (fun _ _ _ => rfl) (fun _ => rfl) t d) rfl
theorem fusion_before3 (c : Dev nD) (t : Fin cfg1.N) (d) : (fusionDat V c).before 3 t d = fblk V c 3 t :=
  fusion_before V ((fusionDat V c).before_in_eq_fetched 3 rfl (fun _ => rfl) (fun _ _ _ => rfl) (fun _ => rfl) t d) rfl
theorem fusion_before4 (c : Dev nD) (t : Fin cfg1.N) (d) : (fusionDat V c).before 4 t d = fblk V c 4 t :=
  fusion_before V ((fusionDat V c).before_in_eq_fetched 4 rfl (fun _ => rfl) (fun _ _ _ => rfl) (fun _ => rfl) t d) rfl

theorem fusion_after (c : Dev nD) (t : Fin cfg1.N) :
    (fusionDat V c).after 0 t = fblk V c 0 t ∧ (fusionDat V c).after 1 t = fblk V c 1 t ∧ (fusionDat V c).after 2 t = fblk V c 2 t
    ∧ (fusionDat V c).after 3 t = fblk V c 3 t ∧ (fusionDat V c).after 4 t = fblk V c 4 t := by
  dsimp only [fusionDat]; exact ⟨rfl, rfl, rfl, rfl, rfl⟩

theorem fusion_after5 (c : Dev nD) (t : Fin cfg1.N) :
    (fusionDat V c).after 5 t = fusedOut (fblk V c 0 t) (fblk V c 1 t) (fblk V c 2 t) (fblk V c 3 t) (fblk V c 4 t) := by
  dsimp only [fusionDat]

theorem fusion_after6 (c : Dev nD) (t : Fin cfg1.N) :
    (fusionDat V c).after 6 t = weightOut (fblk V c 0 t) (fblk V c 1 t) (fblk V c 2 t) (fblk V c 3 t) (fblk V c 4 t) := by
  dsimp only [fusionDat]

/-! ## The body obligation -/

/-- What the body is handed at point `t`, the windows one by one, -/
def fusionPre (c : Dev nD) (t : Fin cfg1.N) : sProp 𝕄 :=
  iprop((fusionDat V c).Φ t.castSucc ∗ (fusionDat V c).owesAt () t.castSucc
    ∗ (∃ d, owns (c : Thread nD τ) (st1_0 t) fullShare ((fusionDat V c).before 0 t d))
    ∗ (∃ d, owns (c : Thread nD τ) (st1_1 t) fullShare ((fusionDat V c).before 1 t d))
    ∗ (∃ d, owns (c : Thread nD τ) (st1_2 t) fullShare ((fusionDat V c).before 2 t d))
    ∗ (∃ d, owns (c : Thread nD τ) (st1_3 t) fullShare ((fusionDat V c).before 3 t d))
    ∗ (∃ d, owns (c : Thread nD τ) (st1_4 t) fullShare ((fusionDat V c).before 4 t d))
    ∗ (∃ d, owns (c : Thread nD τ) (st1_5 t) fullShare ((fusionDat V c).before 5 t d))
    ∗ (∃ d, owns (c : Thread nD τ) (st1_6 t) fullShare ((fusionDat V c).before 6 t d)))

/-- and what it gives back. -/
def fusionPost (c : Dev nD) (t : Fin cfg1.N) : sProp 𝕄 :=
  iprop((fusionDat V c).Φ t.succ ∗ (fusionDat V c).owesAt () t.succ
    ∗ owns (c : Thread nD τ) (st1_0 t) fullShare ((fusionDat V c).after 0 t)
    ∗ owns (c : Thread nD τ) (st1_1 t) fullShare ((fusionDat V c).after 1 t)
    ∗ owns (c : Thread nD τ) (st1_2 t) fullShare ((fusionDat V c).after 2 t)
    ∗ owns (c : Thread nD τ) (st1_3 t) fullShare ((fusionDat V c).after 3 t)
    ∗ owns (c : Thread nD τ) (st1_4 t) fullShare ((fusionDat V c).after 4 t)
    ∗ owns (c : Thread nD τ) (st1_5 t) fullShare ((fusionDat V c).after 5 t)
    ∗ owns (c : Thread nD τ) (st1_6 t) fullShare ((fusionDat V c).after 6 t))

theorem fusion_point (c : Dev nD) (t : Fin cfg1.N) :
    fusionPre V c t ⊢ wp frame (wpE (defs₀ (F := F)) Variants.none c none) Set.univ (bodyAt1 t) (fun _ => fusionPost V c t) := by
  unfold fusionPre fusionPost bodyAt1
  simp only [fusion_before0, fusion_before1, fusion_before2, fusion_before3, fusion_before4]
  obtain ⟨h0, h1, h2, h3, h4⟩ := fusion_after V c t
  rw [show (fusionDat V c).Φ t.succ = (fusionDat V c).Φ t.castSucc from rfl,
    show (fusionDat V c).owesAt () t.succ = (fusionDat V c).owesAt () t.castSucc from rfl,
    h0, h1, h2, h3, h4, fusion_after5, fusion_after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (fusion_triple c Set.univ (grid1.coords t) _ _ _ _ _ _ _ _ _ _ _ _ _ _ (fblk V c 0 t) (fblk V c 1 t) (fblk V c 2 t) (fblk V c 3 t) (fblk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro Hs
  isplitl [HΦ]; · iexact HΦ
  isplitl [Ho]; · iexact Ho
  iexact Hs

theorem fusion_row (t : Fin cfg1.N) : defs₀ (F := F) .tc cfg1.body (cfg1.bodyArgs t (cfg1.slots t)) = bodyAt1 t := by
  unfold defs₀; rw [Defs.onTc_tc]

/-- The body obligation of the attention-and-fusion call. -/
theorem fusion_obligation (c : Dev nD) : BodyObligation (fusionDat (F := F) V c) (defs₀ (F := F)) Variants.none () Set.univ := fun t => by
  rw [bigSep_W1, bigSep_W1, fusion_row]
  exact triple_restated (fusion_point V c t) rfl .rfl fun _ => .rfl

end Cert.KernelIdeal.Runs
end
-- ==== Proof.LstmData.lean ====
/- The recurrent call's proof data and body obligation, for any contents of its arrays at entry. The context window is
held to agree with the recursion over the points on the rows below the point's block; the state, layer 0's output and
layer 0's gate products are in the invariant. Stated at any float carrier. -/
module

public import proofs.«01_k».proof.Proof.LstmModel
public import proofs.«01_k».proof.Proof.FusionBody
public import Idealize.ShloMosaic.Lib.Pipeline.DatRel

@[expose] public section

set_option maxRecDepth 16384

noncomputable section

namespace Cert.KernelIdeal.Runs

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligation BodyObligationRel)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input block at point `t`, of the arrays at entry. -/
def lblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the call keeps before point `n`. -/
def keptAt (c : Dev nD) : ℕ → Kept F
  | 0 => (fun _ => Classical.choice (Elt.nonempty F _), fun _ => Classical.choice (Elt.nonempty F _), fun _ => Classical.choice (Elt.nonempty F _),
      fun _ => Classical.choice (Elt.nonempty F _), fun _ => Classical.choice (Elt.nonempty F _), fun _ => Classical.choice (Elt.nonempty F _), fun _ => Classical.choice (Elt.nonempty F _))
  | n + 1 => if h : n < cfg0.N then
      nextKept (grid0.coords ⟨n, h⟩) (lblk V c 0 ⟨n, h⟩) (lblk V c 1 ⟨n, h⟩) (lblk V c 2 ⟨n, h⟩) (lblk V c 3 ⟨n, h⟩)
        (lblk V c 4 ⟨n, h⟩) (lblk V c 5 ⟨n, h⟩) (lblk V c 6 ⟨n, h⟩) (lblk V c 7 ⟨n, h⟩) (keptAt c n)
    else keptAt c n

theorem keptAt_succ (c : Dev nD) (t : Fin cfg0.N) : keptAt V c (t.val + 1)
    = nextKept (grid0.coords t) (lblk V c 0 t) (lblk V c 1 t) (lblk V c 2 t) (lblk V c 3 t)
        (lblk V c 4 t) (lblk V c 5 t) (lblk V c 6 t) (lblk V c 7 t) (keptAt V c t.val) := by
  rw [keptAt, dif_pos t.isLt]

/-- The lengths are one block, fetched once. -/
theorem lblk_lens (c : Dev nD) (t t' : Fin cfg0.N) : (lblk V c 0 t : Vec F S16x1 .f32) = lblk V c 0 t' := rfl

/-- What the kept buffers may hold before point `n`. -/
def Holds (c : Dev nD) (n : ℕ) (g : Vec F S1024x1024 .bf16) (o : Vec F S2048x256 .bf16) (a : Carry F) : Prop :=
  n ≠ 0 → (o = (keptAt V c n).2.2.1 ∧ a = (keptAt V c n).2.2.2)
    ∧ ∀ t : Fin cfg0.N, t.val = n - 1 → Prep (grid0.coords t) (lenWord (lblk V c 0 t)) → g = (keptAt V c n).2.1

/-- A scoped buffer at some contents. -/
def someOf (c : Dev nD) (b : Ref sig .tc) : sProp 𝕄 := iprop(∃ f : Buf (Elt F) ((c : Thread nD τ).loc b), ((c : Thread nD τ).loc b) ↦{fullShare} f)

/-- Those the call does not touch. -/
def otherScoped (c : Dev nD) : sProp 𝕄 :=
  iprop(someOf c cc1_stg0_0 ∗ someOf c cc1_stg0_1 ∗ someOf c cc1_stg1_0 ∗ someOf c cc1_stg1_1 ∗ someOf c cc1_stg2_0 ∗ someOf c cc1_stg3_0 ∗ someOf c cc1_stg4_0 ∗ someOf c cc1_stg5_0 ∗ someOf c cc1_stg5_1 ∗ someOf c cc1_stg6_0 ∗ someOf c cc1_stg6_1)

/-- The call's own buffers before point `n`. -/
def scratchAt (c : Dev nD) (n : ℕ) : sProp 𝕄 :=
  iprop(∃ (g : Vec F S1024x1024 .bf16) (o : Vec F S2048x256 .bf16) (a : Carry F), ⌜Holds V c n g o a⌝
    ∗ owns (c : Thread nD τ) (Memref.whole cc0_scratch0) fullShare g
    ∗ (∃ d, owns (c : Thread nD τ) (Memref.whole cc0_scratch1) fullShare d)
    ∗ owns (c : Thread nD τ) (Memref.whole cc0_scratch2) fullShare o
    ∗ owns (c : Thread nD τ) (Memref.whole cc0_scratch3) fullShare a.1
    ∗ owns (c : Thread nD τ) (Memref.whole cc0_scratch4) fullShare a.2.1
    ∗ owns (c : Thread nD τ) (Memref.whole cc0_scratch5) fullShare a.2.2.1
    ∗ owns (c : Thread nD τ) (Memref.whole cc0_scratch6) fullShare a.2.2.2)

/-- The call's proof data: arrays as entered; every input block left as fetched; the context named by the recursion. -/
def lstmDat (c : Dev nD) : Dat τ (Elt F) Unit ℕ (UR sig nD τ) ℕ cfg0 c where
  A w := V c (Pipeline.arrRef spec0 w)
  after w t := match w with
    | ⟨0, _⟩ => lblk V c 0 t
    | ⟨1, _⟩ => lblk V c 1 t
    | ⟨2, _⟩ => lblk V c 2 t
    | ⟨3, _⟩ => lblk V c 3 t
    | ⟨4, _⟩ => lblk V c 4 t
    | ⟨5, _⟩ => lblk V c 5 t
    | ⟨6, _⟩ => lblk V c 6 t
    | ⟨7, _⟩ => lblk V c 7 t
    | ⟨8, _⟩ => (keptAt V c (t.val + 1)).1
  Φ n := iprop(scratchAt V c n.val ∗ otherScoped c ∗ ∃ r, prngReg c r)
  q _ := fullShare
  owed _ := 0

theorem lstmDat_A (c : Dev nD) (w : Fin cfg0.W) : (lstmDat V c).A w = V c (Pipeline.arrRef spec0 w) := by
  dsimp only [lstmDat]

/-- The window held to a predicate: the context's. -/
def loose0 (w : Fin cfg0.W) : Bool := w == 8

/-- The context agrees with the recursion on the rows below the point's block. -/
def Agrees (c : Dev nD) (w : Fin cfg0.W) (t : Fin cfg0.N) : ((cfg0.win w).block.Idx → Elt F (cfg0.win w).elt) → Prop :=
  match w with
  | ⟨8, _⟩ => fun X => ∀ y : S512x16x256.Idx, (y 0).val < 64 * t.val - 64 + 64 → X y = (keptAt V c (t.val + 1)).1 y
  | _ => fun _ => True

/-- The call's data as the pipeline uses them. -/
abbrev lstmRDat (c : Dev nD) := (lstmDat V c).toRRel loose0 (Agrees V c)

theorem lstm_before {c : Dev nD} {w : Fin cfg0.W} {t : Fin cfg0.N} {d}
    (h : (lstmDat V c).before w t d = (lstmDat V c).fetched w t d)
    (h' : (lstmDat V c).fetched w t d = (lstmDat V c).after w t) :
    (lstmDat V c).before w t d = (lstmDat V c).after w t := h.trans h'

theorem lstm_before0 (c : Dev nD) (t : Fin cfg0.N) (d) : (lstmDat V c).before 0 t d = lblk V c 0 t :=
  lstm_before V ((lstmDat V c).before_in_eq_fetched 0 rfl (fun _ => rfl) (fun _ _ _ => rfl) (fun _ => rfl) t d) rfl
theorem lstm_before1 (c : Dev nD) (t : Fin cfg0.N) (d) : (lstmDat V c).before 1 t d = lblk V c 1 t :=
  lstm_before V ((lstmDat V c).before_in_eq_fetched 1 rfl (fun _ => rfl) (fun _ _ _ => rfl) (fun _ => rfl) t d) rfl
theorem lstm_before2 (c : Dev nD) (t : Fin cfg0.N) (d) : (lstmDat V c).before 2 t d = lblk V c 2 t :=
  lstm_before V ((lstmDat V c).before_in_eq_fetched 2 rfl (fun _ => rfl) (fun _ _ _ => rfl) (fun _ => rfl) t d) rfl
theorem lstm_before3 (c : Dev nD) (t : Fin cfg0.N) (d) : (lstmDat V c).before 3 t d = lblk V c 3 t :=
  lstm_before V ((lstmDat V c).before_in_eq_fetched 3 rfl (fun _ => rfl) (fun _ _ _ => rfl) (fun _ => rfl) t d) rfl
theorem lstm_before4 (c : Dev nD) (t : Fin cfg0.N) (d) : (lstmDat V c).before 4 t d = lblk V c 4 t :=
  lstm_before V ((lstmDat V c).before_in_eq_fetched 4 rfl (fun _ => rfl) (fun _ _ _ => rfl) (fun _ => rfl) t d) rfl
theorem lstm_before5 (c : Dev nD) (t : Fin cfg0.N) (d) : (lstmDat V c).before 5 t d = lblk V c 5 t :=
  lstm_before V ((lstmDat V c).before_in_eq_fetched 5 rfl (fun _ => rfl) (fun _ _ _ => rfl) (fun _ => rfl) t d) rfl
theorem lstm_before6 (c : Dev nD) (t : Fin cfg0.N) (d) : (lstmDat V c).before 6 t d = lblk V c 6 t :=
  lstm_before V ((lstmDat V c).before_in_eq_fetched 6 rfl (fun _ => rfl) (fun _ _ _ => rfl) (fun _ => rfl) t d) rfl
theorem lstm_before7 (c : Dev nD) (t : Fin cfg0.N) (d) : (lstmDat V c).before 7 t d = lblk V c 7 t :=
  lstm_before V ((lstmDat V c).before_in_eq_fetched 7 rfl (fun _ => rfl) (fun _ _ _ => rfl) (fun _ => rfl) t d) rfl

theorem lstm_after (c : Dev nD) (t : Fin cfg0.N) :
    (lstmDat V c).after 0 t = lblk V c 0 t
    ∧ (lstmDat V c).after 1 t = lblk V c 1 t
    ∧ (lstmDat V c).after 2 t = lblk V c 2 t
    ∧ (lstmDat V c).after 3 t = lblk V c 3 t
    ∧ (lstmDat V c).after 4 t = lblk V c 4 t
    ∧ (lstmDat V c).after 5 t = lblk V c 5 t
    ∧ (lstmDat V c).after 6 t = lblk V c 6 t
    ∧ (lstmDat V c).after 7 t = lblk V c 7 t := by
  dsimp only [lstmDat]; exact ⟨rfl, rfl, rfl, rfl, rfl, rfl, rfl, rfl⟩

/-! ## The body obligation -/

theorem blk_of (t : Fin cfg0.N) : (grid0.coords t 0).val = t.val := by
  have h := Pipeline.Grid.coords_val (G := grid0) t 0 (S := 1) (B := 9) (by decide) rfl
  have := t.isLt
  have e : cfg0.N = 9 := N_0
  rw [h]; omega

/-- What the body may find in the context's buffer, after the first point. -/
theorem lstm_finds (c : Dev nD) (t : Fin cfg0.N) (Y : Vec F S512x16x256 .f32) (h : (lstmRDat V c).Finds 8 t Y)
    (y : S512x16x256.Idx) (hy : (y 0).val < 64 * t.val - 64) : Y y = (keptAt V c t.val).1 y := by
  have ht : t.val ≠ 0 := by omega
  have hN : cfg0.N = 9 := N_0
  have htl := t.isLt
  have hf : (cfg0.win 8).fetch t = false := rfl
  rcases ((lstmRDat V c).finds_of_pos hf ht Y).mp h with hfl | hL
  · have := (flush0_8 _).mp hfl
    have h8 : (t.val - 1) % 9 = 8 := this
    omega
  · have := (lstmDat V c).toRRel_leaves (w := 8) rfl hL
    have h2 := this y (by show (y 0).val < 64 * (t.val - 1) - 64 + 64; omega)
    have e : t.val - 1 + 1 = t.val := by omega
    rw [show (⟨t.val - 1, Nat.lt_of_le_of_lt (Nat.sub_le _ _) t.isLt⟩ : Fin cfg0.N).val + 1 = t.val from e] at h2
    exact h2

/-- What the body is handed at point `t`, the windows one by one, -/
def lstmPre (c : Dev nD) (t : Fin cfg0.N) : sProp 𝕄 :=
  iprop((lstmDat V c).Φ t.castSucc ∗ (lstmDat V c).owesAt () t.castSucc
    ∗ (∃ d, owns (c : Thread nD τ) (st0_0 t) fullShare ((lstmDat V c).before 0 t d))
    ∗ (∃ d, owns (c : Thread nD τ) (st0_1 t) fullShare ((lstmDat V c).before 1 t d))
    ∗ (∃ d, owns (c : Thread nD τ) (st0_2 t) fullShare ((lstmDat V c).before 2 t d))
    ∗ (∃ d, owns (c : Thread nD τ) (st0_3 t) fullShare ((lstmDat V c).before 3 t d))
    ∗ (∃ d, owns (c : Thread nD τ) (st0_4 t) fullShare ((lstmDat V c).before 4 t d))
    ∗ (∃ d, owns (c : Thread nD τ) (st0_5 t) fullShare ((lstmDat V c).before 5 t d))
    ∗ (∃ d, owns (c : Thread nD τ) (st0_6 t) fullShare ((lstmDat V c).before 6 t d))
    ∗ (∃ d, owns (c : Thread nD τ) (st0_7 t) fullShare ((lstmDat V c).before 7 t d))
    ∗ (∃ Y, ⌜(lstmRDat V c).Finds 8 t Y⌝ ∗ owns (c : Thread nD τ) (st0_8 t) fullShare Y))

/-- and what it gives back. -/
def lstmPost (c : Dev nD) (t : Fin cfg0.N) : sProp 𝕄 :=
  iprop((lstmDat V c).Φ t.succ ∗ (lstmDat V c).owesAt () t.succ
    ∗ owns (c : Thread nD τ) (st0_0 t) fullShare ((lstmDat V c).after 0 t)
    ∗ owns (c : Thread nD τ) (st0_1 t) fullShare ((lstmDat V c).after 1 t)
    ∗ owns (c : Thread nD τ) (st0_2 t) fullShare ((lstmDat V c).after 2 t)
    ∗ owns (c : Thread nD τ) (st0_3 t) fullShare ((lstmDat V c).after 3 t)
    ∗ owns (c : Thread nD τ) (st0_4 t) fullShare ((lstmDat V c).after 4 t)
    ∗ owns (c : Thread nD τ) (st0_5 t) fullShare ((lstmDat V c).after 5 t)
    ∗ owns (c : Thread nD τ) (st0_6 t) fullShare ((lstmDat V c).after 6 t)
    ∗ owns (c : Thread nD τ) (st0_7 t) fullShare ((lstmDat V c).after 7 t)
    ∗ (∃ X, ⌜Agrees V c 8 t X⌝ ∗ owns (c : Thread nD τ) (st0_8 t) fullShare X))

theorem alike_of (c : Dev nD) (t : Fin cfg0.N) {g o a} (h : Holds V c t.val g o a) :
    Alike (grid0.coords t) (lenWord (lblk V c 0 t)) g (keptAt V c t.val).2.1 o (keptAt V c t.val).2.2.1 a (keptAt V c t.val).2.2.2 where
  kept h0 := (h (by rw [blk_of] at h0; exact h0)).1
  gate h0 j hj hp := by
    rw [blk_of] at h0 hj
    have hlt : t.val - 1 < cfg0.N := lt_of_le_of_lt (Nat.sub_le _ _) t.isLt
    refine (h h0).2 ⟨t.val - 1, hlt⟩ rfl ?_
    have e : grid0.coords ⟨t.val - 1, hlt⟩ = j := funext fun b => Fin.ext (by
      match b with
      | ⟨0, _⟩ => exact (blk_of ⟨t.val - 1, hlt⟩).trans hj.symm)
    rw [e]; exact hp

theorem holds_next (c : Dev nD) (t : Fin cfg0.N) {g o a} (h : Holds V c t.val g o a) :
    Holds V c (t.val + 1) (startGate (grid0.coords t) (lblk V c 0 t) (lblk V c 1 t) (lblk V c 2 t) (lblk V c 4 t) g)
      (outAfter (grid0.coords t) (lblk V c 0 t) (lblk V c 1 t) (lblk V c 2 t) (lblk V c 3 t) (lblk V c 4 t) (lblk V c 5 t) (lblk V c 6 t) (lblk V c 7 t) g o a)
      (stateAfter (grid0.coords t) (lblk V c 0 t) (lblk V c 1 t) (lblk V c 2 t) (lblk V c 3 t) (lblk V c 4 t) (lblk V c 5 t) (lblk V c 6 t) (lblk V c 7 t) g o a) := fun _ => by
  rw [keptAt_succ]
  refine ⟨⟨outAfter_alike _ _ _ _ _ _ _ _ _ (alike_of V c t h), stateAfter_alike _ _ _ _ _ _ _ _ _ (alike_of V c t h)⟩, ?_⟩
  intro t' ht hp
  obtain rfl : t' = t := Fin.ext (by omega)
  exact startGate_prep _ _ _ _ _ hp

theorem agrees_next (c : Dev nD) (t : Fin cfg0.N) {g o a Y} (h : Holds V c t.val g o a) (hY : (lstmRDat V c).Finds 8 t Y) :
    Agrees V c 8 t (ctxAfter (grid0.coords t) (lblk V c 0 t) (lblk V c 1 t) (lblk V c 2 t) (lblk V c 3 t) (lblk V c 4 t) (lblk V c 5 t) (lblk V c 6 t) (lblk V c 7 t) g o a Y) := by
  show ∀ y : S512x16x256.Idx, (y 0).val < 64 * t.val - 64 + 64 → _ = (keptAt V c (t.val + 1)).1 y
  intro y hy
  rw [keptAt_succ]
  refine ctxAfter_alike _ _ _ _ _ _ _ _ _ (alike_of V c t h) _ _ (fun y' hy' => ?_) y (by rw [blk_of]; exact hy)
  rw [blk_of] at hy'
  exact lstm_finds V c t Y hY y' hy'

theorem lstm_point (c : Dev nD) (t : Fin cfg0.N) :
    lstmPre V c t ⊢ wp frame (wpE (defs₀ (F := F)) Variants.none c none) Set.univ (bodyAt0 t) (fun _ => lstmPost V c t) := by
  unfold lstmPre lstmPost bodyAt0
  simp only [lstm_before0, lstm_before1, lstm_before2, lstm_before3, lstm_before4, lstm_before5, lstm_before6, lstm_before7]
  obtain ⟨h0, h1, h2, h3, h4, h5, h6, h7⟩ := lstm_after V c t
  rw [show (lstmDat V c).owesAt () t.succ = (lstmDat V c).owesAt () t.castSucc from rfl, h0, h1, h2, h3, h4, h5, h6, h7,
    show (lstmDat V c).Φ t.castSucc = iprop(scratchAt V c t.val ∗ otherScoped c ∗ ∃ r, prngReg c r) from rfl,
    show (lstmDat V c).Φ t.succ = iprop(scratchAt V c (t.val + 1) ∗ otherScoped c ∗ ∃ r, prngReg c r) from rfl]
  unfold scratchAt
  iintro ⟨⟨⟨%g, %o, %a, %hH, S0, S1, S2, S3, S4, S5, S6⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%Y, %hY, H8⟩⟩
  iapply (lstm_triple c Set.univ (grid0.coords t) _ _ _ _ _ _ _ _ _ _ _ _ _ _ _ _ _ _ _ _ _ _ _ _ _ _ _ _ _ _ _ _ (lblk V c 0 t) (lblk V c 1 t) (lblk V c 2 t) (lblk V c 3 t) (lblk V c 4 t) (lblk V c 5 t) (lblk V c 6 t) (lblk V c 7 t) Y g o a _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, H4, H5, H6, H7, H8, S0, S1, S2, S3, S4, S5, S6⟩
  isplitl [S0 S1 S2 S3 S4 S5 S6 HR]
  · isplitr [HR]
    · iexists _, _, _
      isplitr
      · ipureintro; exact holds_next V c t hH
      isplitl [S0]; · iexact S0
      isplitl [S1]; · iexact S1
      isplitl [S2]; · iexact S2
      isplitl [S3]; · iexact S3
      isplitl [S4]; · iexact S4
      isplitl [S5]; · iexact S5
      iexact S6
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _
  isplitr
  · ipureintro; exact agrees_next V c t hH hY
  iexact H8

theorem lstm_row (t : Fin cfg0.N) : defs₀ (F := F) .tc cfg0.body (cfg0.bodyArgs t (cfg0.slots t)) = bodyAt0 t := by
  unfold defs₀; rw [Defs.onTc_tc]

/-- The body obligation of the recurrent call. -/
theorem lstm_obligation (c : Dev nD) : BodyObligationRel (lstmDat (F := F) V c) (defs₀ (F := F)) Variants.none () Set.univ loose0 (Agrees V c) := fun t => by
  rw [bigSep_W0, bigSep_W0, lstm_row]
  exact triple_restated (lstm_point V c t) rfl .rfl fun _ => .rfl

end Cert.KernelIdeal.Runs
end
-- ==== Proof.LstmExit.lean ====
/- What the recurrent call's arrays hold when it ends: the inputs as entered, the context what the recursion names at the
last point (the context is written back there only, and there the predicate pins every row). Stated at any float carrier. -/
module

public import proofs.«01_k».proof.Proof.LstmData
public import Idealize.ShloMosaic.Lib.Pipeline.RegionArraysF

@[expose] public section

set_option maxRecDepth 16384

noncomputable section

namespace Cert.KernelIdeal.Runs

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligation BodyObligationRel)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The context's array is as entered until the last point. -/
theorem ctx_kept (c : Dev nD) : ∀ n, n ≤ 8 → ∀ G, (lstmRDat V c).ArrAt 8 n G → G = V c (Pipeline.arrRef spec0 8)
  | 0, _, G, h => h
  | n + 1, hn, G, h => by
    have hN : cfg0.N = 9 := N_0
    have hlt : n < cfg0.N := by omega
    have hs := (lstmRDat V c).ArrAt_succ 8 ⟨n, hlt⟩
    dsimp only at hs
    rw [hs, if_neg (by rw [flush0_8]; show ¬ n % 9 = 8; omega)] at h
    exact ctx_kept c n (by omega) G h

/-- The context as it leaves the call. -/
theorem ctx_final (c : Dev nD) (G) (h : (lstmRDat V c).ArrAt 8 cfg0.N G) : G = (keptAt V c 9).1 := by
  have hN : cfg0.N = 9 := N_0
  have hlt : 8 < cfg0.N := by omega
  have hs := (lstmRDat V c).ArrAt_succ 8 ⟨8, hlt⟩
  dsimp only at hs
  rw [hN, show (9 : ℕ) = 8 + 1 from rfl, hs, if_pos ((flush0_8 _).mpr rfl)] at h
  obtain ⟨G₀, X, -, hX, rfl⟩ := h
  have hA := (lstmDat V c).toRRel_leaves (w := 8) rfl hX
  have e : X = (keptAt V c 9).1 := funext fun y => hA y (by
    have : (y 0).val < 512 := (y 0).isLt
    show (y 0).val < 64 * 8 - 64 + 64
    omega)
  rw [e]
  refine Memref.write_access_unit_zero_univ (Elt F) main_call0_v14 (funext fun a => ?_) _ _ _
  match a with
  | ⟨0, _⟩ => rfl
  | ⟨1, _⟩ => rfl
  | ⟨2, _⟩ => rfl

theorem ins_final (c : Dev nD) (w : Fin cfg0.W) (hw : w ≠ 8) (n : ℕ) (G) (h : (lstmRDat V c).ArrAt w n G) :
    G = V c (Pipeline.arrRef spec0 w) := by
  have hin : (cfg0.win w).isOut = false := by
    clear h G
    revert w; decide
  rw [(lstmRDat V c).ArrAt_in w hin] at h
  exact h

/-- The arrays when the call ends. -/
def leftAt (c : Dev nD) : (w : Fin cfg0.W) → Buf (Elt F) ((cfg0.win w).arr.view.loc (c.tc : Thread nD τ)) := fun w =>
  match w with
  | ⟨8, _⟩ => (keptAt V c 9).1
  | w => V c (Pipeline.arrRef spec0 w)

theorem arrays_final (c : Dev nD) : ((lstmRDat V c).arraysAt cfg0.N : sProp 𝕄) ⊢ (lstmDat V c).arrays (leftAt V c) := by
  unfold RDat.arraysAt Dat.arrays
  refine bigSep_mono fun w _ => ?_
  show iprop(∃ G, ⌜(lstmRDat V c).ArrAt w cfg0.N G⌝ ∗ (cfg0.win w).arr.view.loc (c.tc : Thread nD τ) ↦[(cfg0.win w).arr.view.set]{(lstmRDat V c).share w} G)
    ⊢ ((cfg0.win w).arr.view.loc (c.tc : Thread nD τ) ↦[(cfg0.win w).arr.view.set]{(lstmDat V c).share w} leftAt V c w : sProp 𝕄)
  iintro ⟨%G, %hG, H⟩
  have e : G = leftAt V c w := by
    by_cases h8 : w = 8
    · subst h8; exact ctx_final V c G hG
    · refine (ins_final V c w h8 _ G hG).trans ?_
      match w, h8 with
      | 0, _ => rfl
      | 1, _ => rfl
      | 2, _ => rfl
      | 3, _ => rfl
      | 4, _ => rfl
      | 5, _ => rfl
      | 6, _ => rfl
      | 7, _ => rfl
      | 8, h => exact absurd rfl h
  rw [e]
  iexact H

end Cert.KernelIdeal.Runs
end
-- ==== Proof.Run.lean ====
/- The whole program's run: both calls as segments over the contents of the unscoped buffers between the host stretches, and
the run's post: every argument unchanged, both results what the last valuation says, every semaphore counter at zero.
Stated at any float carrier. -/
module

public import proofs.«01_k».proof.Proof.LstmExit
public import proofs.«01_k».proof.Proof.Gen.KernelIdeal.Regions
public import Idealize.ShloMosaic.Lib.Pipeline.RegionsLoop

@[expose] public section

set_option maxRecDepth 16384

noncomputable section

namespace Cert.KernelIdeal.Runs

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the calls leave -/

/-- The recurrent call's entry contents. -/
def entry0 (c : Dev nD) (b : Ref sig .tc) : Buf (Elt F) ((c : Thread nD τ).loc b) := V1 m c b

/-- What the recurrent call leaves: the context. -/
def left0 : Outs (F := F) := fun _ r c => (Function.update (V1 m c) main_call0_v14 (keptAt (entry0 m) c 9).1) r

/-- The fusion call's entry contents. -/
def entry1 (c : Dev nD) (b : Ref sig .tc) : Buf (Elt F) ((c : Thread nD τ).loc b) := V3 m (left0 m) c b

/-- What both calls leave. -/
def left : Outs (F := F) := fun n r c => match n with
  | 4 => (Function.update (Function.update (V3 m (left0 m) c) main_call0_v16_0 ((fusionDat (entry1 m) c).arrAt 5 cfg1.N))
      main_call0_v16_1 ((fusionDat (entry1 m) c).arrAt 6 cfg1.N)) r
  | _ => left0 m 2 r c

theorem left_ctx (c : Dev nD) : left m 2 main_call0_v14 c = (keptAt (entry0 m) c 9).1 := by
  show (Function.update (V1 m c) main_call0_v14 (keptAt (entry0 m) c 9).1) main_call0_v14 = _
  rw [Function.update_self]

theorem left_weight (c : Dev nD) : left m 4 main_call0_v16_1 c = (fusionDat (entry1 m) c).arrAt 6 cfg1.N := by
  show (Function.update (Function.update (V3 m (left0 m) c) main_call0_v16_0 _) main_call0_v16_1 _) main_call0_v16_1 = _
  rw [Function.update_self]

theorem left_fused (c : Dev nD) : left m 4 main_call0_v16_0 c = (fusionDat (entry1 m) c).arrAt 5 cfg1.N := by
  show (Function.update (Function.update (V3 m (left0 m) c) main_call0_v16_0 _) main_call0_v16_1 _) main_call0_v16_0 = _
  rw [Function.update_of_ne (StableHlo.devRef_ne_of_ne (by decide)), Function.update_self]

theorem entry1_eq (c : Dev nD) (b : Ref sig .tc) : V3 m (left m) c b = entry1 m c b := rfl

/-! ## The segments -/

/-- Both calls' data, the recurrent call's read exactly (for the shape of its arrays only). -/
def pdats : (p : Fin 2) → (c : Dev nD) → Dat τ (Elt F) Unit ℕ (UR sig nD τ) ℕ (Pipeline.pin (pcfgs (F := F)) adm p) c
  | ⟨0, _⟩ => fun c => lstmDat (entry0 m) c
  | ⟨1, _⟩ => fun c => fusionDat (entry1 m) c

/-- Both calls' data as the run uses them. -/
def rdats : (p : Fin 2) → (c : Dev nD) → RDat τ (Elt F) Unit ℕ (UR sig nD τ) ℕ (Pipeline.pin (pcfgs (F := F)) adm p) c
  | ⟨0, _⟩ => fun c => lstmRDat (entry0 m) c
  | ⟨1, _⟩ => fun c => (fusionDat (entry1 m) c).toR

abbrev noWaits : GSem nD τ sig → Finset Unit := fun _ => ∅
abbrev noLevels : GSem nD τ sig → Unit → ℕ := fun _ _ => 0

/-- What rides along: the generator register, and nothing owed. -/
abbrev aside (c : Dev nD) : sProp 𝕄 := iprop((∃ r, prngReg c r) ∗ ∃ W, owes (c : Thread nD τ) (0 : CellTallies nD τ sig Unit) W)

/-- Every unscoped buffer at a valuation, and what rides along. -/
abbrev at_ (W : Dev nD → Valuation τ sig (Elt F)) (c : Dev nD) : sProp 𝕄 :=
  iprop(StableHlo.held (c : Thread nD τ) (Pipeline.ucRefs τ sig) (W c) ∗ aside c)

theorem scratch_in (c : Dev nD) : (Pipeline.scopedRest (Ix := Unit) (Name := ℕ) (U := UR sig nD τ) (Lvl := ℕ) (Val := Elt F) spec0 c : sProp 𝕄)
    ⊢ iprop(scratchAt (entry0 m) c 0 ∗ otherScoped c) := by
  rw [scopedRest0_eq]
  unfold scratchAt otherScoped someOf
  simp only [owns_whole]
  iintro ⟨⟨%f0, S0⟩, ⟨%f1, S1⟩, ⟨%f2, S2⟩, ⟨%f3, S3⟩, ⟨%f4, S4⟩, ⟨%f5, S5⟩, ⟨%f6, S6⟩, R0, R1, R2, R3, R4, R5, R6, R7, R8, R9, R10⟩
  isplitl [S0 S1 S2 S3 S4 S5 S6]
  · iexists f0, f2, (f3, f4, f5, f6)
    isplitr
    · ipureintro; exact fun h => absurd rfl h
    isplitl [S0]; · iexact S0
    isplitl [S1]; · iexists _; iexact S1
    isplitl [S2]; · iexact S2
    isplitl [S3]; · iexact S3
    isplitl [S4]; · iexact S4
    isplitl [S5]; · iexact S5
    iexact S6
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  iexact R10

theorem scratch_out (c : Dev nD) (n : ℕ) : iprop(scratchAt (entry0 m) c n ∗ otherScoped c)
    ⊢ (Pipeline.scopedRest (Ix := Unit) (Name := ℕ) (U := UR sig nD τ) (Lvl := ℕ) (Val := Elt F) spec0 c : sProp 𝕄) := by
  rw [scopedRest0_eq]
  unfold scratchAt otherScoped someOf
  simp only [owns_whole]
  iintro ⟨⟨%g, %o, %a, -, S0, ⟨%d, S1⟩, S2, S3, S4, S5, S6⟩, R0, R1, R2, R3, R4, R5, R6, R7, R8, R9, R10⟩
  isplitl [S0]; · iexists _; iexact S0
  isplitl [S1]; · iexists _; iexact S1
  isplitl [S2]; · iexists _; iexact S2
  isplitl [S3]; · iexists _; iexact S3
  isplitl [S4]; · iexists _; iexact S4
  isplitl [S5]; · iexists _; iexact S5
  isplitl [S6]; · iexists _; iexact S6
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  iexact R10

theorem left0_arrays (c : Dev nD) (w : Fin cfg0.W) : leftAt (entry0 m) c w = V2 m (left m) c (Pipeline.arrRef spec0 w) := by
  match w with
  | 0 => exact (V2_of m (left m) c (Pipeline.arrRef spec0 0) (by decide)).symm
  | 1 => exact (V2_of m (left m) c (Pipeline.arrRef spec0 1) (by decide)).symm
  | 2 => exact (V2_of m (left m) c (Pipeline.arrRef spec0 2) (by decide)).symm
  | 3 => exact (V2_of m (left m) c (Pipeline.arrRef spec0 3) (by decide)).symm
  | 4 => exact (V2_of m (left m) c (Pipeline.arrRef spec0 4) (by decide)).symm
  | 5 => exact (V2_of m (left m) c (Pipeline.arrRef spec0 5) (by decide)).symm
  | 6 => exact (V2_of m (left m) c (Pipeline.arrRef spec0 6) (by decide)).symm
  | 7 => exact (V2_of m (left m) c (Pipeline.arrRef spec0 7) (by decide)).symm
  | 8 =>
    show (keptAt (entry0 m) c 9).1 = Function.update (V1 m c) main_call0_v14 (left m 2 main_call0_v14 c) main_call0_v14
    rw [Function.update_self, left_ctx]

theorem left0_rest (c : Dev nD) (b : Ref sig .tc) (h : b ∉ Finset.univ.image (Pipeline.arrRef spec0)) : V2 m (left m) c b = entry0 m c b :=
  V2_of m (left m) c b fun hb => h (Finset.mem_image.mpr ⟨8, Finset.mem_univ _, (List.mem_singleton.mp hb).symm⟩)

theorem left1_arrays (c : Dev nD) (w : Fin cfg1.W) : (fusionDat (entry1 m) c).arrAt w cfg1.N = V4 m (left m) c (Pipeline.arrRef spec1 w) := by
  match w with
  | 0 => exact ((fusionDat (entry1 m) c).arrAt_in 0 rfl _).trans ((fusionDat_A (entry1 m) c 0).trans (V4_of m (left m) c (Pipeline.arrRef spec1 0) (by decide)).symm)
  | 1 => exact ((fusionDat (entry1 m) c).arrAt_in 1 rfl _).trans ((fusionDat_A (entry1 m) c 1).trans (V4_of m (left m) c (Pipeline.arrRef spec1 1) (by decide)).symm)
  | 2 => exact ((fusionDat (entry1 m) c).arrAt_in 2 rfl _).trans ((fusionDat_A (entry1 m) c 2).trans (V4_of m (left m) c (Pipeline.arrRef spec1 2) (by decide)).symm)
  | 3 => exact ((fusionDat (entry1 m) c).arrAt_in 3 rfl _).trans ((fusionDat_A (entry1 m) c 3).trans (V4_of m (left m) c (Pipeline.arrRef spec1 3) (by decide)).symm)
  | 4 => exact ((fusionDat (entry1 m) c).arrAt_in 4 rfl _).trans ((fusionDat_A (entry1 m) c 4).trans (V4_of m (left m) c (Pipeline.arrRef spec1 4) (by decide)).symm)
  | 5 =>
    show _ = Function.update (Function.update (V3 m (left m) c) main_call0_v16_0 _) main_call0_v16_1 _ main_call0_v16_0
    rw [Function.update_of_ne (StableHlo.devRef_ne_of_ne (by decide)), Function.update_self, left_fused]
  | 6 =>
    show _ = Function.update (Function.update (V3 m (left m) c) main_call0_v16_0 _) main_call0_v16_1 _ main_call0_v16_1
    rw [Function.update_self, left_weight]

theorem left1_rest (c : Dev nD) (b : Ref sig .tc) (h : b ∉ Finset.univ.image (Pipeline.arrRef spec1)) : V4 m (left m) c b = entry1 m c b :=
  V4_of m (left m) c b fun hb => h (Finset.mem_image.mpr (by
    rcases List.mem_cons.mp hb with rfl | hb
    · exact ⟨5, Finset.mem_univ _, rfl⟩
    · exact ⟨6, Finset.mem_univ _, (List.mem_singleton.mp hb).symm⟩))

set_option backward.isDefEq.respectTransparency.types false in
/-- The recurrent call as a segment. -/
def call0 : RDat.RegionSeg (pcfgs (F := F)) adm (rdats m) () defs₀ Variants.none noWaits noLevels 0 where
  win := launch0.win.to₀
  block_pos := launch0.block_pos
  stage_whole := launch0.stage_whole
  K := PEmpty
  osem k := k.elim
  ho := Pipeline.OwnSemFacts.none _
  hbody c := (lstm_obligation (entry0 m) c).toRRel
  hwaits := RDat.hwaits_of_owed_zero _ _ _ _ noWaits noLevels 0 fun _ _ => rfl
  pre := at_ (V1 m)
  post := at_ (V2 m (left m))
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := RDat.arrays_of_unscopedBufs (p := 0) (pcfgs (F := F)) adm (rdats m) launch0.win launch0.arr_whole c
      (fun w => (pdats m 0 c).share_full (fun _ => rfl) w) (entry0 m c) (fun _ => rfl)
    rw [show unscopedBufs c (entry0 m c) = StableHlo.held (c : Thread nD τ) (Pipeline.ucRefs τ sig) ((V1 m) c) from Pipeline.unscopedBufs_held c ((V1 m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = iprop(scratchAt (entry0 m) c 0 ∗ otherScoped c ∗ ∃ r, prngReg c r) from rfl]
    iintro ⟨Hp, -, Hr⟩
    ihave Hr := scratch_in m c $$ Hr
    icases Hr with ⟨Hs, Ho⟩
    isplitl [Hs]; · iexact Hs
    isplitl [Ho]; · iexact Ho
    iexact Hp
  hout c := by
    rw [Pipeline.ownSems0_none, show (rdats m 0 c).Φ (Fin.last _) = iprop(scratchAt (entry0 m) c cfg0.N ∗ otherScoped c ∗ ∃ r, prngReg c r) from rfl]
    iintro ⟨Hs, Ho, Hp⟩
    isplitl [Hp]; · iexact Hp
    isplitr; · iempintro
    iapply (scratch_out m c cfg0.N)
    isplitl [Hs] <;> iassumption
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (fun b => (V2 m (left m)) c b) (leftAt (entry0 m) c) (left0_arrays m c) (left0_rest m c)
    rw [Pipeline.unscopedBufs_held] at hjoin
    have hleft : ((rdats m 0 c).arraysAt (Pipeline.pin (pcfgs (F := F)) adm 0).N : sProp 𝕄) ⊢ (pdats m 0 c).arrays (leftAt (entry0 m) c) := arrays_final (entry0 m) c
    iintro ⟨Ha, HO, HY, Hrest⟩
    ihave Ha := hleft $$ Ha
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- The fusion call as a segment. -/
def call1 : RDat.RegionSeg (pcfgs (F := F)) adm (rdats m) () defs₀ Variants.none noWaits noLevels 1 where
  win := launch1.win.to₀
  block_pos := launch1.block_pos
  stage_whole := launch1.stage_whole
  K := PEmpty
  osem k := k.elim
  ho := Pipeline.OwnSemFacts.none _
  hbody c := (fusion_obligation (entry1 m) c).loose.toR
  hwaits := RDat.hwaits_of_owed_zero _ _ _ _ noWaits noLevels 1 fun _ _ => rfl
  pre := at_ (V3 m (left m))
  post := at_ (V4 m (left m))
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := RDat.arrays_of_unscopedBufs (p := 1) (pcfgs (F := F)) adm (rdats m) launch1.win launch1.arr_whole c
      (fun w => (pdats m 1 c).share_full (fun _ => rfl) w) (entry1 m c) (fun _ => rfl)
    rw [show unscopedBufs c (entry1 m c) = StableHlo.held (c : Thread nD τ) (Pipeline.ucRefs τ sig) ((V3 m (left m)) c) from Pipeline.unscopedBufs_held c ((V3 m (left m)) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (fun b => (V4 m (left m)) c b) (((fusionDat (entry1 m) c).arrAt · cfg1.N)) (left1_arrays m c) (left1_rest m c)
    rw [Pipeline.unscopedBufs_held] at hjoin
    have hleft : ((rdats m 1 c).arraysAt (Pipeline.pin (pcfgs (F := F)) adm 1).N : sProp 𝕄) ⊢ (pdats m 1 c).arrays (((fusionDat (entry1 m) c).arrAt · cfg1.N)) := Entails.of_eq ((fusionDat (entry1 m) c).toR_arraysAt_eq cfg1.N)
    iintro ⟨Ha, HO, HY, Hrest⟩
    ihave Ha := hleft $$ Ha
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

/-- A host stretch as a segment. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noWaits noLevels :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W aside

/-- The program's segments. -/
abbrev parts (_ : Dev nD) : List (RDat.Seg (pcfgs (F := F)) adm (rdats m) () defs₀ Variants.none noWaits noLevels) :=
  [.host (stretch hostOps0 hostOps0_sub hostOps0_fresh (V0 m)), .region (call0 m),
   .host (stretch hostOps1 hostOps1_sub hostOps1_fresh (V2 m (left m))), .region (call1 m),
   .host (stretch hostOps2 hostOps2_sub hostOps2_fresh (V4 m (left m)))]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The program's run. -/
theorem run : θ_run defs (onTc (τ := τ) (main (F := F))) ⟨m, fun _ => 0, ρ⟩ (fun r => (∀ c : Dev nD, ∀ b ∈ Pipeline.ucRefs τ sig,
      r.2.mem ((c : Thread nD τ).1, b) = V5 m (left m) c b) ∧ r.2.sem = fun _ => 0) := by
  refine RDat.θ_run_regions_kit_dev_sems (pcfgs (F := F)) adm (rdats m) () cellOf_inj emb₁ defs₀ Variants.none noWaits noLevels m ρ main (parts m)
    (fun c Q => by
      rewrite [main_chain c, RDat.Seg.run_eq_chain,
        show (parts m c).map RDat.Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [parts, RDat.Seg.pipes_host, RDat.Seg.pipes_region, RDat.Seg.pipes_nil]; decide)
    (O₀ := 0) (hL := fun _ _ => rfl) (G := fun _ => iprop(emp))
    (u₀ := initOf (Pipeline.cells cfgs cellOf_inj) (Pipeline.launchToks cfgs cellOf_inj))
    (hu₀ := ?_) (T₀ := at_ (V0 m))
    (Tₙ := fun c => iprop(StableHlo.held (c : Thread nD τ) (Pipeline.ucRefs τ sig) (V5 m (left m) c) ∗ ∃ r, prngReg c r))
    (hch := fun c => ⟨.rfl, .rfl, .rfl, .rfl, .rfl, ?_⟩) (hinit := ?_)
    (QY := fun c s => ∀ b ∈ Pipeline.ucRefs τ sig, s.mem ((c : Thread nD τ).1, b) = V5 m (left m) c b)
    (hfin := fun c s' => ?_) (hQ := fun _ h hz => ⟨h, funext fun g => hz g (.inr (regions_no_unscoped g.2))⟩)
  · iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · show iprop(StableHlo.held (c : Thread nD τ) (Pipeline.ucRefs τ sig) (V5 m (left m) c) ∗ aside c)
      ⊢ (iprop((StableHlo.held (c : Thread nD τ) (Pipeline.ucRefs τ sig) (V5 m (left m) c) ∗ ∃ r, prngReg c r) ∗ ∃ W, owes (c : Thread nD τ) (0 : CellTallies nD τ sig Unit) W) : sProp 𝕄)
    iintro ⟨Hh, Hp, HO⟩
    isplitl [Hh Hp]
    · isplitl [Hh]; · iexact Hh
      iexact Hp
    iexact HO
  · refine Pipeline.initEach noWaits noLevels fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · iintro ⟨⟨Hh, -⟩, HSI⟩
    unfold StableHlo.held
    imodintro
    iapply (pointsTo_read_all (Pipeline.ucRefs τ sig) (fun b => (((c : Thread nD τ)).1, b)) (V5 m (left m) c) s')
    isplitl [Hh] <;> iassumption

/-- The frame: every argument as launched, every semaphore counter at zero. -/
theorem frame_run : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun _ h => ⟨fun c => ⟨
    (h.1 c _ (mem_uc main_arg0 (by decide))).trans (V5_main_arg0 m (left m) c),
    (h.1 c _ (mem_uc main_arg1 (by decide))).trans (V5_main_arg1 m (left m) c),
    (h.1 c _ (mem_uc main_arg2 (by decide))).trans (V5_main_arg2 m (left m) c),
    (h.1 c _ (mem_uc main_arg3 (by decide))).trans (V5_main_arg3 m (left m) c),
    (h.1 c _ (mem_uc main_arg4 (by decide))).trans (V5_main_arg4 m (left m) c),
    (h.1 c _ (mem_uc main_arg5 (by decide))).trans (V5_main_arg5 m (left m) c),
    (h.1 c _ (mem_uc main_arg6 (by decide))).trans (V5_main_arg6 m (left m) c),
    (h.1 c _ (mem_uc main_arg7 (by decide))).trans (V5_main_arg7 m (left m) c),
    (h.1 c _ (mem_uc main_arg8 (by decide))).trans (V5_main_arg8 m (left m) c),
    (h.1 c _ (mem_uc main_arg9 (by decide))).trans (V5_main_arg9 m (left m) c),
    (h.1 c _ (mem_uc main_arg10 (by decide))).trans (V5_main_arg10 m (left m) c),
    (h.1 c _ (mem_uc main_arg11 (by decide))).trans (V5_main_arg11 m (left m) c),
    (h.1 c _ (mem_uc main_arg12 (by decide))).trans (V5_main_arg12 m (left m) c)⟩, h.2⟩) (run m ρ)

end Cert.KernelIdeal.Runs
end
-- ==== Proof.Frames.lean ====
/- The frames: each of the three programs runs to the end, leaves its arguments as they were, and every counter at zero. -/
module

public import proofs.«01_k».proof.Defs
public import proofs.«01_k».proof.Proof.Run
public import proofs.«01_k».proof.Proof.Bits.Run
public import proofs.«01_k».proof.Proof.Gen.ReferenceIdeal.Run
public import Idealize.ShloMosaic.Lib.Quiescent

@[expose] public section

set_option maxRecDepth 16384
noncomputable section

namespace Cert.Proof

open Idealize.ShloMosaic Idealize.SL.Sem

/-- The kernel on floats, -/
theorem frame_bits : Cert.quiescent_Kernel (hKernel := Cert.Kernel.Gen.facts) := fun m g _ =>
  Cert.Kernel.Runs.frame_run m g

/-- over the extended reals, -/
theorem frame_ideal : Cert.quiescent_KernelIdeal (hKernelIdeal := Cert.KernelIdeal.Gen.facts) := fun m g _ =>
  Cert.KernelIdeal.Runs.frame_run m g

/-- and the reference: the values its run settles are not asked for here. -/
theorem frame_reference : Cert.quiescent_ReferenceIdeal (hReferenceIdeal := Cert.ReferenceIdeal.Gen.facts) := fun m g _ =>
  (θ_run _ _ _).mono (fun r h => ⟨fun c => (h c).2.2, sem_eq_zero_of_no_sems (by decide) r.2⟩)
    (Cert.ReferenceIdeal.Value.run m g)

end Cert.Proof
end
-- ==== Proof.IdealStep.lean ====
/- A step over the extended reals: the masks are one up to a row's length and zero beyond, a step under a zero mask
changes nothing, and the greatest length as a word is at least each length. -/
module

public import proofs.«01_k».proof.Proof.LstmModel
public import Idealize.ShloMosaic.Lib.Pointwise

@[expose] public section

set_option maxRecDepth 16384

noncomputable section

namespace Cert.KernelIdeal.Runs

open Cert.KernelIdeal Cert.KernelIdeal.Gen
open Idealize.ShloMosaic Idealize.ShloMosaic.TcCoe

/-! ## The masks -/

/-- The lengths as a column of numbers. -/
def lensVec (L : Fin 16 → BitVec 32) : FVec Ideal S16x1 .f32 := fun j => (((L (j 0)).toInt : ℝ) : EReal)

/-- The mask of time `t`. -/
def msk (L : Fin 16 → BitVec 32) (t : ℕ) : FVec Ideal S16x1 .f32 := fun j => if (t : ℤ) < (L (j 0)).toInt then (1 : EReal) else 0

/-- The zero mask. -/
def msk0 : FVec Ideal S16x1 .f32 := fun _ => (0 : EReal)

/-- Some row is longer than `t`. -/
def Live (L : Fin 16 → BitVec 32) (t : ℕ) : Prop := ∃ b, (t : ℤ) < (L b).toInt

theorem msk_dead {L : Fin 16 → BitVec 32} {t : ℕ} (h : ¬ Live L t) : msk L t = msk0 := by
  funext j
  exact if_neg fun hj => h ⟨j 0, hj⟩

theorem base0_int : ∀ b : Fin 9, (Scalar.muli (BitVec.ofNat 32 b.val) 64#32).toInt = 64 * (b.val : ℤ) := by decide

theorem base1_int : ∀ b : Fin 9, (Scalar.muli (Scalar.subi (BitVec.ofNat 32 b.val) 1#32) 64#32).toInt = 64 * (b.val : ℤ) - 64 := by
  decide

theorem step_int : ∀ (k : Fin 4) (r : Fin 16), (stepW k.val r.val).toInt = 16 * (k.val : ℤ) + r.val := by decide

theorem time0 (i : grid0.Coords) (k : Fin 4) (r : Fin 16) :
    timeAt (F := Ideal) (base0 i) (stepW k.val r.val) = (((64 * ((i 0).val : ℤ) + (16 * (k.val : ℤ) + r.val) : ℤ) : ℝ) : EReal) := by
  show (((Scalar.muli (BitVec.ofNat 32 (i 0).val) 64#32).toInt : ℝ) : EReal) + (((stepW k.val r.val).toInt : ℝ) : EReal) = _
  rw [base0_int ⟨(i 0).val, i_lt i⟩, step_int]
  rw [← EReal.coe_add]; norm_cast

theorem time1 (i : grid0.Coords) (k : Fin 4) (r : Fin 16) :
    timeAt (F := Ideal) (base1 i) (stepW k.val r.val)
      = (((64 * ((i 0).val : ℤ) - 64 + (16 * (k.val : ℤ) + r.val) : ℤ) : ℝ) : EReal) := by
  show (((Scalar.muli (Scalar.subi (BitVec.ofNat 32 (i 0).val) 1#32) 64#32).toInt : ℝ) : EReal)
    + (((stepW k.val r.val).toInt : ℝ) : EReal) = _
  rw [base1_int ⟨(i 0).val, i_lt i⟩, step_int]
  rw [← EReal.coe_add]; norm_cast

/-- A decided bit as a number. -/
theorem bit_num (p : Prop) [Decidable p] :
    (((((BitVec.ofBool (decide p)).setWidth 32).toInt : ℤ) : ℝ) : EReal) = if p then 1 else 0 := by
  by_cases h : p
  · rw [if_pos h, decide_eq_true h]
    have : ((BitVec.ofBool true).setWidth 32).toInt = 1 := by decide
    rw [this]; norm_num
  · rw [if_neg h, decide_eq_false h]; norm_num

/-- Layer 0's mask at a step, -/
theorem mask0_ideal (L : Fin 16 → BitVec 32) (i : grid0.Coords) (k : Fin 4) (r : Fin 16) :
    mask0 (lensVec L) (base0 i) (stepW k.val r.val) = msk L (64 * (i 0).val + (16 * k.val + r.val)) := by
  funext j
  show (((((BitVec.ofBool (decide (timeAt (F := Ideal) (base0 i) (stepW k.val r.val) < lensVec L j))).setWidth 32).toInt : ℤ) : ℝ) : EReal) = _
  rw [bit_num, time0]
  unfold lensVec msk
  simp only [EReal.coe_lt_coe_iff, Int.cast_lt]
  push_cast
  rfl

/-- and layer 1's: before its first block the zero mask. -/
theorem mask1_ideal (L : Fin 16 → BitVec 32) (i : grid0.Coords) (k : Fin 4) (r : Fin 16) :
    mask1 (lensVec L) (base1 i) (stepW k.val r.val)
      = if (i 0).val = 0 then msk0 else msk L (64 * (i 0).val + (16 * k.val + r.val) - 64) := by
  funext j
  have hz : Ideal.ofBits .f32 0x00000000#32 = (0 : EReal) := by pointwise
  have e : mask1 (lensVec L) (base1 i) (stepW k.val r.val) j
      = (((((BitVec.ofBool (decide (0 ≤ timeAt (F := Ideal) (base1 i) (stepW k.val r.val)
        ∧ timeAt (F := Ideal) (base1 i) (stepW k.val r.val) < lensVec L j))).setWidth 32).toInt : ℤ) : ℝ) : EReal) := by
    rw [← hz, Bool.decide_and, ← BitVec.ofBool_and_ofBool]
    rfl
  rw [e, bit_num, time1]
  have hk := k.isLt
  have hr := r.isLt
  by_cases h0 : (i 0).val = 0
  · rw [if_pos h0, if_neg]
    · rfl
    · rintro ⟨h, -⟩
      have h' : (0 : ℤ) ≤ 64 * ((i 0).val : ℤ) - 64 + (16 * (k.val : ℤ) + r.val) := by exact_mod_cast h
      omega
  · rw [if_neg h0]
    unfold lensVec msk
    simp only [EReal.coe_lt_coe_iff, Int.cast_lt]
    have h1 : (0 : EReal) ≤ (((64 * ((i 0).val : ℤ) - 64 + (16 * (k.val : ℤ) + r.val) : ℤ) : ℝ) : EReal) := by
      have : (0 : ℤ) ≤ 64 * ((i 0).val : ℤ) - 64 + (16 * (k.val : ℤ) + r.val) := by omega
      exact_mod_cast this
    have h2 : ((64 * (i 0).val + (16 * k.val + r.val) - 64 : ℕ) : ℤ) = 64 * ((i 0).val : ℤ) - 64 + (16 * (k.val : ℤ) + r.val) := by omega
    rw [h2]
    simp only [h1, true_and]

/-! ## The greatest length -/

theorem fptosi_int (w : BitVec 32) : Ideal.fptosi 32 ((w.toInt : ℝ) : EReal) = w := by
  have h1 := w.toInt_lt; have h2 := w.le_toInt
  unfold Ideal.fptosi
  rw [Ideal.toIntClamped_coe, Int.floor_intCast, Int.ceil_intCast, ite_self, min_eq_right, max_eq_right, BitVec.ofInt_toInt]
  · push_cast; norm_num at h2 ⊢; omega
  · push_cast; norm_num at h1 ⊢; omega

theorem neg_inf : Ideal.ofBits .f32 0xFF800000#32 = (⊥ : EReal) := by
  simp [Ideal.ofBits, Ideal.ieee]

theorem lenWord_ge (L : Fin 16 → BitVec 32) (x1 : Vec Ideal S16x1 .f32) (h : lensOf x1 = lensVec L) (b : Fin 16) :
    (L b).toInt ≤ (lenWord x1).toInt := by
  obtain ⟨b0, hb0⟩ := Finite.exists_max fun b => (L b).toInt
  have e : k0_pay572 (F := Ideal) (View.ld x1 wholeLen) = (((L b0).toInt : ℝ) : EReal) := by
    have h' : k0_pay571 (F := Ideal) (View.ld x1 wholeLen) = lensVec L := h
    unfold k0_pay572
    rw [h']
    unfold lensVec
    pointwise
    apply le_antisymm
    · rw [Finset.fold_max_le]
      refine ⟨by rw [neg_inf]; exact bot_le, fun x _ => ?_⟩
      exact_mod_cast hb0 x.1
    · rw [Finset.le_fold_max]
      exact Or.inr ⟨(b0, 0), Finset.mem_univ _, le_refl _⟩
  have : lenWord x1 = L b0 := by
    unfold lenWord; rw [e]; exact fptosi_int _
  rw [this]; exact hb0 b

/-! ## Steps under the zero mask -/

theorem spread_zero (x : FVec Ideal S16x256 .f32) : mulf (spread msk0) x = fun _ => (0 : EReal) := by
  funext j
  unfold spread msk0
  pointwise
  exact zero_mul (M₀ := EReal) _

theorem blend_zero (new old : FVec Ideal S16x256 .f32) : blend msk0 new old = old := by
  funext j
  unfold blend spread spreadNot msk0
  pointwise
  simp

theorem layer_zero (g : Vec Ideal S16x1024 .bf16) (w : Vec Ideal S256x1024 .bf16) (s : Vec Ideal S16x256 .f32 × Vec Ideal S16x256 .f32) :
    layer msk0 g w s = s := by
  unfold layer
  rw [blend_zero, blend_zero]

theorem emit0_zero (x : FVec Ideal S16x256 .f32) : emit0 msk0 x = fun _ => (0 : EReal) := by
  unfold emit0; rw [spread_zero]; funext j; pointwise

theorem emit1_zero (x : FVec Ideal S16x256 .f32) : emit1 msk0 x = fun _ => (0 : EReal) := by
  unfold emit1; rw [spread_zero]; funext j; pointwise

end Cert.KernelIdeal.Runs
end
-- ==== Proof.IdealModel.lean ====
/- The recurrence as it stands over time: both layers' states step by step, layer 0's masked output and the context rows,
with no blocks, no trips and no stale rows; and that a step no row is long enough for changes nothing. -/
module

public import proofs.«01_k».proof.Proof.IdealStep

@[expose] public section

set_option maxRecDepth 16384

noncomputable section

namespace Cert.KernelIdeal.Runs

open Cert.KernelIdeal Cert.KernelIdeal.Gen
open Idealize.ShloMosaic Idealize.ShloMosaic.TcCoe

/-- Hidden and cell state of one layer. -/
abbrev Pair : Type := Vec Ideal S16x256 .f32 × Vec Ideal S16x256 .f32

/-- A layer's input times its weights, plus the bias. -/
def prod {φ ψ : FTy} (x : FVec Ideal S16x256 φ) (w : FVec Ideal S256x1024 ψ) (b : FVec Ideal S1x1024 .f32) : FVec Ideal S16x1024 .bf16 :=
  fun j => (∑ k : Fin 256, (x (ix2 (j 0) k) : EReal) * (w (ix2 k (j 1)) : EReal)) + (b (ix2 0 (j 1)) : EReal)

section
variable (L : Fin 16 → BitVec 32) (X : ℕ → FVec Ideal S16x1024 .bf16) (w : Vec Ideal S256x1024 .bf16)

/-- A layer's state before time `t`, from its gate products over time. -/
def states : ℕ → Pair
  | 0 => (fun _ => (0 : EReal), fun _ => (0 : EReal))
  | t + 1 => layer (msk L t) (X t) w (states t)

/-- Its new hidden state at time `t`, before the mask. -/
def fresh (t : ℕ) : FVec Ideal S16x256 .f32 := cellH (states L X w t).1 (states L X w t).2 (X t) w

/-- Layer 0's output at time `t`, -/
def outs (t : ℕ) : FVec Ideal S16x256 .bf16 := emit0 (msk L t) (fresh L X w t)

/-- and layer 1's, a row of the context. -/
def rows (t : ℕ) : FVec Ideal S1x16x256 .f32 := emit1 (msk L t) (fresh L X w t)

theorem states_dead {t : ℕ} (h : ¬ Live L t) : states L X w (t + 1) = states L X w t := by
  show layer (msk L t) (X t) w _ = _
  rw [msk_dead h, layer_zero]

theorem outs_dead {t : ℕ} (h : ¬ Live L t) : outs L X w t = fun _ => (0 : EReal) := by
  unfold outs; rw [msk_dead h, emit0_zero]

theorem rows_dead {t : ℕ} (h : ¬ Live L t) : rows L X w t = fun _ => (0 : EReal) := by
  unfold rows; rw [msk_dead h, emit1_zero]

/-- Layer 1's gate products over time. -/
def late {ψ : FTy} (w1 : FVec Ideal S256x1024 ψ) (b1 : FVec Ideal S1x1024 .f32) (t : ℕ) : FVec Ideal S16x1024 .bf16 :=
  prod (outs L X w t) w1 b1

end

theorem Live.mono {L : Fin 16 → BitVec 32} {t u : ℕ} (h : Live L t) (hu : u ≤ t) : Live L u := by
  obtain ⟨b, hb⟩ := h
  exact ⟨b, by omega⟩

/-! ## Which trips run -/

theorem clip_live (v : BitVec 32) (c j : ℕ) (hc : c ≤ 512) (hj : j < 64) (h : (c : ℤ) + j < v.toInt) :
    j < (Scalar.minsi 64#32 (Scalar.maxsi 0#32 (Scalar.subi v (BitVec.ofNat 32 c)))).toNat := by
  have h1 := v.toInt_lt
  have hcI : (BitVec.ofNat 32 c).toInt = c := by
    rw [BitVec.toInt_eq_toNat_cond, BitVec.toNat_ofNat, Nat.mod_eq_of_lt (by omega), if_pos (by omega)]
  have hd : (v - BitVec.ofNat 32 c).toInt = v.toInt - c := by
    rw [BitVec.toInt_sub, hcI]; norm_num at h1; exact Int.bmod_eq_of_le (by norm_num; omega) (by norm_num; omega)
  have hs : (v - BitVec.ofNat 32 c).slt 0#32 = false := by
    simp only [BitVec.slt, hd]; simp; omega
  have hn : ((v - BitVec.ofNat 32 c).toNat : ℤ) = v.toInt - c := by
    rw [← hd, BitVec.toInt_eq_toNat_of_msb]
    rw [BitVec.msb_eq_toInt, hd]; simp; omega
  unfold Scalar.minsi Scalar.maxsi Scalar.subi IntOp.minsi IntOp.maxsi IntOp.subi
  simp only [hs, if_false, Bool.false_eq_true]
  split
  · simpa using hj
  · omega

theorem back_word : ∀ b : Fin 9, Scalar.muli (Scalar.maxsi (Scalar.subi (BitVec.ofNat 32 b.val) 1#32) 0#32) 64#32
    = BitVec.ofNat 32 (64 * (b.val - 1)) := by decide

theorem here_word : ∀ b : Fin 9, Scalar.muli (BitVec.ofNat 32 b.val) 64#32 = BitVec.ofNat 32 (64 * b.val) := by decide

section
variable {L : Fin 16 → BitVec 32} {x1 : Vec Ideal S16x1 .f32} (hl : lensOf x1 = lensVec L) (i : grid0.Coords)
include hl

/-- A step with a row long enough, for layer 1, is in a trip that runs. -/
theorem live_trip {j : ℕ} (hj : j < 64) (h : Live L (64 * ((i 0).val - 1) + j)) :
    j < 16 * (k0_t1_loop i (lenWord x1)).trips := by
  obtain ⟨b, hb⟩ := h
  have hg := lenWord_ge L x1 hl b
  have hi := i_lt i
  rw [loop1_trips]
  have : j < cnt i (lenWord x1) := by
    unfold cnt cntW blkW
    rw [back_word ⟨(i 0).val, hi⟩]
    exact clip_live _ _ _ (by omega) hj (by push_cast at hb ⊢; omega)
  unfold groups
  omega

/-- The same for layer 0. -/
theorem live_trip0 {j : ℕ} (hj : j < 64) (h : Live L (64 * (i 0).val + j)) : j < 16 * (k0_t1_loop i (lenWord x1)).trips :=
  live_trip hl i hj (h.mono (by omega))

/-- Layer 0's gate products are computed at a point with a step to do. -/
theorem live_prep (hb : (i 0).val < 8) {j : ℕ} (hj : j < 64) (h : Live L (64 * (i 0).val + j)) : Prep i (lenWord x1) := by
  obtain ⟨b, hL⟩ := h
  have hg := lenWord_ge L x1 hl b
  have hi := i_lt i
  have hc := clip_live (lenWord x1) (64 * (i 0).val) j (by omega) hj (by push_cast at hL ⊢; omega)
  obtain ⟨n, hn⟩ := clip_mem (Scalar.subi (lenWord x1) (BitVec.ofNat 32 (64 * (i 0).val)))
  rw [hn] at hc
  have hn0 : n.val ≠ 0 := by
    intro h0; rw [h0] at hc; simp at hc
  have hp := prep_small ⟨(i 0).val, hb⟩ n hn0
  rw [← hn, ← here_word ⟨(i 0).val, hi⟩] at hp
  exact hp

end

end Cert.KernelIdeal.Runs
end
-- ==== Proof.IdealTrip.lean ====
/- The recurrent loop over the extended reals: trip by trip it carries both layers' states along the recurrence, layer 1
one block behind layer 0, and it stores the recurrence's rows where the trip belongs. -/
module

public import proofs.«01_k».proof.Proof.IdealModel

@[expose] public section

set_option maxRecDepth 16384

noncomputable section

namespace Cert.KernelIdeal.Runs

open Cert.KernelIdeal Cert.KernelIdeal.Gen
open Idealize.ShloMosaic Idealize.ShloMosaic.TcCoe

/-! ## Stores at rows -/

theorem over_append {Val : EltTy → Type} {s : Shape} {e : EltTy} (X : s.Idx → Val e) (A B : List (View.Piece Val s e)) :
    over X (A ++ B) = over (over X B) A := by
  induction A with
  | nil => rfl
  | cons p A ih => show p.1.overlay (over X (A ++ B)) p.2 = _; rw [ih]; rfl

/-- A store of sixteen rows of layer 0's output, read at a row. -/
theorem overlay_out (off : Fin 2 → ℕ) (n : ℕ) (hoff : off = ![16 * n, 0])
    (inb : ∀ a, off a + S16x256.size a ≤ S2048x256.size a) (X : Vec Ideal S2048x256 .bf16) (p : FVec Ideal S16x256 .bf16)
    (q : ℕ) (r : Fin 16) (c : Fin 256) (hq : 16 * q + r.val < 2048) :
    (Rect.unit (s := S2048x256) off S16x256.size inb).overlay X p (ix2 ⟨16 * q + r.val, hq⟩ c)
      = if q = n then p (ix2 r c) else X (ix2 ⟨16 * q + r.val, hq⟩ c) := by
  subst hoff
  by_cases h : q = n
  · subst h
    rw [if_pos rfl]
    have e : (ix2 ⟨16 * q + r.val, hq⟩ c : S2048x256.Idx) = (Rect.unit (s := S2048x256) ![16 * q, 0] S16x256.size inb).emb (ix2 r c) := by
      funext a
      match a with
      | ⟨0, _⟩ => exact Fin.ext (congrArg (16 * q + ·) (Nat.one_mul r.val).symm)
      | ⟨1, _⟩ => exact Fin.ext ((Nat.zero_add _).trans (Nat.one_mul c.val)).symm
    rw [e]
    exact Rect.overlay_emb _ _ _ _
  · rw [if_neg h]
    refine Rect.overlay_of_not_mem _ _ _ fun hm => h ?_
    rw [Rect.mem_set_unit] at hm
    have h0 : 16 * n ≤ 16 * q + r.val ∧ 16 * q + r.val < 16 * n + 16 := hm 0
    have := r.isLt
    omega

/-- A store of one context row, read at a row. -/
theorem overlay_ctx (off : Fin 3 → ℕ) (n : ℕ) (hoff : off = ![n, 0, 0])
    (inb : ∀ a, off a + S1x16x256.size a ≤ S512x16x256.size a) (X : Vec Ideal S512x16x256 .f32) (p : FVec Ideal S1x16x256 .f32)
    (u : Fin 512) (r : Fin 16) (c : Fin 256) :
    (Rect.unit (s := S512x16x256) off S1x16x256.size inb).overlay X p (ix3 u r c)
      = if u.val = n then p (ix3 0 r c) else X (ix3 u r c) := by
  subst hoff
  by_cases h : u.val = n
  · subst h
    rw [if_pos rfl]
    have e : (ix3 u r c : S512x16x256.Idx) = (Rect.unit (s := S512x16x256) ![u.val, 0, 0] S1x16x256.size inb).emb (ix3 0 r c) := by
      funext a
      match a with
      | ⟨0, _⟩ => exact Fin.ext (by show u.val = u.val + 1 * 0; omega)
      | ⟨1, _⟩ => exact Fin.ext ((Nat.zero_add _).trans (Nat.one_mul r.val)).symm
      | ⟨2, _⟩ => exact Fin.ext ((Nat.zero_add _).trans (Nat.one_mul c.val)).symm
    rw [e]
    exact Rect.overlay_emb _ _ _ _
  · rw [if_neg h]
    refine Rect.overlay_of_not_mem _ _ _ fun hm => h ?_
    rw [Rect.mem_set_unit] at hm
    have h0 : n ≤ u.val ∧ u.val < n + 1 := hm 0
    omega

/-- Sixteen gate rows, read at an index. -/
theorem ld_gate (i : grid0.Coords) (v9 : BitVec 32) (k : Fin (k0_t1_loop i v9).trips) (q : Fin 16) (g : Vec Ideal S1024x1024 .bf16)
    (r : Fin 16) (n : Fin 1024) :
    View.ld g (gateRect i v9 k q) (ix2 r n)
      = g (ix2 ⟨16 * (16 * k.val + q.val) + r.val, by have := trip_lt_four i v9 k; have := q.isLt; have := r.isLt; omega⟩ n) := by
  show g ((gateRect i v9 k q).emb (ix2 r n)) = _
  congr 1
  funext a
  have ho := off3_eq i v9 k q
  match a with
  | ⟨0, _⟩ =>
    refine Fin.ext ?_
    show k0_off3 i v9 k (BitVec.ofNat 32 q.val) 0 + 1 * r.val = _
    rw [ho]; show 16 * (16 * k.val + q.val) + 1 * r.val = _; rw [Nat.one_mul]; rfl
  | ⟨1, _⟩ =>
    refine Fin.ext ?_
    show k0_off3 i v9 k (BitVec.ofNat 32 q.val) 1 + 1 * n.val = _
    rw [ho]; show 0 + 1 * n.val = _; rw [Nat.one_mul, Nat.zero_add]; rfl

/-! ## The steps -/

section
variable {L : Fin 16 → BitVec 32} (X0 X1 : ℕ → FVec Ideal S16x1024 .bf16) (w0 w1 : Vec Ideal S256x1024 .bf16)
  (i : grid0.Coords) (v9 : BitVec 32) (g0 g1 : Vec Ideal S1024x1024 .bf16)

/-- The gate products hold the recurrence's where a row is long enough: layer 0's, -/
def Gates0 (L : Fin 16 → BitVec 32) : Prop := (i 0).val < 8 → ∀ t (ht : t < 64) (r : Fin 16) (n : Fin 1024), Live L (64 * (i 0).val + t) →
  g0 (ix2 ⟨16 * t + r.val, by have := r.isLt; omega⟩ n) = X0 (64 * (i 0).val + t) (ix2 r n)

/-- and layer 1's. -/
def Gates1 (L : Fin 16 → BitVec 32) : Prop := (i 0).val ≠ 0 → ∀ t (ht : t < 64) (r : Fin 16) (n : Fin 1024), Live L (64 * (i 0).val + t - 64) →
  g1 (ix2 ⟨16 * t + r.val, by have := r.isLt; omega⟩ n) = X1 (64 * (i 0).val + t - 64) (ix2 r n)

/-- The state after `j` steps of the point's block. -/
def At (L : Fin 16 → BitVec 32) (j : ℕ) (a : Carry Ideal) : Prop :=
  ((i 0).val < 8 → (a.1, a.2.1) = states L X0 w0 (64 * (i 0).val + j)) ∧ (a.2.2.1, a.2.2.2) = states L X1 w1 (64 * (i 0).val + j - 64)

variable {X0 X1 w0 w1 i v9 g0 g1} (h0 : Gates0 X0 i g0 L) (h1 : Gates1 X1 i g1 L) (k : Fin (k0_t1_loop i v9).trips)

include h0 in
theorem gate0_at (r : Fin 16) (hb : (i 0).val < 8) (hL : Live L (64 * (i 0).val + (16 * k.val + r.val))) :
    View.ld g0 (gateRect i v9 k r) = X0 (64 * (i 0).val + (16 * k.val + r.val)) := by
  funext j
  obtain ⟨a, n, rfl⟩ : ∃ (a : Fin 16) (n : Fin 1024), j = ix2 a n := ⟨j 0, j 1, eq_ix2 j⟩
  have hk := trip_lt_four i v9 k
  have hr := r.isLt
  rw [ld_gate]
  exact h0 hb _ (by omega) a n hL

include h1 in
theorem gate1_at (r : Fin 16) (hb : (i 0).val ≠ 0) (hL : Live L (64 * (i 0).val + (16 * k.val + r.val) - 64)) :
    View.ld g1 (gateRect i v9 k r) = X1 (64 * (i 0).val + (16 * k.val + r.val) - 64) := by
  funext j
  obtain ⟨a, n, rfl⟩ : ∃ (a : Fin 16) (n : Fin 1024), j = ix2 a n := ⟨j 0, j 1, eq_ix2 j⟩
  have hk := trip_lt_four i v9 k
  have hr := r.isLt
  rw [ld_gate]
  exact h1 hb _ (by omega) a n hL

theorem masks0 (r : Fin 16) : mask0 (lensVec L) (base0 i) (stepW k.val r.val) = msk L (64 * (i 0).val + (16 * k.val + r.val)) :=
  mask0_ideal L i ⟨k.val, trip_lt_four i v9 k⟩ r

theorem masks1 (r : Fin 16) : mask1 (lensVec L) (base1 i) (stepW k.val r.val)
    = if (i 0).val = 0 then msk0 else msk L (64 * (i 0).val + (16 * k.val + r.val) - 64) :=
  mask1_ideal L i ⟨k.val, trip_lt_four i v9 k⟩ r

include h0 h1 in
/-- One step. -/
theorem at_step (r : Fin 16) {a : Carry Ideal} (ha : At X0 X1 w0 w1 i L (16 * k.val + r.val) a) :
    At X0 X1 w0 w1 i L (16 * k.val + r.val + 1) (stepAt i v9 (lensVec L) (base0 i) (base1 i) w0 w1 g0 g1 k r a) := by
  have hk := trip_lt_four i v9 k
  have hr := r.isLt
  constructor
  · intro hb
    show layer (mask0 (lensVec L) (base0 i) (stepW k.val r.val)) (View.ld g0 (gateRect i v9 k r)) w0 (a.1, a.2.1) = states L X0 w0 _
    rw [ha.1 hb, masks0]
    by_cases hL : Live L (64 * (i 0).val + (16 * k.val + r.val))
    · rw [gate0_at h0 k r hb hL]; rfl
    · rw [msk_dead hL, layer_zero]; exact (states_dead L X0 w0 hL).symm
  · show layer (mask1 (lensVec L) (base1 i) (stepW k.val r.val)) (View.ld g1 (gateRect i v9 k r)) w1 (a.2.2.1, a.2.2.2) = states L X1 w1 _
    rw [ha.2, masks1]
    by_cases hb : (i 0).val = 0
    · rw [if_pos hb, layer_zero]; exact congrArg (states L X1 w1) (by omega)
    · rw [if_neg hb]
      have e : 64 * (i 0).val + (16 * k.val + r.val + 1) - 64 = 64 * (i 0).val + (16 * k.val + r.val) - 64 + 1 := by omega
      rw [e]
      by_cases hL : Live L (64 * (i 0).val + (16 * k.val + r.val) - 64)
      · rw [gate1_at h1 k r hb hL]; rfl
      · rw [msk_dead hL, layer_zero]; exact (states_dead L X1 w1 hL).symm

include h0 h1 in
theorem at_before {a : Carry Ideal} (ha : At X0 X1 w0 w1 i L (16 * k.val) a) :
    ∀ r ≤ 16, At X0 X1 w0 w1 i L (16 * k.val + r) (before i v9 (lensVec L) (base0 i) (base1 i) w0 w1 g0 g1 k a r)
  | 0, _ => ha
  | r + 1, h => by
    have ih := at_before ha r (by omega)
    have e : before i v9 (lensVec L) (base0 i) (base1 i) w0 w1 g0 g1 k a (r + 1)
        = stepAt i v9 (lensVec L) (base0 i) (base1 i) w0 w1 g0 g1 k ⟨r, by omega⟩
            (before i v9 (lensVec L) (base0 i) (base1 i) w0 w1 g0 g1 k a r) := by
      rw [before.eq_2, dif_pos (show r < 16 by omega)]
    rw [e]
    exact at_step h0 h1 k ⟨r, by omega⟩ ih

include h0 in
/-- What a step stores of layer 0, -/
theorem outPay_eq (hb : (i 0).val < 8) (r : Fin 16) {a : Carry Ideal} (ha : At X0 X1 w0 w1 i L (16 * k.val + r.val) a) :
    outPay i v9 (lensVec L) (base0 i) w0 g0 k r a = outs L X0 w0 (64 * (i 0).val + (16 * k.val + r.val)) := by
  unfold outPay
  rw [masks0]
  by_cases hL : Live L (64 * (i 0).val + (16 * k.val + r.val))
  · rw [gate0_at h0 k r hb hL]
    have e := ha.1 hb
    unfold outs fresh
    rw [← e]
  · rw [outs_dead L X0 w0 hL, msk_dead hL, emit0_zero]

include h1 in
/-- and of layer 1. -/
theorem ctxPay_eq (hb : (i 0).val ≠ 0) (r : Fin 16) {a : Carry Ideal} (ha : At X0 X1 w0 w1 i L (16 * k.val + r.val) a) :
    ctxPay i v9 (lensVec L) (base1 i) w1 g1 k r a = rows L X1 w1 (64 * (i 0).val + (16 * k.val + r.val) - 64) := by
  unfold ctxPay
  rw [masks1, if_neg hb]
  by_cases hL : Live L (64 * (i 0).val + (16 * k.val + r.val) - 64)
  · rw [gate1_at h1 k r hb hL]
    have e := ha.2
    unfold rows fresh
    rw [← e]
  · rw [rows_dead L X1 w1 hL, msk_dead hL, emit1_zero]

include h0 h1 in
/-- One trip's stores of layer 0's output, read at a row of step `t`. -/
theorem outPieces_at (hb : (i 0).val < 8) {a : Carry Ideal} (ha : At X0 X1 w0 w1 i L (16 * k.val) a) (X : Vec Ideal S2048x256 .bf16)
    (t : ℕ) (ht : t < 64) (r : Fin 16) (c : Fin 256) (hq : 16 * (64 * ((i 0).val % 2) + t) + r.val < 2048) :
    ∀ n ≤ 16, over X (outPieces i v9 (lensVec L) (base0 i) (base1 i) w0 w1 g0 g1 k a n) (ix2 ⟨16 * (64 * ((i 0).val % 2) + t) + r.val, hq⟩ c)
      = if 16 * k.val ≤ t ∧ t < 16 * k.val + n then outs L X0 w0 (64 * (i 0).val + t) (ix2 r c)
        else X (ix2 ⟨16 * (64 * ((i 0).val % 2) + t) + r.val, hq⟩ c)
  | 0, _ => by rw [if_neg (by omega)]; rfl
  | n + 1, hn => by
    have ih := outPieces_at hb ha X t ht r c hq n (by omega)
    unfold outPieces
    rw [dif_pos (show n < 16 by omega)]
    have hoff : k0_off4 i v9 k (BitVec.ofNat 32 n) = ![16 * (64 * ((i 0).val % 2) + (16 * k.val + n)), 0] := by
      rw [off4_eq i v9 k ⟨n, by omega⟩]
      congr 1
      show 1024 * ((i 0).val % 2) + 16 * (16 * k.val + n) = _
      omega
    refine (overlay_out _ (64 * ((i 0).val % 2) + (16 * k.val + n)) hoff (k0_off4_inb i v9 (assumed i v9) k ⟨n, by omega⟩) _ _ _ r c hq).trans ?_
    rw [ih]
    by_cases he : t = 16 * k.val + n
    · subst he
      rw [if_pos rfl, if_pos (by omega), outPay_eq h0 k hb ⟨n, by omega⟩ (at_before h0 h1 k ha n (by omega))]
    · rw [if_neg (by omega)]
      by_cases h2 : 16 * k.val ≤ t ∧ t < 16 * k.val + n
      · rw [if_pos h2, if_pos (by omega)]
      · rw [if_neg h2, if_neg (by omega)]

include h0 h1 in
/-- One trip's context stores, read at a row. -/
theorem ctxPieces_at (hb : (i 0).val ≠ 0) {a : Carry Ideal} (ha : At X0 X1 w0 w1 i L (16 * k.val) a) (X : Vec Ideal S512x16x256 .f32)
    (u : Fin 512) (r : Fin 16) (c : Fin 256) :
    ∀ n ≤ 16, over X (ctxPieces i v9 (lensVec L) (base0 i) (base1 i) w0 w1 g0 g1 k a n) (ix3 u r c)
      = if 64 * (i 0).val - 64 + 16 * k.val ≤ u.val ∧ u.val < 64 * (i 0).val - 64 + 16 * k.val + n then rows L X1 w1 u.val (ix3 0 r c)
        else X (ix3 u r c)
  | 0, _ => by rw [if_neg (by omega)]; rfl
  | n + 1, hn => by
    have ih := ctxPieces_at hb ha X u r c n (by omega)
    unfold ctxPieces
    rw [dif_pos (show n < 16 by omega)]
    have hoff : k0_off5 i v9 k (BitVec.ofNat 32 n) = ![64 * (i 0).val + (16 * k.val + n) - 64, 0, 0] := by
      rw [off5_eq i v9 k ⟨n, by omega⟩, Nat.add_assoc]
    refine (overlay_ctx _ _ hoff (k0_off5_inb i v9 (assumed i v9) k ⟨n, by omega⟩) _ _ u r c).trans ?_
    rw [ih]
    by_cases he : u.val = 64 * (i 0).val + (16 * k.val + n) - 64
    · rw [if_pos he, if_pos (by omega), ctxPay_eq h1 k hb ⟨n, by omega⟩ (at_before h0 h1 k ha n (by omega)), he]
    · rw [if_neg he]
      by_cases h2 : 64 * (i 0).val - 64 + 16 * k.val ≤ u.val ∧ u.val < 64 * (i 0).val - 64 + 16 * k.val + n
      · rw [if_pos h2, if_pos (by omega)]
      · rw [if_neg h2, if_neg (by omega)]

/-! ## The loop -/

/-- The loop's state and stores before trip `K`. -/
abbrev loopAt (L : Fin 16 → BitVec 32) (w0 w1 : Vec Ideal S256x1024 .bf16) (i : grid0.Coords) (v9 : BitVec 32)
    (g0 g1 : Vec Ideal S1024x1024 .bf16) (a : Carry Ideal) (K : ℕ) :=
  loopState i v9 (lensVec L) (base0 i) (base1 i) w0 w1 g0 g1 a K

include h0 h1 in
theorem at_loop {a : Carry Ideal} (ha : At X0 X1 w0 w1 i L 0 a) :
    ∀ K ≤ (k0_t1_loop i v9).trips, At X0 X1 w0 w1 i L (16 * K) (loopAt L w0 w1 i v9 g0 g1 a K).1
  | 0, _ => ha
  | K + 1, h => by
    have ih := at_loop ha K (by omega)
    unfold loopAt loopState
    rw [dif_pos (show K < _ by omega)]
    exact at_before h0 h1 ⟨K, by omega⟩ ih 16 (le_refl _)

include h0 h1 in
theorem outs_loop (hb : (i 0).val < 8) {a : Carry Ideal} (ha : At X0 X1 w0 w1 i L 0 a) (X : Vec Ideal S2048x256 .bf16)
    (t : ℕ) (ht : t < 64) (r : Fin 16) (c : Fin 256) (hq : 16 * (64 * ((i 0).val % 2) + t) + r.val < 2048) :
    ∀ K ≤ (k0_t1_loop i v9).trips, over X (loopAt L w0 w1 i v9 g0 g1 a K).2.2 (ix2 ⟨16 * (64 * ((i 0).val % 2) + t) + r.val, hq⟩ c)
      = if t < 16 * K then outs L X0 w0 (64 * (i 0).val + t) (ix2 r c) else X (ix2 ⟨16 * (64 * ((i 0).val % 2) + t) + r.val, hq⟩ c)
  | 0, _ => by rw [if_neg (by omega)]; rfl
  | K + 1, h => by
    have ih := outs_loop hb ha X t ht r c hq K (by omega)
    have hs := at_loop (v9 := v9) h0 h1 ha K (by omega)
    unfold loopAt loopState
    rw [dif_pos (show K < _ by omega)]
    dsimp only
    rw [over_append, outPieces_at h0 h1 ⟨K, by omega⟩ hb hs _ t ht r c hq 16 (le_refl _), ih]
    by_cases h2 : t < 16 * K
    · rw [if_pos h2, if_pos (show t < 16 * (K + 1) by omega), ite_self]
    · rw [if_neg h2]
      by_cases h3 : t < 16 * (K + 1)
      · rw [if_pos h3, if_pos (by constructor <;> show _ <;> simp only <;> omega)]
      · rw [if_neg h3, if_neg (by simp only; omega)]

include h0 h1 in
theorem ctx_loop (hb : (i 0).val ≠ 0) {a : Carry Ideal} (ha : At X0 X1 w0 w1 i L 0 a) (X : Vec Ideal S512x16x256 .f32)
    (u : Fin 512) (r : Fin 16) (c : Fin 256) :
    ∀ K ≤ (k0_t1_loop i v9).trips, over X (loopAt L w0 w1 i v9 g0 g1 a K).2.1 (ix3 u r c)
      = if 64 * (i 0).val - 64 ≤ u.val ∧ u.val < 64 * (i 0).val - 64 + 16 * K then rows L X1 w1 u.val (ix3 0 r c) else X (ix3 u r c)
  | 0, _ => by rw [if_neg (by omega)]; rfl
  | K + 1, h => by
    have ih := ctx_loop hb ha X u r c K (by omega)
    have hs := at_loop (v9 := v9) h0 h1 ha K (by omega)
    unfold loopAt loopState
    rw [dif_pos (show K < _ by omega)]
    dsimp only
    rw [over_append, ctxPieces_at h0 h1 ⟨K, by omega⟩ hb hs _ u r c 16 (le_refl _), ih]
    dsimp only
    by_cases h2 : 64 * (i 0).val - 64 ≤ u.val ∧ u.val < 64 * (i 0).val - 64 + 16 * K
    · rw [if_pos h2, ite_self, if_pos (by omega)]
    · rw [if_neg h2]
      by_cases h3 : 64 * (i 0).val - 64 ≤ u.val ∧ u.val < 64 * (i 0).val - 64 + 16 * (K + 1)
      · rw [if_pos h3, if_pos (by omega)]
      · rw [if_neg h3, if_neg (by omega)]

end

end Cert.KernelIdeal.Runs
end
-- ==== Proof.IdealPoint.lean ====
/- One grid point over the extended reals: from the recurrence's states, kept rows and context rows before the point to
those after it. -/
module

public import proofs.«01_k».proof.Proof.IdealTrip

@[expose] public section

set_option maxRecDepth 16384

noncomputable section

namespace Cert.KernelIdeal.Runs

open Cert.KernelIdeal Cert.KernelIdeal.Gen
open Idealize.ShloMosaic Idealize.ShloMosaic.TcCoe

/-! ## The whole-array loads -/

theorem ld_W {e : EltTy} (x : Vec Ideal S256x1024 e) : View.ld x wholeW = x :=
  View.ld_unit_zero (by funext a; fin_cases a <;> rfl) _ x

theorem ld_B {e : EltTy} (x : Vec Ideal S1x1024 e) : View.ld x wholeB = x :=
  View.ld_unit_zero (by funext a; fin_cases a <;> rfl) _ x

theorem ld_X {e : EltTy} (x : Vec Ideal S64x16x256 e) : View.ld x wholeX = x :=
  View.ld_unit_zero (by funext a; fin_cases a <;> rfl) _ x

theorem ld_L {e : EltTy} (x : Vec Ideal S16x1 e) : View.ld x wholeLen = x :=
  View.ld_unit_zero (by funext a; fin_cases a <;> rfl) _ x

/-! ## The gate products -/

/-- Layer 0's, read at a row. -/
theorem early_at (x2 : Vec Ideal S64x16x256 .f32) (x3 : Vec Ideal S256x1024 .f32) (x5 : Vec Ideal S1x1024 .f32)
    (xt : FVec Ideal S16x256 .f32) (t : Fin 64) (r : Fin 16) (n : Fin 1024) (q : Fin 1024) (hq : q.val = 16 * t.val + r.val)
    (h : ∀ k : Fin 256, x2 (ix3 t r k) = xt (ix2 r k)) :
    k0_pay573 x2 x3 x5 (ix2 q n) = prod (ψ := .f32) xt x3 x5 (ix2 r n) := by
  have hr := r.isLt
  have e1 : ∀ h', (⟨q.val / 16, h'⟩ : Fin 64) = t := fun h' => Fin.ext (by show q.val / 16 = t.val; omega)
  have e2 : ∀ h', (⟨q.val % 16, h'⟩ : Fin 16) = r := fun h' => Fin.ext (by show q.val % 16 = r.val; omega)
  unfold prod
  pointwise [k0_pay573]
  simp only [e1, e2, h]

/-- Layer 1's, from the kept rows. -/
theorem late_at (o : Vec Ideal S1024x256 .bf16) (x6 : Vec Ideal S256x1024 .bf16) (x8 : Vec Ideal S1x1024 .f32)
    (ot : FVec Ideal S16x256 .bf16) (r : Fin 16) (n : Fin 1024) (q : Fin 1024) (h : ∀ k : Fin 256, o (ix2 q k) = ot (ix2 r k)) :
    k0_pay574 o x6 x8 (ix2 q n) = prod (ψ := .bf16) ot x6 x8 (ix2 r n) := by
  unfold prod
  pointwise [k0_pay574]
  simp only [h]

/-- The rows kept of the block before, read at a row. -/
theorem ld_late (i : grid0.Coords) (o : Vec Ideal S2048x256 .bf16) (q : Fin 1024) (c : Fin 256) :
    View.ld o (lateRect i) (ix2 q c)
      = o (ix2 ⟨1024 * (((i 0).val + 1) % 2) + q.val, by have := q.isLt; omega⟩ c) := by
  show o ((lateRect i).emb (ix2 q c)) = _
  congr 1
  funext a
  have ho := off1_eq i
  match a with
  | ⟨0, _⟩ =>
    refine Fin.ext ?_
    show k0_off1 i 0 + 1 * q.val = _
    rw [ho]; show 1024 * (((i 0).val + 1) % 2) + 1 * q.val = _; rw [Nat.one_mul]; rfl
  | ⟨1, _⟩ =>
    refine Fin.ext ?_
    show k0_off1 i 1 + 1 * c.val = _
    rw [ho]; show 0 + 1 * c.val = _; rw [Nat.one_mul, Nat.zero_add]; rfl

/-- A cleared row. -/
theorem overlay_clear (i : grid0.Coords) (X : Vec Ideal S512x16x256 .f32) (y : S512x16x256.Idx) (h : y ∈ (clearRect i).set) :
    (clearRect i).overlay X (k0_pay575 (F := Ideal)) y = (0 : EReal) := by
  obtain ⟨x, rfl⟩ : ∃ x, (clearRect i).emb x = y := (clearRect i).exists_idx_of_mem h
  refine (Rect.overlay_emb _ _ _ _).trans ?_
  pointwise [k0_pay575]

/-! ## States past the last running trip -/

theorem states_rest {L : Fin 16 → BitVec 32} (X : ℕ → FVec Ideal S16x1024 .bf16) (w : Vec Ideal S256x1024 .bf16) (T : ℕ) :
    ∀ m, (∀ j < m, ¬ Live L (T + j)) → states L X w (T + m) = states L X w T
  | 0, _ => rfl
  | m + 1, h => (states_dead L X w (h m (by omega))).trans (states_rest X w T m fun j hj => h j (by omega))

/-! ## The point -/

section
variable (L : Fin 16 → BitVec 32) (X0 X1 : ℕ → FVec Ideal S16x1024 .bf16) (w0 w1 : Vec Ideal S256x1024 .bf16)

/-- What is kept after `n` points holds the recurrence: layer 0's state, layer 1's state one block behind, layer 0's rows
of the last block, and the context rows of the blocks before it. -/
structure Good (n : ℕ) (s : Kept Ideal) : Prop where
  first : n ≤ 8 → (s.2.2.2.1, s.2.2.2.2.1) = states L X0 w0 (64 * n)
  second : (s.2.2.2.2.2.1, s.2.2.2.2.2.2) = states L X1 w1 (64 * n - 64)
  kept : n ≤ 8 → ∀ t (ht : t < 64) (r : Fin 16) (c : Fin 256), Live L (64 * n - 64 + t) →
    s.2.2.1 (ix2 ⟨16 * (64 * ((n + 1) % 2) + t) + r.val, by have := r.isLt; omega⟩ c) = outs L X0 w0 (64 * n - 64 + t) (ix2 r c)
  ctx : ∀ (u : Fin 512) (r : Fin 16) (c : Fin 256), u.val < 64 * n - 64 → s.1 (ix3 u r c) = rows L X1 w1 u.val (ix3 0 r c)

end

section
variable {L : Fin 16 → BitVec 32} {xs : ℕ → FVec Ideal S16x256 .f32} (i : grid0.Coords)
  (x1 : Vec Ideal S16x1 .f32) (x2 : Vec Ideal S64x16x256 .f32) (x3 : Vec Ideal S256x1024 .f32) (x4 : Vec Ideal S256x1024 .bf16)
  (x5 : Vec Ideal S1x1024 .f32) (x6 x7 : Vec Ideal S256x1024 .bf16) (x8 : Vec Ideal S1x1024 .f32) (s : Kept Ideal)

/-- Layer 0's gate products over time, and layer 1's. -/
abbrev early (xs : ℕ → FVec Ideal S16x256 .f32) (x3 : Vec Ideal S256x1024 .f32) (x5 : Vec Ideal S1x1024 .f32) (t : ℕ) :
    FVec Ideal S16x1024 .bf16 := prod (ψ := .f32) (xs t) x3 x5

abbrev later (L : Fin 16 → BitVec 32) (xs : ℕ → FVec Ideal S16x256 .f32) (x3 : Vec Ideal S256x1024 .f32) (x4 : Vec Ideal S256x1024 .bf16)
    (x5 : Vec Ideal S1x1024 .f32) (x6 : Vec Ideal S256x1024 .bf16) (x8 : Vec Ideal S1x1024 .f32) (t : ℕ) : FVec Ideal S16x1024 .bf16 :=
  late (ψ := .bf16) L (early xs x3 x5) x4 x6 x8 t

variable (hl : lensOf x1 = lensVec L)
  (hx : (i 0).val < 8 → ∀ (t : Fin 64) (r : Fin 16) (k : Fin 256), x2 (ix3 t r k) = xs (64 * (i 0).val + t.val) (ix2 r k))
  (hs : (i 0).val ≠ 0 → Good L (early xs x3 x5) (later L xs x3 x4 x5 x6 x8) x4 x7 (i 0).val s)

include hl hx in
theorem gates0_point : Gates0 (early xs x3 x5) i (startGate i x1 x2 x3 x5 s.2.1) L := by
  intro hb t ht r n hL
  unfold startGate
  rw [if_pos (live_prep hl i hb ht hL), ld_X, ld_W, ld_B]
  exact early_at x2 x3 x5 _ ⟨t, ht⟩ r n _ rfl (hx hb ⟨t, ht⟩ r)

include hs in
theorem gates1_point : Gates1 (later L xs x3 x4 x5 x6 x8) i (lateGate i x6 x8 (startOut i s.2.2.1)) L := by
  intro hb t ht r n hL
  have hr := r.isLt
  have hi := i_lt i
  unfold lateGate startOut
  rw [if_neg fun h => hb ((first_iff i).mp h), ld_W, ld_B]
  refine late_at _ x6 x8 (outs L (early xs x3 x5) x4 (64 * (i 0).val + t - 64)) r n _ fun k => ?_
  rw [ld_late]
  have e : 64 * (i 0).val - 64 + t = 64 * (i 0).val + t - 64 := by omega
  have h := (hs hb).kept (by omega) t ht r k (e.symm ▸ hL)
  rw [e] at h
  refine Eq.trans ?_ h
  refine congrArg (fun q => s.2.2.1 (ix2 q k)) (Fin.ext ?_)
  exact (by show 1024 * (((i 0).val + 1) % 2) + (16 * t + r.val) = 16 * (64 * (((i 0).val + 1) % 2) + t) + r.val; omega)

include hs in
theorem at_start : At (early xs x3 x5) (later L xs x3 x4 x5 x6 x8) x4 x7 i L 0 (startState i s.2.2.2) := by
  unfold startState
  by_cases h0 : (i 0).val = 0
  · rw [if_pos ((first_iff i).mpr h0)]
    have z : ∀ v : FVec Ideal S16x256 .f32, v = (fun _ => (0 : EReal)) → ∀ v' : FVec Ideal S16x256 .f32, v' = (fun _ => (0 : EReal)) →
        ∀ X w n, n = 0 → ((v, v') : Pair) = states L X w n := fun v h v' h' X w n hn => by subst h; subst h'; subst hn; rfl
    constructor
    · intro _
      exact z _ (by funext j; pointwise [k0_pay566]) _ (by funext j; pointwise [k0_pay567]) _ _ _ (by omega)
    · exact z _ (by funext j; pointwise [k0_pay568]) _ (by funext j; pointwise [k0_pay569]) _ _ _ (by omega)
  · rw [if_neg fun h => h0 ((first_iff i).mp h)]
    exact ⟨fun hb => (hs h0).first (by omega), (hs h0).second⟩

include hl hx hs in
/-- The point. -/
theorem good_point : Good L (early xs x3 x5) (later L xs x3 x4 x5 x6 x8) x4 x7 ((i 0).val + 1)
    (nextKept i x1 x2 x3 x4 x5 x6 x7 x8 s) := by
  have hi := i_lt i
  have g0 := gates0_point (L := L) i x1 x2 x3 x5 s hl hx
  have g1 := gates1_point (L := L) i x3 x4 x5 x6 x7 x8 s hs
  have ha := at_start (L := L) i x3 x4 x5 x6 x7 x8 s hs
  have hT : (k0_t1_loop i (lenWord x1)).trips ≤ 4 := by rw [loop1_trips]; exact groups_le _ _
  have hend := at_loop (v9 := lenWord x1) g0 g1 ha _ (le_refl _)
  have eloop : loopEnd i x1 x2 x3 x4 x5 x6 x7 x8 s.2.1 s.2.2.1 s.2.2.2
      = loopAt L x4 x7 i (lenWord x1) (startGate i x1 x2 x3 x5 s.2.1) (lateGate i x6 x8 (startOut i s.2.2.1))
          (startState i s.2.2.2) (k0_t1_loop i (lenWord x1)).trips := by
    unfold loopEnd; rw [hl, ld_W, ld_W]
  refine ⟨?_, ?_, ?_, ?_⟩
  · intro hb
    have hb' : (i 0).val < 8 := by omega
    show ((stateAfter i x1 x2 x3 x4 x5 x6 x7 x8 s.2.1 s.2.2.1 s.2.2.2).1, (stateAfter i x1 x2 x3 x4 x5 x6 x7 x8 s.2.1 s.2.2.1 s.2.2.2).2.1) = _
    unfold stateAfter
    rw [eloop, hend.1 hb']
    have e : 64 * ((i 0).val + 1) = 64 * (i 0).val + 16 * (k0_t1_loop i (lenWord x1)).trips + (64 - 16 * (k0_t1_loop i (lenWord x1)).trips) := by
      omega
    rw [e]
    refine (states_rest _ _ _ _ fun j hj hL => ?_).symm
    have := live_trip0 hl i (j := 16 * (k0_t1_loop i (lenWord x1)).trips + j) (by omega) (by rw [← Nat.add_assoc]; exact hL)
    omega
  · show ((stateAfter i x1 x2 x3 x4 x5 x6 x7 x8 s.2.1 s.2.2.1 s.2.2.2).2.2.1, (stateAfter i x1 x2 x3 x4 x5 x6 x7 x8 s.2.1 s.2.2.1 s.2.2.2).2.2.2) = _
    unfold stateAfter
    rw [eloop, hend.2]
    by_cases h0 : (i 0).val = 0
    · exact congrArg _ (by omega)
    have e : 64 * ((i 0).val + 1) - 64 = 64 * (i 0).val + 16 * (k0_t1_loop i (lenWord x1)).trips - 64 + (64 - 16 * (k0_t1_loop i (lenWord x1)).trips) := by
      omega
    rw [e]
    refine (states_rest _ _ _ _ fun j hj hL => ?_).symm
    have := live_trip hl i (j := 16 * (k0_t1_loop i (lenWord x1)).trips + j) (by omega) (by
      have e2 : 64 * ((i 0).val - 1) + (16 * (k0_t1_loop i (lenWord x1)).trips + j) = 64 * (i 0).val + 16 * (k0_t1_loop i (lenWord x1)).trips - 64 + j := by
        omega
      rw [e2]; exact hL)
    omega
  · intro hb t ht r c hL
    have hr := r.isLt
    have hb' : (i 0).val < 8 := by omega
    have e : 64 * ((i 0).val + 1) - 64 + t = 64 * (i 0).val + t := by omega
    rw [e] at hL ⊢
    show outAfter i x1 x2 x3 x4 x5 x6 x7 x8 s.2.1 s.2.2.1 s.2.2.2 _ = _
    unfold outAfter
    rw [eloop]
    have hm : ((i 0).val + 1 + 1) % 2 = (i 0).val % 2 := by omega
    have h := outs_loop (v9 := lenWord x1) g0 g1 hb' ha (startOut i s.2.2.1) t ht r c (by omega) _ (le_refl _)
    rw [if_pos (live_trip0 hl i ht hL)] at h
    refine Eq.trans ?_ h
    congr 2
    exact Fin.ext (by show 16 * (64 * (((i 0).val + 1 + 1) % 2) + t) + r.val = _; rw [hm])
  · intro u r c hu
    have h0 : (i 0).val ≠ 0 := by omega
    show ctxAfter i x1 x2 x3 x4 x5 x6 x7 x8 s.2.1 s.2.2.1 s.2.2.2 s.1 _ = _
    unfold ctxAfter
    rw [eloop, ctx_loop (v9 := lenWord x1) g0 g1 h0 ha _ u r c _ (le_refl _)]
    by_cases h1 : 64 * (i 0).val - 64 ≤ u.val ∧ u.val < 64 * (i 0).val - 64 + 16 * (k0_t1_loop i (lenWord x1)).trips
    · rw [if_pos h1]
    · rw [if_neg h1]
      by_cases h2 : 64 * (i 0).val - 64 ≤ u.val
      · have hd : ¬ Live L u.val := fun hL => by
          have := live_trip hl i (j := u.val - (64 * (i 0).val - 64)) (by omega) (by
            have e2 : 64 * ((i 0).val - 1) + (u.val - (64 * (i 0).val - 64)) = u.val := by omega
            rw [e2]; exact hL)
          omega
        rw [rows_dead _ _ _ hd]
        have hm := clear_mem i (ix3 u r c) h2 (by show u.val < _; omega)
        exact overlay_clear i s.1 _ hm
      · have hm : ix3 u r c ∉ (clearRect i).set := by
          rw [Rect.mem_set_unit, off2_eq]
          intro h
          have := (h 0).1
          have h' : 64 * (i 0).val - 64 ≤ u.val := this
          omega
        refine (Rect.overlay_of_not_mem _ _ _ hm).trans ?_
        exact (hs h0).ctx u r c (by omega)

end

end Cert.KernelIdeal.Runs
end
-- ==== Proof.IdealKept.lean ====
/- The recurrent call over the extended reals: its blocks are the arrays' own values, and after the nine points the context
holds the recurrence's rows. -/
module

public import proofs.«01_k».proof.Proof.IdealPoint
public import proofs.«01_k».proof.Proof.LstmData
public import Idealize.ShloMosaic.Lib.Pipeline.ValueKit

@[expose] public section

set_option maxRecDepth 16384

noncomputable section

namespace Cert.KernelIdeal.Runs

open Cert.KernelIdeal Cert.KernelIdeal.Gen
open Idealize.ShloMosaic Idealize.ShloMosaic.TcCoe Idealize.SL.Sem

/-- The blocks the windows are at. -/
theorem idx0 : ∀ t : Fin cfg0.N, win0_0.index t = ![0, 0] ∧ win0_1.index t = ![min t.val 7, 0, 0] ∧ win0_2.index t = ![0, 0]
    ∧ win0_3.index t = ![0, 0] ∧ win0_4.index t = ![0, 0] ∧ win0_5.index t = ![0, 0] ∧ win0_6.index t = ![0, 0]
    ∧ win0_7.index t = ![0, 0] :=
  (by decide +kernel : ∀ t : Fin grid0.N, _)

section
variable (V : (c : Dev nD) → (b : Ref sig .tc) → Buf (Elt Ideal) ((c : Thread nD τ).loc b)) (c : Dev nD) (t : Fin cfg0.N)

theorem lblk0_eq : (lblk V c 0 t : Vec Ideal S16x1 .f32) = V c main_call0_v1 := by blk_ext! [lblk, idx0 t]
theorem lblk2_eq : (lblk V c 2 t : Vec Ideal S256x1024 .f32) = V c main_call0_v7 := by blk_ext! [lblk, idx0 t]
theorem lblk3_eq : (lblk V c 3 t : Vec Ideal S256x1024 .bf16) = V c main_call0_v9 := by blk_ext! [lblk, idx0 t]
theorem lblk4_eq : (lblk V c 4 t : Vec Ideal S1x1024 .f32) = V c main_call0_v4 := by blk_ext! [lblk, idx0 t]
theorem lblk5_eq : (lblk V c 5 t : Vec Ideal S256x1024 .bf16) = V c main_call0_v11 := by blk_ext! [lblk, idx0 t]
theorem lblk6_eq : (lblk V c 6 t : Vec Ideal S256x1024 .bf16) = V c main_call0_v13 := by blk_ext! [lblk, idx0 t]
theorem lblk7_eq : (lblk V c 7 t : Vec Ideal S1x1024 .f32) = V c main_call0_v6 := by blk_ext! [lblk, idx0 t]

/-- A time's rows of the input. -/
def atTime (A : Vec Ideal S512x16x256 .f32) (t : ℕ) : FVec Ideal S16x256 .f32 :=
  fun j => A (ix3 ⟨t % 512, Nat.mod_lt _ (by decide)⟩ (j 0) (j 1))

/-- The input's block at a point before the last. -/
theorem lblk1_at (ht : t.val < 8) (a : Fin 64) (r : Fin 16) (k : Fin 256) :
    (lblk V c 1 t : Vec Ideal S64x16x256 .f32) (ix3 a r k) = atTime (V c main_call0_v2) (64 * t.val + a.val) (ix2 r k) := by
  have ha := a.isLt
  unfold atTime
  have hm : min t.val 7 = t.val := by omega
  have hq : (64 * t.val + a.val) % 512 = t.val * 64 + a.val := by omega
  have e : (ix3 ⟨(64 * t.val + a.val) % 512, Nat.mod_lt _ (by decide)⟩ r k : S512x16x256.Idx) = ix3 ⟨t.val * 64 + a.val, by omega⟩ r k := by
    congr 1; exact Fin.ext hq
  show _ = V c main_call0_v2 (ix3 ⟨(64 * t.val + a.val) % 512, Nat.mod_lt _ (by decide)⟩ r k)
  rw [e]
  blk_ext [lblk, idx0 t, hm]

variable {L : Fin 16 → BitVec 32} (hL : (V c main_call0_v1 : Vec Ideal S16x1 .f32) = lensVec L)

/-- Layer 0's gate products over time, from the arrays, -/
abbrev gatesA : ℕ → FVec Ideal S16x1024 .bf16 := early (atTime (V c main_call0_v2)) (V c main_call0_v7) (V c main_call0_v4)

/-- and layer 1's. -/
abbrev gatesB (L : Fin 16 → BitVec 32) : ℕ → FVec Ideal S16x1024 .bf16 :=
  later L (atTime (V c main_call0_v2)) (V c main_call0_v7) (V c main_call0_v9) (V c main_call0_v4) (V c main_call0_v11) (V c main_call0_v6)

include hL in
theorem good_all : ∀ n, n < 9 → Good L (gatesA V c) (gatesB V c L) (V c main_call0_v9) (V c main_call0_v13) (n + 1) (keptAt V c (n + 1)) := by
  intro n
  induction n with
  | zero => exact fun h => step 0 h fun h0 => absurd rfl h0
  | succ n ih => exact fun h => step (n + 1) h fun _ => ih (by omega)
where
  step (n : ℕ) (h : n < 9) (hs : n ≠ 0 → Good L (gatesA V c) (gatesB V c L) (V c main_call0_v9) (V c main_call0_v13) n (keptAt V c n)) :
      Good L (gatesA V c) (gatesB V c L) (V c main_call0_v9) (V c main_call0_v13) (n + 1) (keptAt V c (n + 1)) := by
    have hN : cfg0.N = 9 := N_0
    have hb : (grid0.coords (⟨n, by omega⟩ : Fin cfg0.N) 0).val = n := blk_of ⟨n, by omega⟩
    have e := keptAt_succ V c ⟨n, by omega⟩
    rw [lblk2_eq, lblk3_eq, lblk4_eq, lblk5_eq, lblk6_eq, lblk7_eq] at e
    rw [show keptAt V c (n + 1) = _ from e]
    have hp := good_point (L := L) (xs := atTime (V c main_call0_v2)) (grid0.coords (⟨n, by omega⟩ : Fin cfg0.N))
      (lblk V c 0 ⟨n, by omega⟩) (lblk V c 1 ⟨n, by omega⟩) (lblk V c 2 ⟨n, by omega⟩) (lblk V c 3 ⟨n, by omega⟩) (lblk V c 4 ⟨n, by omega⟩)
      (lblk V c 5 ⟨n, by omega⟩) (lblk V c 6 ⟨n, by omega⟩) (lblk V c 7 ⟨n, by omega⟩) (keptAt V c n)
      (by
        unfold lensOf
        rw [lblk0_eq, hL, ld_L]
        exact Idealize.ShloMosaic.shapeCast_self _ _)
      (fun hb' t r k => by
        rw [hb] at hb' ⊢
        exact lblk1_at V c ⟨n, by omega⟩ hb' t r k)
      (fun h0 => by
        rw [hb] at h0 ⊢
        rw [lblk2_eq, lblk3_eq, lblk4_eq, lblk5_eq, lblk6_eq, lblk7_eq]
        exact hs h0)
    rw [hb, lblk2_eq, lblk3_eq, lblk4_eq, lblk5_eq, lblk6_eq, lblk7_eq] at hp
    exact hp

include hL in
/-- The context after the call. -/
theorem ctx_rows (u : Fin 512) (r : Fin 16) (k : Fin 256) :
    (keptAt V c 9).1 (ix3 u r k) = rows L (gatesB V c L) (V c main_call0_v13) u.val (ix3 0 r k) :=
  (good_all V c hL 8 (by decide)).ctx u r k (by have := u.isLt; omega)

end

end Cert.KernelIdeal.Runs
end
-- ==== Proof.RefStep.lean ====
/- One step of the reference's scan, over any arrays, is the step of the recurrence the kernel runs. -/
module

public import proofs.«01_k».proof.Proof.IdealKept
public import proofs.«01_k».proof.Proof.Gen.ReferenceIdeal
public import Idealize.ShloMosaic.Lib.Pointwise

@[expose] public section

set_option maxRecDepth 16384
noncomputable section

namespace Cert.ReferenceIdeal.Rec

open Cert.ReferenceIdeal Cert.ReferenceIdeal.Gen
open Idealize.ShloMosaic
open Cert.KernelIdeal.Runs (gates cellC cellH blend emit0 emit1 prod spread spreadNot)

/-- The four gates as the reference writes them. -/
def refGates (x h : FVec Ideal S16x256 .f32) (Wi Wh : FVec Ideal S1024x256 .f32) (bi bh : FVec Ideal S1024 .f32) : FVec Ideal S16x1024 .f32 :=
  addf (addf (addf (Host.dotGeneral dot_S16x256_S256x1024_S16x1024_1_0_0_1_n_n none x
      (transpose S256x1024 [1, 0] Wi transposes_S1024x256_S256x1024_1_0))
      (broadcastInDim S16x1024 ![0, 1] bcast_S1x1024_S16x1024_0_1 (broadcastInDim S1x1024 ![1] bcast_S1024_S1x1024_1 bi)))
    (Host.dotGeneral dot_S16x256_S256x1024_S16x1024_1_0_0_1_n_n none h
      (transpose S256x1024 [1, 0] Wh transposes_S1024x256_S256x1024_1_0)))
    (broadcastInDim S16x1024 ![0, 1] bcast_S1x1024_S16x1024_0_1 (broadcastInDim S1x1024 ![1] bcast_S1024_S1x1024_1 bh))

/-- The logistic function as the reference writes it. -/
def refSig (x : FVec Ideal S16x256 .f32) : FVec Ideal S16x256 .f32 :=
  Host.divf (broadcastInDim S16x256 ![] bcast_S_S16x256 (constant S_ .f32 0x3F800000#32))
    (addf (broadcastInDim S16x256 ![] bcast_S_S16x256 (constant S_ .f32 0x3F800000#32)) (Host.exp (Host.negf x)))

/-- Its cell state and hidden state from the gates. -/
def refC (g : FVec Ideal S16x1024 .f32) (c : FVec Ideal S16x256 .f32) : FVec Ideal S16x256 .f32 :=
  addf (mulf (refSig (extractStridedSlice S16x256 ![0, 256] g slices_S16x1024_S16x256_0_256)) c)
    (mulf (refSig (extractStridedSlice S16x256 ![0, 0] g slices_S16x1024_S16x256_0_0))
      (Host.tanh (extractStridedSlice S16x256 ![0, 512] g slices_S16x1024_S16x256_0_512)))

def refH (g : FVec Ideal S16x1024 .f32) (c : FVec Ideal S16x256 .f32) : FVec Ideal S16x256 .f32 :=
  mulf (refSig (extractStridedSlice S16x256 ![0, 768] g slices_S16x1024_S16x256_0_768)) (Host.tanh (refC g c))

theorem four (a b c d : EReal) : a + b + c + d = a + (b + d) + c := by ac_rfl

/-- The gates agree: the two biases are added at once or one after the other. -/
theorem gates_eq (x h : FVec Ideal S16x256 .f32) (Wi Wh : FVec Ideal S1024x256 .f32) (bi bh : FVec Ideal S1024 .f32) {φ ψ : FTy}
    (y : FVec Ideal S16x256 φ) (wi : FVec Ideal S256x1024 ψ) (wh : FVec Ideal S256x1024 .bf16) (b : FVec Ideal S1x1024 .f32)
    (hy : ∀ r k, (y (ix2 r k) : EReal) = x (ix2 r k)) (hwi : ∀ k n, (wi (ix2 k n) : EReal) = Wi (ix2 n k))
    (hwh : ∀ k n, (wh (ix2 k n) : EReal) = Wh (ix2 n k)) (hb : ∀ n, b (ix2 0 n) = (bi (ix1 n) + bh (ix1 n) : EReal)) :
    refGates x h Wi Wh bi bh = gates (F := Ideal) h (prod (φ := φ) (ψ := ψ) y wi b) wh := by
  funext j
  obtain ⟨r, n, rfl⟩ : ∃ (r : Fin 16) (n : Fin 1024), j = ix2 r n := ⟨j 0, j 1, eq_ix2 j⟩
  unfold refGates gates prod
  pointwise
  simp only [hy, hwi, hwh, hb]
  exact four _ _ _ _

theorem refC_eq (h c : FVec Ideal S16x256 .f32) (g : FVec Ideal S16x1024 .bf16) (wh : FVec Ideal S256x1024 .bf16) :
    refC (gates (F := Ideal) h g wh) c = cellC (F := Ideal) h c g wh := by
  unfold cellC
  generalize gates (F := Ideal) h g wh = G
  funext j
  obtain ⟨r, k, rfl⟩ : ∃ (r : Fin 16) (k : Fin 256), j = ix2 r k := ⟨j 0, j 1, eq_ix2 j⟩
  unfold refC refSig
  pointwise [Ideal.logistic]

theorem refH_eq (h c : FVec Ideal S16x256 .f32) (g : FVec Ideal S16x1024 .bf16) (wh : FVec Ideal S256x1024 .bf16) :
    refH (gates (F := Ideal) h g wh) c = cellH (F := Ideal) h c g wh := by
  unfold refH cellH
  rw [refC_eq]
  generalize gates (F := Ideal) h g wh = G
  generalize cellC (F := Ideal) h c g wh = C
  funext j
  obtain ⟨r, k, rfl⟩ : ∃ (r : Fin 16) (k : Fin 256), j = ix2 r k := ⟨j 0, j 1, eq_ix2 j⟩
  unfold refSig
  pointwise [Ideal.logistic]

/-- New state where the mask is one, old where it is zero, as the reference writes it. -/
theorem blend_eq (p : FVec Ideal S16 .f32) (m : FVec Ideal S16x1 .f32) (hm : ∀ r, (p (ix1 r) : EReal) = m (ix2 r 0)) (new old : FVec Ideal S16x256 .f32) :
    addf (mulf (broadcastInDim S16x256 ![0, 1] bcast_S16x1_S16x256_0_1 (broadcastInDim S16x1 ![0] bcast_S16_S16x1_0 p)) new)
      (mulf (broadcastInDim S16x256 ![0, 1] bcast_S16x1_S16x256_0_1
        (subf (broadcastInDim S16x1 ![] bcast_S_S16x1 (constant S_ .f32 0x3F800000#32)) (broadcastInDim S16x1 ![0] bcast_S16_S16x1_0 p))) old)
      = blend m new old := by
  funext j
  obtain ⟨r, k, rfl⟩ : ∃ (r : Fin 16) (k : Fin 256), j = ix2 r k := ⟨j 0, j 1, eq_ix2 j⟩
  unfold blend spread spreadNot
  pointwise
  simp only [hm]

/-- A masked new state at an index. -/
theorem emit_eq (p : FVec Ideal S16 .f32) (m : FVec Ideal S16x1 .f32) (hm : ∀ r, (p (ix1 r) : EReal) = m (ix2 r 0)) (new : FVec Ideal S16x256 .f32) (r : Fin 16) (k : Fin 256) :
    (emit0 m new (ix2 r k) : EReal)
      = mulf (broadcastInDim S16x256 ![0, 1] bcast_S16x1_S16x256_0_1 (broadcastInDim S16x1 ![0] bcast_S16_S16x1_0 p)) new (ix2 r k) := by
  unfold emit0 spread
  pointwise
  simp only [hm]

theorem emit1_eq (p : FVec Ideal S16 .f32) (m : FVec Ideal S16x1 .f32) (hm : ∀ r, (p (ix1 r) : EReal) = m (ix2 r 0)) (new : FVec Ideal S16x256 .f32) (r : Fin 16) (k : Fin 256) :
    (emit1 m new (ix3 0 r k) : EReal)
      = mulf (broadcastInDim S16x256 ![0, 1] bcast_S16x1_S16x256_0_1 (broadcastInDim S16x1 ![0] bcast_S16_S16x1_0 p)) new (ix2 r k) := by
  unfold emit1 spread
  pointwise
  simp only [hm]

end Cert.ReferenceIdeal.Rec
end
-- ==== Proof.RefLoop.lean ====
/- The reference's scan over time is the recurrence: its carried states, and the rows it has written. -/
module

public import proofs.«01_k».proof.Proof.RefStep
public import proofs.«01_k».proof.Proof.Gen.ReferenceIdeal.Run
public import Idealize.ShloMosaic.Lib.DynamicIndex
public import Idealize.ShloMosaic.Lib.WordCmp

@[expose] public section

set_option maxRecDepth 16384
noncomputable section

namespace Cert.ReferenceIdeal.Rec

open Cert.ReferenceIdeal Cert.ReferenceIdeal.Gen Cert.ReferenceIdeal.Value
open Idealize.ShloMosaic Idealize.ShloMosaic.TcCoe Idealize.ShloMosaic.StableHlo
open Cert.KernelIdeal.Runs (gates cellC cellH blend emit0 emit1 prod msk states outs rows fresh late layer)

/-- A block read at a start inside the operand. -/
theorem slice3 (x : FVec Ideal S512x16x256 .f32) (start : Fin 3 → Int) (t : ℕ) (ht : t < 512) (h0 : start 0 = t) (h1 : start 1 = 0) (h2 : start 2 = 0)
    (r : Fin 16) (k : Fin 256) :
    (shapeCast S16x256 (Host.dynamicSlice S1x16x256 x start sliceFits_S512x16x256_S1x16x256) shapeCasts_S1x16x256_S16x256 (ix2 r k) : EReal)
      = x (ix3 ⟨t, ht⟩ r k) := by
  rw [Host.dynamicSlice_eq_extractStridedSlice S1x16x256 x start ![t, 0, 0] _ (by
    refine ⟨rfl, fun a => ?_⟩
    fin_cases a <;> simp [Fin.cast] <;> omega) (fun a => by fin_cases a <;> simp [h0, h1, h2])]
  pointwise

theorem slice2 (x : FVec Ideal S512x16 .f32) (start : Fin 2 → Int) (t : ℕ) (ht : t < 512) (h0 : start 0 = t) (h1 : start 1 = 0) (r : Fin 16) :
    (shapeCast S16 (Host.dynamicSlice S1x16 x start sliceFits_S512x16_S1x16) shapeCasts_S1x16_S16 (ix1 r) : EReal)
      = x (ix2 ⟨t, ht⟩ r) := by
  rw [Host.dynamicSlice_eq_extractStridedSlice S1x16 x start ![t, 0] _ (by
    refine ⟨rfl, fun a => ?_⟩
    fin_cases a <;> simp [Fin.cast] <;> omega) (fun a => by fin_cases a <;> simp [h0, h1])]
  pointwise

/-- A block written at a start inside the operand, read back. -/
theorem update3 (x : FVec Ideal S512x16x256 .f32) (y : FVec Ideal S16x256 .f32) (start : Fin 3 → Int) (t : ℕ) (ht : t < 512)
    (h0 : start 0 = t) (h1 : start 1 = 0) (h2 : start 2 = 0) (u : Fin 512) (r : Fin 16) (k : Fin 256) :
    (Host.dynamicUpdateSlice x (broadcastInDim S1x16x256 ![1, 2] bcast_S16x256_S1x16x256_1_2 y) start updateFits_S512x16x256_S1x16x256 (ix3 u r k) : EReal)
      = if u.val = t then y (ix2 r k) else x (ix3 u r k) := by
  rw [WordCmp.dynamicUpdateSlice_eq_update x _ start _ ![t, 0, 0] (by
    refine ⟨rfl, fun a => ?_⟩
    fin_cases a <;> simp [Fin.cast] <;> omega) (fun a => by fin_cases a <;> simp [h0, h1, h2])]
  pointwise
  by_cases h : u.val = t
  · rw [if_pos h, dif_pos (by omega)]
  · rw [if_neg h, dif_neg (by omega)]

section
variable (m : (ℓ : Loc nD τ sig) → Buf (Elt Ideal) ℓ) (c : Dev nD)

/-- The reference's contents before trip `n`. -/
abbrev cur (n : ℕ) : Valuation τ sig (Elt Ideal) := STEP^[n] (entryContents preI m c)

/-- The zero state the scan starts from. -/
def refZero : FVec Ideal S16x256 .f32 := broadcastInDim S16x256 ![] bcast_S_S16x256 (constant S_ .f32 0x00000000#32)

/-- The lengths' mask as the reference writes it. -/
def refMask (l : IVec S16 32) : FVec Ideal S512x16 .f32 :=
  transpose S512x16 [1, 0] (uitofp .f32 (cmpi .slt
    (broadcastInDim S16x512 ![0, 1] bcast_S1x512_S16x512_0_1 (broadcastInDim S1x512 ![1] bcast_S512_S1x512_1 (iotaInDim S512 32 0)))
    (broadcastInDim S16x512 ![0, 1] bcast_S16x1_S16x512_0_1 (broadcastInDim S16x1 ![0] bcast_S16_S16x1_0 l))) : FVec Ideal S16x512 .f32)
    transposes_S16x512_S512x16_1_0

theorem refMask_at (l : IVec S16 32) (t : Fin 512) (r : Fin 16) :
    (refMask l (ix2 t r) : EReal) = msk (fun b => l (ix1 b)) t.val (ix2 r 0) := by
  unfold refMask msk
  pointwise
  have e : (BitVec.ofNat 32 t.val).toInt = t.val := by
    rw [BitVec.toInt_eq_toNat_cond, BitVec.toNat_ofNat, Nat.mod_eq_of_lt (by omega), if_pos (by omega)]
  show ((((BitVec.ofBool ((BitVec.ofNat 32 t.val).slt (l (ix1 r)))).toNat : ℝ)) : EReal) = if (t.val : ℤ) < (l (ix1 r)).toInt then 1 else 0
  by_cases h : ((t.val : ℤ) < (l (ix1 r)).toInt)
  · rw [if_pos h, show (BitVec.ofNat 32 t.val).slt (l (ix1 r)) = true from decide_eq_true (by rw [e]; exact h)]
    simp
  · rw [if_neg h, show (BitVec.ofNat 32 t.val).slt (l (ix1 r)) = false from decide_eq_false (by rw [e]; exact h)]
    simp

/-- What the scan's carried arrays hold before its first trip. -/
theorem entry_all :
    (entryContents preI m c main_v14_0 : FVec Ideal S512x16x256 .f32)
      = transpose S512x16x256 [1, 0, 2] (m ((c.tc : Thread nD τ).loc main_arg0) : FVec Ideal S16x512x256 .f32) transposes_S16x512x256_S512x16x256_1_0_2
    ∧ (entryContents preI m c main_v14_1 : FVec Ideal S512x16 .f32) = refMask (m ((c.tc : Thread nD τ).loc main_arg1))
    ∧ entryContents preI m c main_v14_2 = m ((c.tc : Thread nD τ).loc main_arg2)
    ∧ entryContents preI m c main_v14_3 = m ((c.tc : Thread nD τ).loc main_arg4)
    ∧ entryContents preI m c main_v14_4 = m ((c.tc : Thread nD τ).loc main_arg3)
    ∧ entryContents preI m c main_v14_5 = m ((c.tc : Thread nD τ).loc main_arg5)
    ∧ entryContents preI m c main_v14_6 = m ((c.tc : Thread nD τ).loc main_arg6)
    ∧ entryContents preI m c main_v14_7 = m ((c.tc : Thread nD τ).loc main_arg8)
    ∧ entryContents preI m c main_v14_8 = m ((c.tc : Thread nD τ).loc main_arg7)
    ∧ entryContents preI m c main_v14_9 = m ((c.tc : Thread nD τ).loc main_arg9)
    ∧ entryContents preI m c main_v14_11 = refZero ∧ entryContents preI m c main_v14_12 = refZero
    ∧ entryContents preI m c main_v14_13 = refZero ∧ entryContents preI m c main_v14_14 = refZero := by
  refine ⟨?_, ?_, ?_, ?_, ?_, ?_, ?_, ?_, ?_, ?_, ?_, ?_, ?_, ?_⟩ <;>
    (simp only [entryContents, afterL_cons, afterL_nil]; after_reads_simp; try rfl)

/-- An array no trip writes is the entry's at every trip. -/
theorem cur_keep (b : DevRef τ sig) (h : ∀ V : Valuation τ sig (Elt Ideal), STEP V b = V b) : ∀ n, cur m c n b = entryContents preI m c b
  | 0 => rfl
  | n + 1 => by
    show (STEP^[n + 1] _) b = _
    rw [Function.iterate_succ_apply', h]
    exact cur_keep b h n

theorem cur_succ (n : ℕ) : cur m c (n + 1) = STEP (cur m c n) := Function.iterate_succ_apply' _ _ _

/-- The counter before trip `n`. -/
theorem cur_ctr : ∀ n, (cur m c n main_v14_10 : IVec S_ 32) = fun _ => BitVec.ofNat 32 n
  | 0 => ctr_entry m c
  | n + 1 => by
    rw [cur_succ]
    refine (STEP_main_v14_10 _).trans ?_
    show addi (cur m c n main_v14_10 : IVec S_ 32) (constantI S_ 32 1#32) = _
    rw [cur_ctr n]
    funext j
    show BitVec.ofNat 32 n + 1#32 = _
    rw [BitVec.ofNat_add]

/-- The counter's word as a position in the sequence. -/
theorem ctr_int (n : ℕ) (hn : n < 512) (j : S_.Idx) : ((cur m c n main_v14_10 : IVec S_ 32) j).toInt = n := by
  rw [cur_ctr]
  show (BitVec.ofNat 32 n).toInt = n
  rw [BitVec.toInt_eq_toNat_cond, BitVec.toNat_ofNat, Nat.mod_eq_of_lt (by omega), if_pos (by omega)]

/-- The mask's row of trip `n`. -/
theorem cur_mask (n : ℕ) (hn : n < 512) (r : Fin 16) :
    ((res_main_while0b_v50 (cur m c n) : FVec Ideal S16 .f32) (ix1 r) : EReal)
      = msk (fun b => (m ((c.tc : Thread nD τ).loc main_arg1) : IVec S16 32) (ix1 b)) n (ix2 r 0) := by
  refine (slice2 (cur m c n main_v14_1) _ n hn (ctr_int m c n hn _) rfl r).trans ?_
  rw [cur_keep m c main_v14_1 STEP_main_v14_1 n, (entry_all m c).2.1]
  exact refMask_at _ ⟨n, hn⟩ r

/-- The input's row of trip `n`. -/
def refX (n : ℕ) : FVec Ideal S16x256 .f32 :=
  shapeCast S16x256 (Host.dynamicSlice S1x16x256 (cur m c n main_v14_0 : FVec Ideal S512x16x256 .f32)
    (fun k => (((![cur m c n main_v14_10, constantI S_ 32 0#32, constantI S_ 32 0#32] : Fin 3 → (⟨S_, .i32⟩ : BufTy).Contents (Elt Ideal))) k (Shape.Idx.first h_S_)).toInt)
    sliceFits_S512x16x256_S1x16x256) shapeCasts_S1x16x256_S16x256

theorem refX_at (n : ℕ) (hn : n < 512) (r : Fin 16) (k : Fin 256) :
    (refX m c n (ix2 r k) : EReal) = (m ((c.tc : Thread nD τ).loc main_arg0) : FVec Ideal S16x512x256 .f32) (ix3 r ⟨n, hn⟩ k) := by
  refine (slice3 (cur m c n main_v14_0) _ n hn (ctr_int m c n hn _) rfl rfl r k).trans ?_
  rw [cur_keep m c main_v14_0 STEP_main_v14_0 n, (entry_all m c).1]
  pointwise

end

/-! ## The induction -/

/-- The kernel's arrays, as the arguments give them. -/
structure Same (a0 : FVec Ideal S16x512x256 .f32) (a1 : IVec S16 32) (a2 a3 : FVec Ideal S1024x256 .f32) (a4 a5 : FVec Ideal S1024 .f32)
    (a6 a7 : FVec Ideal S1024x256 .f32) (a8 a9 : FVec Ideal S1024 .f32) (L : Fin 16 → BitVec 32) (A : FVec Ideal S512x16x256 .f32)
    (wx0 : FVec Ideal S256x1024 .f32) (wh0 : FVec Ideal S256x1024 .bf16) (b0 : FVec Ideal S1x1024 .f32)
    (wx1 wh1 : FVec Ideal S256x1024 .bf16) (b1 : FVec Ideal S1x1024 .f32) : Prop where
  len : (fun b => a1 (ix1 b)) = L
  x : ∀ u r k, (A (ix3 u r k) : EReal) = a0 (ix3 r u k)
  wx0 : ∀ k n, (wx0 (ix2 k n) : EReal) = a2 (ix2 n k)
  wh0 : ∀ k n, (wh0 (ix2 k n) : EReal) = a3 (ix2 n k)
  b0 : ∀ n, b0 (ix2 0 n) = (a4 (ix1 n) + a5 (ix1 n) : EReal)
  wx1 : ∀ k n, (wx1 (ix2 k n) : EReal) = a6 (ix2 n k)
  wh1 : ∀ k n, (wh1 (ix2 k n) : EReal) = a7 (ix2 n k)
  b1 : ∀ n, b1 (ix2 0 n) = (a8 (ix1 n) + a9 (ix1 n) : EReal)

/-- The same of the reference's memory. -/
abbrev SameMem (m : (ℓ : Loc nD τ sig) → Buf (Elt Ideal) ℓ) (c : Dev nD) :=
  Same (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9))

section
variable (L : Fin 16 → BitVec 32) (A : FVec Ideal S512x16x256 .f32)
  (wx0 : FVec Ideal S256x1024 .f32) (wh0 : FVec Ideal S256x1024 .bf16) (b0 : FVec Ideal S1x1024 .f32)
  (wx1 wh1 : FVec Ideal S256x1024 .bf16) (b1 : FVec Ideal S1x1024 .f32)

/-- The two layers' gate products over time. -/
abbrev gA : ℕ → FVec Ideal S16x1024 .bf16 := Cert.KernelIdeal.Runs.early (Cert.KernelIdeal.Runs.atTime A) wx0 b0
abbrev gB : ℕ → FVec Ideal S16x1024 .bf16 := Cert.KernelIdeal.Runs.later L (Cert.KernelIdeal.Runs.atTime A) wx0 wh0 b0 wx1 b1

variable (m : (ℓ : Loc nD τ sig) → Buf (Elt Ideal) ℓ) (c : Dev nD)

/-- The scan's carried arrays before trip `n` are the recurrence at time `n`. -/
structure Rel (n : ℕ) : Prop where
  h0 : (cur m c n main_v14_11 : FVec Ideal S16x256 .f32) = (states L (gA A wx0 b0) wh0 n).1
  c0 : (cur m c n main_v14_12 : FVec Ideal S16x256 .f32) = (states L (gA A wx0 b0) wh0 n).2
  h1 : (cur m c n main_v14_13 : FVec Ideal S16x256 .f32) = (states L (gB L A wx0 wh0 b0 wx1 b1) wh1 n).1
  c1 : (cur m c n main_v14_14 : FVec Ideal S16x256 .f32) = (states L (gB L A wx0 wh0 b0 wx1 b1) wh1 n).2
  out : ∀ (u : Fin 512) (r : Fin 16) (k : Fin 256), u.val < n → ((cur m c n main_v14_15 : FVec Ideal S512x16x256 .f32) (ix3 u r k) : EReal)
    = rows L (gB L A wx0 wh0 b0 wx1 b1) wh1 u.val (ix3 0 r k)

theorem zero_state : (refZero : FVec Ideal S16x256 .f32) = fun _ => (0 : EReal) := by
  funext j
  obtain ⟨r, k, rfl⟩ : ∃ (r : Fin 16) (k : Fin 256), j = ix2 r k := ⟨j 0, j 1, eq_ix2 j⟩
  unfold refZero
  pointwise

theorem rel_zero : Rel L A wx0 wh0 b0 wx1 wh1 b1 m c 0 := by
  obtain ⟨_, _, _, _, _, _, _, _, _, _, e0, e1, e2, e3⟩ := entry_all m c
  exact ⟨e0.trans zero_state, e1.trans zero_state, e2.trans zero_state, e3.trans zero_state, fun _ _ _ h => absurd h (Nat.not_lt_zero _)⟩

variable {L A wx0 wh0 b0 wx1 wh1 b1 m c} (S : SameMem m c L A wx0 wh0 b0 wx1 wh1 b1) {n : ℕ} (hn : n < 512)
  (R : Rel L A wx0 wh0 b0 wx1 wh1 b1 m c n)

include S hn in
theorem mask_at (r : Fin 16) : ((res_main_while0b_v50 (cur m c n) : FVec Ideal S16 .f32) (ix1 r) : EReal) = msk L n (ix2 r 0) := by
  rw [← S.len]
  exact cur_mask m c n hn r

include S hn R in
/-- Layer 0's gates of trip `n`. -/
theorem gates0_at : (res_main_while0b_v61 (cur m c n) : FVec Ideal S16x1024 .f32)
    = gates (F := Ideal) (states L (gA A wx0 b0) wh0 n).1 (gA A wx0 b0 n) wh0 := by
  obtain ⟨_, _, e2, e3, e4, e5, _⟩ := entry_all m c
  have E : (res_main_while0b_v61 (cur m c n) : FVec Ideal S16x1024 .f32)
      = refGates (refX m c n) (cur m c n main_v14_11) (cur m c n main_v14_2) (cur m c n main_v14_4) (cur m c n main_v14_3) (cur m c n main_v14_5) := rfl
  rw [E, R.h0, cur_keep m c main_v14_2 STEP_main_v14_2 n, cur_keep m c main_v14_3 STEP_main_v14_3 n, cur_keep m c main_v14_4 STEP_main_v14_4 n,
    cur_keep m c main_v14_5 STEP_main_v14_5 n, e2, e3, e4, e5]
  refine gates_eq (φ := .f32) (ψ := .f32) _ _ _ _ _ _ (Cert.KernelIdeal.Runs.atTime A n) wx0 wh0 b0 (fun r k => ?_) S.wx0 S.wh0 S.b0
  rw [refX_at m c n hn]
  refine Eq.trans ?_ (S.x ⟨n, hn⟩ r k)
  exact congrArg (fun q => A (ix3 q r k)) (Fin.ext (Nat.mod_eq_of_lt hn))

include S hn R in
/-- Layer 0's new states of trip `n`. -/
theorem new0_at : (res_main_while0b_v87 (cur m c n) : FVec Ideal S16x256 .f32)
      = cellC (F := Ideal) (states L (gA A wx0 b0) wh0 n).1 (states L (gA A wx0 b0) wh0 n).2 (gA A wx0 b0 n) wh0
    ∧ (res_main_while0b_v89 (cur m c n) : FVec Ideal S16x256 .f32) = fresh L (gA A wx0 b0) wh0 n := by
  have E : (res_main_while0b_v87 (cur m c n) : FVec Ideal S16x256 .f32)
      = refC (res_main_while0b_v61 (cur m c n)) (cur m c n main_v14_12) := rfl
  have E' : (res_main_while0b_v89 (cur m c n) : FVec Ideal S16x256 .f32)
      = refH (res_main_while0b_v61 (cur m c n)) (cur m c n main_v14_12) := rfl
  rw [E, E', gates0_at S hn R, R.c0]
  exact ⟨refC_eq _ _ _ _, refH_eq _ _ _ _⟩

include S hn R in
/-- Layer 1's gates of trip `n`: its input is layer 0's masked new state. -/
theorem gates1_at : (res_main_while0b_v117 (cur m c n) : FVec Ideal S16x1024 .f32)
    = gates (F := Ideal) (states L (gB L A wx0 wh0 b0 wx1 b1) wh1 n).1 (gB L A wx0 wh0 b0 wx1 b1 n) wh1 := by
  obtain ⟨_, _, _, _, _, _, e6, e7, e8, e9, _⟩ := entry_all m c
  have E : (res_main_while0b_v117 (cur m c n) : FVec Ideal S16x1024 .f32)
      = refGates (mulf (broadcastInDim S16x256 ![0, 1] bcast_S16x1_S16x256_0_1 (broadcastInDim S16x1 ![0] bcast_S16_S16x1_0
          (res_main_while0b_v50 (cur m c n) : FVec Ideal S16 .f32))) (res_main_while0b_v89 (cur m c n) : FVec Ideal S16x256 .f32))
        (cur m c n main_v14_13) (cur m c n main_v14_6) (cur m c n main_v14_8) (cur m c n main_v14_7) (cur m c n main_v14_9) := rfl
  rw [E, R.h1, cur_keep m c main_v14_6 STEP_main_v14_6 n, cur_keep m c main_v14_7 STEP_main_v14_7 n, cur_keep m c main_v14_8 STEP_main_v14_8 n,
    cur_keep m c main_v14_9 STEP_main_v14_9 n, e6, e7, e8, e9, (new0_at S hn R).2]
  exact gates_eq (φ := .bf16) (ψ := .bf16) _ _ _ _ _ _ (outs L (gA A wx0 b0) wh0 n) wx1 wh1 b1
    (fun r k => emit_eq _ (msk L n) (mask_at S hn) _ r k) S.wx1 S.wh1 S.b1

include S hn R in
/-- Layer 1's new states of trip `n`. -/
theorem new1_at : (res_main_while0b_v143 (cur m c n) : FVec Ideal S16x256 .f32)
      = cellC (F := Ideal) (states L (gB L A wx0 wh0 b0 wx1 b1) wh1 n).1 (states L (gB L A wx0 wh0 b0 wx1 b1) wh1 n).2 (gB L A wx0 wh0 b0 wx1 b1 n) wh1
    ∧ (res_main_while0b_v145 (cur m c n) : FVec Ideal S16x256 .f32) = fresh L (gB L A wx0 wh0 b0 wx1 b1) wh1 n := by
  have E : (res_main_while0b_v143 (cur m c n) : FVec Ideal S16x256 .f32)
      = refC (res_main_while0b_v117 (cur m c n)) (cur m c n main_v14_14) := rfl
  have E' : (res_main_while0b_v145 (cur m c n) : FVec Ideal S16x256 .f32)
      = refH (res_main_while0b_v117 (cur m c n)) (cur m c n main_v14_14) := rfl
  rw [E, E', gates1_at S hn R, R.c1]
  exact ⟨refC_eq _ _ _ _, refH_eq _ _ _ _⟩

/-- The row a trip writes. -/
def refRow (V : Valuation τ sig (Elt Ideal)) : FVec Ideal S16x256 .f32 :=
  mulf (broadcastInDim S16x256 ![0, 1] bcast_S16x1_S16x256_0_1 (broadcastInDim S16x1 ![0] bcast_S16_S16x1_0
    (res_main_while0b_v50 V : FVec Ideal S16 .f32))) (res_main_while0b_v145 V : FVec Ideal S16x256 .f32)

theorem step_out (V : Valuation τ sig (Elt Ideal)) : (STEP V main_v14_15 : FVec Ideal S512x16x256 .f32)
    = Host.dynamicUpdateSlice (V main_v14_15 : FVec Ideal S512x16x256 .f32) (broadcastInDim S1x16x256 ![1, 2] bcast_S16x256_S1x16x256_1_2 (refRow V))
      (fun k => (((![V main_v14_10, constantI S_ 32 0#32, constantI S_ 32 0#32] : Fin 3 → (⟨S_, .i32⟩ : BufTy).Contents (Elt Ideal))) k (Shape.Idx.first h_S_)).toInt)
      updateFits_S512x16x256_S1x16x256 :=
  STEP_main_v14_15 V

theorem out_at (n : ℕ) (hn : n < 512) (u : Fin 512) (r : Fin 16) (k : Fin 256) :
    ((STEP (cur m c n) main_v14_15 : FVec Ideal S512x16x256 .f32) (ix3 u r k) : EReal)
      = if u.val = n then refRow (cur m c n) (ix2 r k) else (cur m c n main_v14_15 : FVec Ideal S512x16x256 .f32) (ix3 u r k) := by
  rw [step_out]
  exact update3 _ (refRow (cur m c n)) _ n hn (ctr_int m c n hn _) rfl rfl u r k

include S hn R in
/-- One trip keeps the relation. -/
theorem rel_succ : Rel L A wx0 wh0 b0 wx1 wh1 b1 m c (n + 1) := by
  have hm := mask_at S hn
  have a := new0_at S hn R
  have b := new1_at S hn R
  refine ⟨?_, ?_, ?_, ?_, fun u r k hu => ?_⟩ <;> rw [cur_succ]
  · refine (STEP_main_v14_11 _).trans ((blend_eq (res_main_while0b_v50 (cur m c n)) (msk L n) hm (res_main_while0b_v89 (cur m c n)) (cur m c n main_v14_11)).trans ?_)
    rw [a.2, R.h0]; rfl
  · refine (STEP_main_v14_12 _).trans ((blend_eq (res_main_while0b_v50 (cur m c n)) (msk L n) hm (res_main_while0b_v87 (cur m c n)) (cur m c n main_v14_12)).trans ?_)
    rw [a.1, R.c0]; rfl
  · refine (STEP_main_v14_13 _).trans ((blend_eq (res_main_while0b_v50 (cur m c n)) (msk L n) hm (res_main_while0b_v145 (cur m c n)) (cur m c n main_v14_13)).trans ?_)
    rw [b.2, R.h1]; rfl
  · refine (STEP_main_v14_14 _).trans ((blend_eq (res_main_while0b_v50 (cur m c n)) (msk L n) hm (res_main_while0b_v143 (cur m c n)) (cur m c n main_v14_14)).trans ?_)
    rw [b.1, R.c1]; rfl
  · rw [out_at n hn u r k]
    by_cases e : u.val = n
    · rw [if_pos e]
      unfold refRow
      rw [b.2]
      refine (emit1_eq _ (msk L n) hm _ r k).symm.trans ?_
      subst e
      rfl
    · rw [if_neg e]
      exact R.out u r k (by omega)

include S in
theorem rel_all : ∀ n, n ≤ 512 → Rel L A wx0 wh0 b0 wx1 wh1 b1 m c n
  | 0, _ => rel_zero L A wx0 wh0 b0 wx1 wh1 b1 m c
  | n + 1, h => rel_succ S (by omega) (rel_all n (by omega))

include S in
/-- The rows the scan has written. -/
theorem ref_rows (u : Fin 512) (r : Fin 16) (k : Fin 256) :
    ((cur m c 512 main_v14_15 : FVec Ideal S512x16x256 .f32) (ix3 u r k) : EReal) = rows L (gB L A wx0 wh0 b0 wx1 b1) wh1 u.val (ix3 0 r k) :=
  (rel_all S 512 le_rfl).out u r k u.isLt

end

end Cert.ReferenceIdeal.Rec
end
-- ==== Proof.IdealEntry.lean ====
/- The arrays the host hands to the two calls, by the arguments; and the context: the recurrent call's rows are the reference's. -/
module

public import proofs.«01_k».proof.Proof.RefLoop
public import proofs.«01_k».proof.Proof.Run

@[expose] public section

set_option maxRecDepth 16384
noncomputable section

namespace Cert.KernelIdeal.Runs

open Cert.KernelIdeal Cert.KernelIdeal.Gen
open Idealize.ShloMosaic Idealize.ShloMosaic.TcCoe Idealize.SL.Sem

variable (m : (ℓ : Loc nD τ sig) → Buf (Elt Ideal) ℓ) (c : Dev nD)

/-- What the recurrent call finds in its operands. -/
theorem entry0_all :
    (entry0 m c main_call0_v1 : FVec Ideal S16x1 .f32)
      = (shapeCast S16x1 (sitofp .f32 (m ((c : Thread nD τ).loc main_arg1) : IVec S16 32) : FVec Ideal S16 .f32) shapeCasts_S16_S16x1 : FVec Ideal S16x1 .f32)
    ∧ (entry0 m c main_call0_v2 : FVec Ideal S512x16x256 .f32)
      = (transpose S512x16x256 [1, 0, 2] (m ((c : Thread nD τ).loc main_arg0) : FVec Ideal S16x512x256 .f32) transposes_S16x512x256_S512x16x256_1_0_2 : FVec Ideal S512x16x256 .f32)
    ∧ (entry0 m c main_call0_v4 : FVec Ideal S1x1024 .f32)
      = (shapeCast S1x1024 (addf (m ((c : Thread nD τ).loc main_arg4) : FVec Ideal S1024 .f32) (m ((c : Thread nD τ).loc main_arg5))) shapeCasts_S1024_S1x1024 : FVec Ideal S1x1024 .f32)
    ∧ (entry0 m c main_call0_v6 : FVec Ideal S1x1024 .f32)
      = (shapeCast S1x1024 (addf (m ((c : Thread nD τ).loc main_arg8) : FVec Ideal S1024 .f32) (m ((c : Thread nD τ).loc main_arg9))) shapeCasts_S1024_S1x1024 : FVec Ideal S1x1024 .f32)
    ∧ (entry0 m c main_call0_v7 : FVec Ideal S256x1024 .f32)
      = (transpose S256x1024 [1, 0] (m ((c : Thread nD τ).loc main_arg2) : FVec Ideal S1024x256 .f32) transposes_S1024x256_S256x1024_1_0 : FVec Ideal S256x1024 .f32)
    ∧ (entry0 m c main_call0_v9 : FVec Ideal S256x1024 .bf16)
      = (truncf .bf16 (transpose S256x1024 [1, 0] (m ((c : Thread nD τ).loc main_arg3) : FVec Ideal S1024x256 .f32) transposes_S1024x256_S256x1024_1_0) bitsLt_bf16_f32 : FVec Ideal S256x1024 .bf16)
    ∧ (entry0 m c main_call0_v11 : FVec Ideal S256x1024 .bf16)
      = (truncf .bf16 (transpose S256x1024 [1, 0] (m ((c : Thread nD τ).loc main_arg6) : FVec Ideal S1024x256 .f32) transposes_S1024x256_S256x1024_1_0) bitsLt_bf16_f32 : FVec Ideal S256x1024 .bf16)
    ∧ (entry0 m c main_call0_v13 : FVec Ideal S256x1024 .bf16)
      = (truncf .bf16 (transpose S256x1024 [1, 0] (m ((c : Thread nD τ).loc main_arg7) : FVec Ideal S1024x256 .f32) transposes_S1024x256_S256x1024_1_0) bitsLt_bf16_f32 : FVec Ideal S256x1024 .bf16) := by
  unfold entry0 V1 hostOps0 V0
  refine ⟨?_, ?_, ?_, ?_, ?_, ?_, ?_, ?_⟩ <;> (after_results; rfl)

/-- The lengths as words. -/
abbrev lengths (b : Fin 16) : BitVec 32 := (m ((c : Thread nD τ).loc main_arg1) : IVec S16 32) (ix1 b)

theorem entry_lens : entry0 m c main_call0_v1 = lensVec (lengths m c) := by
  refine (entry0_all m c).1.trans ?_
  funext j
  obtain ⟨r, k, rfl⟩ : ∃ (r : Fin 16) (k : Fin 1), j = ix2 r k := ⟨j 0, j 1, eq_ix2 j⟩
  unfold lensVec
  pointwise
  rfl

/-- The recurrent call's operands are the arguments, transposed and added. -/
theorem entry_same : Cert.ReferenceIdeal.Rec.Same (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (lengths m c) (entry0 m c main_call0_v2) (entry0 m c main_call0_v7) (entry0 m c main_call0_v9)
    (entry0 m c main_call0_v4) (entry0 m c main_call0_v11) (entry0 m c main_call0_v13) (entry0 m c main_call0_v6) := by
  obtain ⟨_, e2, e4, e6, e7, e9, e11, e13⟩ := entry0_all m c
  refine ⟨rfl, fun u r k => ?_, fun k n => ?_, fun k n => ?_, fun n => ?_, fun k n => ?_, fun k n => ?_, fun n => ?_⟩
  · rw [e2]; pointwise
  · rw [e7]; pointwise
  · rw [e9]; pointwise
  · rw [e4]; pointwise
  · rw [e11]; pointwise
  · rw [e13]; pointwise
  · rw [e6]; pointwise

/-- The context the recurrent call leaves is the reference's rows, when the two memories' arguments agree. -/
theorem ctx_eq (m' : (ℓ : Loc Cert.ReferenceIdeal.nD Cert.ReferenceIdeal.τ Cert.ReferenceIdeal.sig) → Buf (Elt Ideal) ℓ) (c' : Dev Cert.ReferenceIdeal.nD)
    (h : Cert.ReferenceIdeal.Rec.SameMem m' c' (lengths m c) (entry0 m c main_call0_v2) (entry0 m c main_call0_v7) (entry0 m c main_call0_v9)
      (entry0 m c main_call0_v4) (entry0 m c main_call0_v11) (entry0 m c main_call0_v13) (entry0 m c main_call0_v6))
    (u : Fin 512) (r : Fin 16) (k : Fin 256) :
    ((left m 2 main_call0_v14 c : FVec Ideal S512x16x256 .f32) (ix3 u r k) : EReal)
      = (Cert.ReferenceIdeal.Rec.cur m' c' 512 Cert.ReferenceIdeal.main_v14_15 : FVec Ideal S512x16x256 .f32) (ix3 u r k) := by
  rw [Cert.ReferenceIdeal.Rec.ref_rows h u r k, left_ctx]
  exact ctx_rows (entry0 m) c (entry_lens m c) u r k

end Cert.KernelIdeal.Runs
end
-- ==== Proof.IdealFusion.lean ====
/- The fusion call's payloads over the extended reals, index by index. -/
module

public import proofs.«01_k».proof.Proof.FusionBody
public import proofs.«01_k».proof.Proof.IdealStep
public import Idealize.ShloMosaic.Lib.Pointwise

@[expose] public section

set_option maxRecDepth 16384
noncomputable section

namespace Cert.KernelIdeal.Runs

open Cert.KernelIdeal Cert.KernelIdeal.Gen
open Idealize.ShloMosaic Idealize.ShloMosaic.TcCoe

/-- One branch of the attention at one batch entry: `v` the projected text, `q` the projected context, `g` the branch's row. -/
def attS (v q : Fin 512 → Fin 128 → EReal) (g : Fin 128 → EReal) (s t : Fin 512) : EReal := ∑ h, v s h * g h * q t h

section
variable (v q : Fin 512 → Fin 128 → EReal) (g g0 g1 : Fin 128 → EReal)

/-- The row maximum the scores are shifted by, the shifted exponential, and the attention probability. -/
def topS (s : Fin 512) : EReal := Finset.fold max (Ideal.ofBits .f32 0xFF800000#32) (fun t => attS v q g s t) Finset.univ
def expS (s t : Fin 512) : EReal := Ideal.exp (attS v q g s t - topS v q g s)
def prbS (s t : Fin 512) : EReal := Ideal.div (expS v q g s t) (∑ u, expS v q g s u)

/-- One branch's fused vector, and the two branches' together. -/
def mixS (h : Fin 128) : EReal := ∑ s, v s h * ∑ t, prbS v q g s t * q t h
def fusedS (h : Fin 128) : EReal := mixS v q g0 h + mixS v q g1 h

/-- The line weights, before and after they are divided by their sum. -/
def lineS (s : Fin 512) : EReal := prbS v q g0 s s + prbS v q g1 s s
def weightS (s : Fin 512) : EReal := Ideal.div (lineS v q g0 g1 s) (∑ u, lineS v q g0 g1 u)
end

/-- A projection through the hyperbolic tangent. -/
def projS (x : Fin 512 → Fin 256 → EReal) (w : Fin 256 → Fin 128 → EReal) (s : Fin 512) (h : Fin 128) : EReal := Ideal.tanh (∑ d, x s d * w d h)

/-- An array as a function of its two coordinates. -/
abbrev tab {a b : ℕ} {φ : FTy} (x : FVec Ideal ⟨2, ![a, b]⟩ φ) (i : Fin a) (j : Fin b) : EReal := x (ix2 i j)

section
variable (v6 : FVec Ideal S512x128 .f32) (v10 : FVec Ideal S512x128 .f32) (v39 : FVec Ideal S1x128 .f32)

theorem att_at (s t : Fin 512) : (k1_pay2 (F := Ideal) v6 v10 v39 (ix2 s t) : EReal) = attS (tab v6) (tab v10) (tab v39 0) s t := by
  unfold k1_pay2 k1_pay1 attS
  pointwise

theorem top_at (s : Fin 512) : (k1_pay3 (F := Ideal) v6 v10 v39 (ix2 s 0) : EReal) = topS (tab v6) (tab v10) (tab v39 0) s := by
  unfold k1_pay3 topS
  simp only [← att_at]
  generalize k1_pay2 (F := Ideal) v6 v10 v39 = a
  pointwise

theorem exp_at (s t : Fin 512) : (k1_pay4 (F := Ideal) v6 v10 v39 (ix2 s t) : EReal) = expS (tab v6) (tab v10) (tab v39 0) s t := by
  unfold k1_pay4 expS
  rw [← att_at, ← top_at]
  generalize k1_pay2 (F := Ideal) v6 v10 v39 = a
  generalize k1_pay3 (F := Ideal) v6 v10 v39 = b
  pointwise

theorem sum_at (s : Fin 512) : (k1_pay5 (F := Ideal) v6 v10 v39 (ix2 s 0) : EReal) = ∑ u, expS (tab v6) (tab v10) (tab v39 0) s u := by
  unfold k1_pay5
  simp only [← exp_at]
  generalize k1_pay4 (F := Ideal) v6 v10 v39 = a
  pointwise

theorem fused_at (a b : FVec Ideal S1x128 .f32) (h : Fin 128) :
    (k1_pay6 (F := Ideal) v6 v10 v10 a b v39 (ix3 0 0 h) : EReal) = a (ix2 0 h) + b (ix2 0 h) + mixS (tab v6) (tab v10) (tab v39 0) h := by
  unfold k1_pay6 mixS prbS
  simp only [← sum_at]
  simp only [← exp_at]
  generalize k1_pay4 (F := Ideal) v6 v10 v39 = e
  generalize k1_pay5 (F := Ideal) v6 v10 v39 = z
  pointwise

theorem weight_at (a : FVec Ideal S512x1 .f32) (s : Fin 512) :
    (k1_pay7 (F := Ideal) v6 v10 v10 a v39 (ix3 0 0 s) : EReal) = Ideal.div (a (ix2 s 0) + prbS (tab v6) (tab v10) (tab v39 0) s s)
      (∑ u, (a (ix2 u 0) + prbS (tab v6) (tab v10) (tab v39 0) u u)) := by
  unfold k1_pay7 k1_pay1 prbS
  simp only [← sum_at]
  unfold expS
  simp only [← top_at]
  unfold attS
  generalize k1_pay3 (F := Ideal) v6 v10 v39 = e
  generalize k1_pay5 (F := Ideal) v6 v10 v39 = z
  pointwise
  simp only [Fin.sum_univ_one]

end

section
variable (x0 : FVec Ideal S1x512x256 .f32) (x1 : FVec Ideal S512x256 .f32) (x2 x3 : FVec Ideal S256x128 .f32) (y : FVec Ideal S1x128 .f32)

theorem text_at : tab (k1_pay8 x0 x2) = projS (fun s d => x0 (ix3 0 s d)) (tab x2) := by
  funext s h
  unfold k1_pay8 projS tab
  pointwise

theorem ctx_at : tab (k1_pay9 x1 x3) = projS (tab x1) (tab x3) := by
  funext s h
  unfold k1_pay9 projS tab
  pointwise

theorem narrow_ctx : k1_pay10 (F := Ideal) x1 x3 = k1_pay9 (F := Ideal) x1 x3 := rfl

theorem mix_at (h : Fin 128) : (k1_pay18 (F := Ideal) x0 x1 x2 x3 y (ix2 0 h) : EReal)
    = mixS (projS (fun s d => x0 (ix3 0 s d)) (tab x2)) (projS (tab x1) (tab x3)) (tab y 0) h := by
  have e := fused_at (k1_pay8 x0 x2) (k1_pay9 x1 x3) y (fun _ => (0 : EReal)) (fun _ => (0 : EReal)) h
  rw [text_at, ctx_at] at e
  simp only [zero_add] at e
  rw [← e]
  show (_ : EReal) = _
  unfold k1_pay18 k1_pay6
  have e4 : k1_pay15 (F := Ideal) x0 x1 x2 x3 y = k1_pay4 (F := Ideal) (k1_pay8 x0 x2) (k1_pay10 (F := Ideal) x1 x3) y := rfl
  have e5 : k1_pay16 (F := Ideal) x0 x1 x2 x3 y = k1_pay5 (F := Ideal) (k1_pay8 x0 x2) (k1_pay10 (F := Ideal) x1 x3) y := rfl
  rw [e4, e5, narrow_ctx]
  generalize k1_pay4 (F := Ideal) (k1_pay8 (F := Ideal) x0 x2) (k1_pay9 (F := Ideal) x1 x3) y = e
  generalize k1_pay5 (F := Ideal) (k1_pay8 (F := Ideal) x0 x2) (k1_pay9 (F := Ideal) x1 x3) y = z
  generalize k1_pay8 (F := Ideal) x0 x2 = v
  generalize k1_pay9 (F := Ideal) x1 x3 = q
  pointwise

theorem line_at (s : Fin 512) : (k1_pay17 (F := Ideal) x0 x1 x2 x3 y (ix2 s 0) : EReal)
    = prbS (projS (fun s d => x0 (ix3 0 s d)) (tab x2)) (projS (tab x1) (tab x3)) (tab y 0) s s := by
  rw [← text_at, ← ctx_at]
  unfold prbS
  simp only [← sum_at]
  unfold expS
  simp only [← top_at]
  unfold attS
  have e4 : k1_pay14 (F := Ideal) x0 x1 x2 x3 y = k1_pay3 (F := Ideal) (k1_pay8 x0 x2) (k1_pay10 (F := Ideal) x1 x3) y := rfl
  have e5 : k1_pay16 (F := Ideal) x0 x1 x2 x3 y = k1_pay5 (F := Ideal) (k1_pay8 x0 x2) (k1_pay10 (F := Ideal) x1 x3) y := rfl
  unfold k1_pay17 k1_pay12
  rw [e4, e5, narrow_ctx]
  generalize k1_pay3 (F := Ideal) (k1_pay8 (F := Ideal) x0 x2) (k1_pay9 (F := Ideal) x1 x3) y = e
  generalize k1_pay5 (F := Ideal) (k1_pay8 (F := Ideal) x0 x2) (k1_pay9 (F := Ideal) x1 x3) y = z
  generalize k1_pay8 (F := Ideal) x0 x2 = v
  generalize k1_pay9 (F := Ideal) x1 x3 = q
  pointwise

end

section
variable (x0 : FVec Ideal S1x512x256 .f32) (x1 : FVec Ideal S512x256 .f32) (x2 x3 : FVec Ideal S256x128 .f32) (x4 : FVec Ideal S2x128 .f32)

theorem ld_txt (x : Vec Ideal S1x512x256 .f32) : View.ld x accTxt = x := View.ld_unit_zero (by funext a; fin_cases a <;> rfl) _ x
theorem ld_ctx (x : Vec Ideal S512x256 .f32) : View.ld x accCtx = x := View.ld_unit_zero (by funext a; fin_cases a <;> rfl) _ x
theorem ld_mat (x : Vec Ideal S256x128 .f32) : View.ld x accMat = x := View.ld_unit_zero (by funext a; fin_cases a <;> rfl) _ x

/-- The two branches' rows of the attention matrix. -/
theorem ld_row0 (x : Vec Ideal S2x128 .f32) : tab (φ := .f32) (View.ld x accRow0) 0 = tab (φ := .f32) x 0 := by
  funext h
  show x (accRow0.emb (ix2 0 h)) = x (ix2 0 h)
  congr 1
  funext a
  match a with
  | 0 => rfl
  | 1 => exact Fin.ext (by show 0 + 1 * h.val = h.val; omega)
theorem ld_row1 (x : Vec Ideal S2x128 .f32) : tab (φ := .f32) (View.ld x accRow1) 0 = tab (φ := .f32) x 1 := by
  funext h
  show x (accRow1.emb (ix2 0 h)) = x (ix2 1 h)
  congr 1
  funext a
  match a with
  | 0 => rfl
  | 1 => exact Fin.ext (by show 0 + 1 * h.val = h.val; omega)

/-- The fused vector's payload, -/
theorem fusedPay_at (h : Fin 128) : (fusedPay (F := Ideal) x0 x1 x2 x3 x4 (ix3 0 0 h) : EReal)
    = fusedS (projS (fun s d => x0 (ix3 0 s d)) (tab x2)) (projS (tab x1) (tab x3)) (tab x4 0) (tab x4 1) h := by
  unfold fusedPay fusedS
  rw [ld_txt, ld_ctx, ld_mat, ld_mat]
  refine (fused_at _ _ _ _ _ h).trans ?_
  rw [mix_at, text_at, ctx_at, ld_row0, ld_row1]
  have e : (k1_pay11 (F := Ideal) (ix2 0 h) : EReal) = 0 := by unfold k1_pay11; pointwise
  rw [e, zero_add]

/-- and the line weights'. -/
theorem weightPay_at (s : Fin 512) : (weightPay (F := Ideal) x0 x1 x2 x3 x4 (ix3 0 0 s) : EReal)
    = weightS (projS (fun s d => x0 (ix3 0 s d)) (tab x2)) (projS (tab x1) (tab x3)) (tab x4 0) (tab x4 1) s := by
  unfold weightPay weightS lineS
  rw [ld_txt, ld_ctx, ld_mat, ld_mat]
  refine (weight_at _ _ _ _ s).trans ?_
  simp only [line_at]
  rw [text_at, ctx_at, ld_row0, ld_row1]

end

end Cert.KernelIdeal.Runs
end
-- ==== Proof.IdealResults.lean ====
/- The kernel's two results over the extended reals, by the arguments and the context the recurrent call leaves. -/
module

public import proofs.«01_k».proof.Proof.IdealFusion
public import proofs.«01_k».proof.Proof.Run
public import Idealize.ShloMosaic.Lib.Pipeline.ValueKit

@[expose] public section

set_option maxRecDepth 16384

noncomputable section

namespace Cert.KernelIdeal.Runs

open Cert.KernelIdeal Cert.KernelIdeal.Gen
open Idealize.ShloMosaic Idealize.ShloMosaic.TcCoe Idealize.SL.Sem

/-- The projected text and the projected context of a batch entry, -/
def textB (T : FVec Ideal S16x512x256 .f32) (U : FVec Ideal S256x128 .f32) (b : Fin 16) : Fin 512 → Fin 128 → EReal :=
  projS (fun s d => T (ix3 b s d)) (tab U)
def ctxB (C : Fin 512 → Fin 16 → Fin 256 → EReal) (W : FVec Ideal S256x128 .f32) (b : Fin 16) : Fin 512 → Fin 128 → EReal :=
  projS (fun s d => C s b d) (tab W)

/-- the fused vectors and the line weights of the whole batch. -/
def fusedB (T : FVec Ideal S16x512x256 .f32) (C : Fin 512 → Fin 16 → Fin 256 → EReal) (U W : FVec Ideal S256x128 .f32)
    (g : FVec Ideal S2x128 .f32) (b : Fin 16) (h : Fin 128) : EReal :=
  fusedS (textB T U b) (ctxB C W b) (tab g 0) (tab g 1) h
def weightB (T : FVec Ideal S16x512x256 .f32) (C : Fin 512 → Fin 16 → Fin 256 → EReal) (U W : FVec Ideal S256x128 .f32)
    (g : FVec Ideal S2x128 .f32) (b : Fin 16) (s : Fin 512) : EReal :=
  weightS (textB T U b) (ctxB C W b) (tab g 0) (tab g 1) s

/-- The blocks the windows are at. -/
theorem idx1 : ∀ t : Fin cfg1.N, win1_0.index t = ![t.val, 0, 0] ∧ win1_1.index t = ![0, t.val] ∧ win1_2.index t = ![0, 0]
    ∧ win1_3.index t = ![0, 0] ∧ win1_4.index t = ![0, 0] ∧ win1_5.index t = ![t.val, 0, 0] ∧ win1_6.index t = ![t.val, 0, 0] :=
  (by decide +kernel : ∀ t : Fin grid1.N, _)

section
variable (V : (c : Dev nD) → (b : Ref sig .tc) → Buf (Elt Ideal) ((c : Thread nD τ).loc b)) (c : Dev nD) (t : Fin cfg1.N)

theorem fblk2_eq : (fblk V c 2 t : Vec Ideal S256x128 .f32) = V c main_arg10 := by blk_ext! [fblk, idx1 t]
theorem fblk3_eq : (fblk V c 3 t : Vec Ideal S256x128 .f32) = V c main_arg11 := by blk_ext! [fblk, idx1 t]
theorem fblk4_eq : (fblk V c 4 t : Vec Ideal S2x128 .f32) = V c main_arg12 := by blk_ext! [fblk, idx1 t]

/-- The batch entry a point works on. -/
abbrev entryAt : Fin 16 := ⟨t.val, t.isLt⟩

theorem fblk0_at (s : Fin 512) (d : Fin 256) :
    (fblk V c 0 t : Vec Ideal S1x512x256 .f32) (ix3 0 s d) = (V c main_arg0 : Vec Ideal S16x512x256 .f32) (ix3 (entryAt t) s d) := by
  blk_ext [fblk, idx1 t]

/-- A column of the two dimensional context. -/
def wide (C : FVec Ideal S512x4096 .f32) (s : Fin 512) (b : Fin 16) (d : Fin 256) : EReal :=
  C (ix2 s ⟨b.val * 256 + d.val, by have := b.isLt; have := d.isLt; omega⟩)

theorem fblk1_at (s : Fin 512) (d : Fin 256) :
    ((fblk V c 1 t : Vec Ideal S512x256 .f32) (ix2 s d) : EReal) = wide (V c main_call0_v15) s (entryAt t) d := by
  unfold wide
  blk_ext [fblk, idx1 t]

theorem fusedOut_eq {F : FTy → Type} [FloatOps F] (x0 : Vec F S1x512x256 .f32) (x1 : Vec F S512x256 .f32) (x2 x3 : Vec F S256x128 .f32) (x4 : Vec F S2x128 .f32) :
    fusedOut x0 x1 x2 x3 x4 = fusedPay x0 x1 x2 x3 x4 := View.canon_cons_unit_zero (by funext a; fin_cases a <;> rfl) _ _ _
theorem weightOut_eq {F : FTy → Type} [FloatOps F] (x0 : Vec F S1x512x256 .f32) (x1 : Vec F S512x256 .f32) (x2 x3 : Vec F S256x128 .f32) (x4 : Vec F S2x128 .f32) :
    weightOut x0 x1 x2 x3 x4 = weightPay x0 x1 x2 x3 x4 := View.canon_cons_unit_zero (by funext a; fin_cases a <;> rfl) _ _ _

/-- What a point leaves in its two output blocks. -/
theorem after5_at (h : Fin 128) :
    ((fusionDat V c).after 5 t : Vec Ideal S1x1x128 .f32) (ix3 0 0 h)
      = (fusedB (V c main_arg0) (wide (V c main_call0_v15)) (V c main_arg10) (V c main_arg11) (V c main_arg12) (entryAt t) h : EReal) := by
  rw [fusion_after5, fusedOut_eq]
  refine (fusedPay_at _ _ _ _ _ h).trans ?_
  unfold fusedB textB ctxB
  rw [fblk2_eq, fblk3_eq, fblk4_eq]
  simp only [← fblk0_at, ← fblk1_at]

theorem after6_at (s : Fin 512) :
    ((fusionDat V c).after 6 t : Vec Ideal S1x1x512 .f32) (ix3 0 0 s)
      = (weightB (V c main_arg0) (wide (V c main_call0_v15)) (V c main_arg10) (V c main_arg11) (V c main_arg12) (entryAt t) s : EReal) := by
  rw [fusion_after6, weightOut_eq]
  refine (weightPay_at _ _ _ _ _ s).trans ?_
  unfold weightB textB ctxB
  rw [fblk2_eq, fblk3_eq, fblk4_eq]
  simp only [← fblk0_at, ← fblk1_at]

/-- The two output arrays. -/
theorem fused_arr : ((fusionDat V c).arrAt 5 cfg1.N : Vec Ideal S16x1x128 .f32)
    = fun j => fusedB (V c main_arg0) (wide (V c main_call0_v15)) (V c main_arg10) (V c main_arg11) (V c main_arg12) (j 0) (j 2) := by
  refine (fusionDat V c).arrAt_eq_of_covers 5 _ (by decide +kernel) fun t hf y => ?_
  obtain ⟨h, rfl⟩ : ∃ h : Fin 128, y = ix3 0 0 h := ⟨y 2, by funext a; fin_cases a <;> first | rfl | exact Subsingleton.elim (α := Fin 1) _ _⟩
  blk_simp
  refine (after5_at V c t h).trans ?_
  congr 1
  all_goals (apply Fin.ext; blk_simp [idx1 t]; try rfl)

theorem weight_arr : ((fusionDat V c).arrAt 6 cfg1.N : Vec Ideal S16x1x512 .f32)
    = fun j => weightB (V c main_arg0) (wide (V c main_call0_v15)) (V c main_arg10) (V c main_arg11) (V c main_arg12) (j 0) (j 2) := by
  refine (fusionDat V c).arrAt_eq_of_covers 6 _ (by decide +kernel) fun t hf y => ?_
  obtain ⟨h, rfl⟩ : ∃ h : Fin 512, y = ix3 0 0 h := ⟨y 2, by funext a; fin_cases a <;> first | rfl | exact Subsingleton.elim (α := Fin 1) _ _⟩
  blk_simp
  refine (after6_at V c t h).trans ?_
  congr 1
  all_goals (apply Fin.ext; blk_simp [idx1 t]; try rfl)
end

variable (m : (ℓ : Loc nD τ sig) → Buf (Elt Ideal) ℓ) (c : Dev nD)

/-- The context the recurrent call leaves, by its three coordinates. -/
def ctxOf (s : Fin 512) (b : Fin 16) (d : Fin 256) : EReal := (left m 2 main_call0_v14 c : FVec Ideal S512x16x256 .f32) (ix3 s b d)

/-- What the fusion call finds in its operands. -/
theorem entry1_v15 : (entry1 m c main_call0_v15 : FVec Ideal S512x4096 .f32)
    = (shapeCast S512x4096 (left m 2 main_call0_v14 c : FVec Ideal S512x16x256 .f32) shapeCasts_S512x16x256_S512x4096 : FVec Ideal S512x4096 .f32) := by
  have e : (V2 m (left0 m) c main_call0_v14 : FVec Ideal S512x16x256 .f32) = left m 2 main_call0_v14 c := by
    show Function.update (V1 m c) main_call0_v14 (left0 m 2 main_call0_v14 c) main_call0_v14 = _
    rw [Function.update_self]; rfl
  rw [← e]
  unfold entry1 V3 hostOps1
  generalize V2 m (left0 m) c = X
  after_results; rfl

theorem wide_ctx : wide (entry1 m c main_call0_v15) = ctxOf m c := by
  funext s b d
  unfold wide ctxOf
  rw [entry1_v15]
  generalize (left m 2 main_call0_v14 c : FVec Ideal S512x16x256 .f32) = X
  pointwise

theorem entry1_arg (b : Ref sig .tc) (h0 : b ∉ hostOps0_W) (h1 : b ∉ ([main_call0_v14] : List (Ref sig .tc))) (h2 : b ∉ hostOps1_W) :
    entry1 m c b = m ((c : Thread nD τ).loc b) :=
  (V3_of m (left0 m) c b h2).trans <| (V2_of m (left0 m) c b h1).trans <| (V1_of m c b h0).trans rfl

/-- The kernel's two results. -/
theorem kernel_fused (b : Fin 16) (h : Fin 128) : (V5 m (left m) c main_v0_0 : FVec Ideal S16x128 .f32) (ix2 b h)
    = (fusedB (m ((c : Thread nD τ).loc main_arg0)) (ctxOf m c) (m ((c : Thread nD τ).loc main_arg10)) (m ((c : Thread nD τ).loc main_arg11)) (m ((c : Thread nD τ).loc main_arg12)) b h : EReal) := by
  have e : (V4 m (left m) c main_call0_v16_0 : FVec Ideal S16x1x128 .f32) = (fusionDat (entry1 m) c).arrAt 5 cfg1.N := (left1_arrays m c 5).symm
  have e5 : (V5 m (left m) c main_v0_0 : FVec Ideal S16x128 .f32) = (shapeCast S16x128 (V4 m (left m) c main_call0_v16_0 : FVec Ideal S16x1x128 .f32) shapeCasts_S16x1x128_S16x128 : FVec Ideal S16x128 .f32) := by
    unfold V5 hostOps2
    generalize V4 m (left m) c = X
    after_results; rfl
  rw [e5, e, fused_arr, wide_ctx, entry1_arg m c main_arg0 (by decide) (by decide) (by decide), entry1_arg m c main_arg10 (by decide) (by decide) (by decide),
    entry1_arg m c main_arg11 (by decide) (by decide) (by decide), entry1_arg m c main_arg12 (by decide) (by decide) (by decide)]
  generalize fusedB _ _ _ _ _ = X
  pointwise

theorem kernel_weight (b : Fin 16) (s : Fin 512) : (V5 m (left m) c main_v0_1 : FVec Ideal S16x512 .f32) (ix2 b s)
    = (weightB (m ((c : Thread nD τ).loc main_arg0)) (ctxOf m c) (m ((c : Thread nD τ).loc main_arg10)) (m ((c : Thread nD τ).loc main_arg11)) (m ((c : Thread nD τ).loc main_arg12)) b s : EReal) := by
  have e : (V4 m (left m) c main_call0_v16_1 : FVec Ideal S16x1x512 .f32) = (fusionDat (entry1 m) c).arrAt 6 cfg1.N := (left1_arrays m c 6).symm
  have e5 : (V5 m (left m) c main_v0_1 : FVec Ideal S16x512 .f32) = (shapeCast S16x512 (V4 m (left m) c main_call0_v16_1 : FVec Ideal S16x1x512 .f32) shapeCasts_S16x1x512_S16x512 : FVec Ideal S16x512 .f32) := by
    unfold V5 hostOps2
    generalize V4 m (left m) c = X
    after_results; rfl
  rw [e5, e, weight_arr, wide_ctx, entry1_arg m c main_arg0 (by decide) (by decide) (by decide), entry1_arg m c main_arg10 (by decide) (by decide) (by decide),
    entry1_arg m c main_arg11 (by decide) (by decide) (by decide), entry1_arg m c main_arg12 (by decide) (by decide) (by decide)]
  generalize weightB _ _ _ _ _ = X
  pointwise

end Cert.KernelIdeal.Runs
end
-- ==== Proof.RefFusion.lean ====
/- The reference's fusion over the extended reals, index by index. -/
module

public import proofs.«01_k».proof.Proof.IdealResults
public import proofs.«01_k».proof.Proof.Gen.ReferenceIdeal.Run
public import Idealize.ShloMosaic.Lib.DynamicIndex
public import Idealize.ShloMosaic.Lib.WordCmp

@[expose] public section

set_option maxRecDepth 16384
noncomputable section

namespace Cert.ReferenceIdeal.Rec

open Cert.ReferenceIdeal Cert.ReferenceIdeal.Gen Cert.ReferenceIdeal.Value
open Idealize.ShloMosaic Idealize.ShloMosaic.TcCoe Idealize.ShloMosaic.StableHlo
open Cert.KernelIdeal.Runs (attS topS expS prbS mixS fusedS lineS weightS projS tab textB ctxB fusedB weightB)

/-- A projection of a batch through the hyperbolic tangent. -/
def refProj (x : FVec Ideal S16x512x256 .f32) (w : FVec Ideal S256x128 .f32) : FVec Ideal S16x512x128 .f32 :=
  Host.tanh (Host.dotGeneral dot_S16x512x256_S256x128_S16x512x128_2_0_01_1_n_n none x w)

/-- The context as the fusion takes it. -/
def refTurn (x : FVec Ideal S512x16x256 .f32) : FVec Ideal S16x512x256 .f32 := transpose S16x512x256 [1, 0, 2] x transposes_S512x16x256_S16x512x256_1_0_2

section
variable {n0 n1 n2 n3 : ℕ} (c : FVec Ideal ⟨3, ![n0, n1, n2]⟩ .f32) (w : BitVec 32) (hc : ∀ j, (c j : EReal) = Ideal.ofBits .f32 w)
  (x : FVec Ideal ⟨4, ![n0, n1, n2, n3]⟩ .f32) (h : (⟨4, ![n0, n1, n2, n3]⟩ : Shape).ReducesTo [3] ⟨3, ![n0, n1, n2]⟩) (hu : 0 < S_.numel)

/-- A maximum along the last axis, whatever the sizes, and against a constant as well. -/
def lastTop : FVec Ideal ⟨3, ![n0, n1, n2]⟩ .f32 := maximumf c (Host.reduce FloatOps.maximumf x (constant S_ .f32 w) h hu)

include hc in
theorem lastTop_at (b : Fin n0) (k : Fin n1) (s : Fin n2) :
    (lastTop c w x h hu (ix3 b k s) : EReal) = Finset.fold max (Ideal.ofBits .f32 w) (fun t => x (ix4 b k s t)) Finset.univ := by
  unfold lastTop
  pointwise
  rw [hc, max_eq_right ((Finset.le_fold_max _).mpr (Or.inl (le_refl _)))]
end

section
variable (v q : FVec Ideal S16x512x128 .f32) (g : FVec Ideal S2x128 .f32)

/-- The projected text laid over the branches. -/
def refSpread : FVec Ideal S16x2x512x128 .f32 :=
  broadcastInDim S16x2x512x128 ![0, 1, 2, 3] bcast_S16x1x512x128_S16x2x512x128_0_1_2_3 (broadcastInDim S16x1x512x128 ![0, 2, 3] bcast_S16x512x128_S16x1x512x128_0_2_3 v)

/-- The scores, their maxima, the shifted exponentials and the probabilities. -/
def refAtt : FVec Ideal S16x2x512x512 .f32 :=
  Host.dotGeneral dot_S16x2x512x128_S16x512x128_S16x2x512x512_3_2_12_1_0_0 none
    (mulf (refSpread v) (broadcastInDim S16x2x512x128 ![0, 1, 2, 3] bcast_S1x2x1x128_S16x2x512x128_0_1_2_3 (broadcastInDim S1x2x1x128 ![1, 3] bcast_S2x128_S1x2x1x128_1_3 g))) q

def refTop (a : FVec Ideal S16x2x512x512 .f32) : FVec Ideal S16x2x512 .f32 :=
  lastTop (broadcastInDim S16x2x512 ![] bcast_S_S16x2x512 (constant S_ .f32 0xFF800000#32)) 0xFF800000#32 a reducesTo_S16x2x512x512_S16x2x512_d3 h_S_

def refWide (z : FVec Ideal S16x2x512 .f32) : FVec Ideal S16x2x512x512 .f32 :=
  broadcastInDim S16x2x512x512 ![0, 1, 2, 3] bcast_S16x2x512x1_S16x2x512x512_0_1_2_3 (broadcastInDim S16x2x512x1 ![0, 1, 2] bcast_S16x2x512_S16x2x512x1_0_1_2 z)

def refExp (a : FVec Ideal S16x2x512x512 .f32) : FVec Ideal S16x2x512x512 .f32 := Host.exp (subf a (refWide (refTop a)))

def refPrb (a : FVec Ideal S16x2x512x512 .f32) : FVec Ideal S16x2x512x512 .f32 :=
  Host.divf (refExp a) (refWide (Host.reduceAdd (refExp a) (constant S_ .f32 0x00000000#32) reducesTo_S16x2x512x512_S16x2x512_d3 h_S_))

/-- The fused vectors, -/
def refFused (p : FVec Ideal S16x2x512x512 .f32) : FVec Ideal S16x128 .f32 :=
  Host.reduceAdd (Host.reduceAdd (mulf (refSpread v) (Host.dotGeneral dot_S16x2x512x512_S16x512x128_S16x2x512x128_3_1_12_2_0_0 none p q)) (constant S_ .f32 0x00000000#32) reducesTo_S16x2x512x128_S16x2x128_d2 h_S_)
    (constant S_ .f32 0x00000000#32) reducesTo_S16x2x128_S16x128_d1 h_S_

/-- a column of the diagonal's indices, the diagonal, and the line weights. -/
def refCol : IVec S512x1 32 :=
  broadcastInDim S512x1 ![0] bcast_S512_S512x1_0 (select (cmpi .slt (iotaInDim S512 32 0) (broadcastInDim S512 ![] bcast_S_S512 (constantI S_ 32 0#32))) (addi (iotaInDim S512 32 0) (broadcastInDim S512 ![] bcast_S_S512 (constantI S_ 32 512#32))) (iotaInDim S512 32 0))

def refDiag (x : FVec Ideal S16x512x512 .f32) : FVec Ideal S16x512 .f32 :=
  Host.gather gather_S16x512x512_S512x2_S16x512_0_12_n_n_12_1_1611 x (concatenate S512x2 1 [⟨S512x1, refCol⟩, ⟨S512x1, refCol⟩] concatenates_S512x1_S512x1_S512x2_d1)

def refLine (p : FVec Ideal S16x2x512x512 .f32) : FVec Ideal S16x512 .f32 :=
  refDiag (Host.reduceAdd p (constant S_ .f32 0x00000000#32) reducesTo_S16x2x512x512_S16x512x512_d1 h_S_)

def refWeight (d : FVec Ideal S16x512 .f32) : FVec Ideal S16x512 .f32 :=
  Host.divf d (broadcastInDim S16x512 ![0, 1] bcast_S16x1_S16x512_0_1 (broadcastInDim S16x1 ![0] bcast_S16_S16x1_0 (Host.reduceAdd d (constant S_ .f32 0x00000000#32) reducesTo_S16x512_S16_d1 h_S_)))

/-- A branch of one batch entry's scores is the scalar's. -/
theorem refAtt_at (b : Fin 16) (k : Fin 2) (s t : Fin 512) :
    (refAtt v q g (ix4 b k s t) : EReal) = attS (fun s h => v (ix3 b s h)) (fun s h => q (ix3 b s h)) (tab g k) s t := by
  unfold refAtt refSpread attS
  pointwise

theorem refTop_at (a : FVec Ideal S16x2x512x512 .f32) (b : Fin 16) (k : Fin 2) (s : Fin 512) :
    (refTop a (ix3 b k s) : EReal) = Finset.fold max (Ideal.ofBits .f32 0xFF800000#32) (fun t => a (ix4 b k s t)) Finset.univ :=
  lastTop_at _ _ (fun j => by pointwise) a _ _ b k s

theorem refExp_at (a : FVec Ideal S16x2x512x512 .f32) (b : Fin 16) (k : Fin 2) (s t : Fin 512) :
    (refExp a (ix4 b k s t) : EReal) = Ideal.exp (a (ix4 b k s t) - refTop a (ix3 b k s)) := by
  unfold refExp refWide
  generalize refTop a = m
  pointwise

theorem refPrb_at (a : FVec Ideal S16x2x512x512 .f32) (b : Fin 16) (k : Fin 2) (s t : Fin 512) :
    (refPrb a (ix4 b k s t) : EReal) = Ideal.div (refExp a (ix4 b k s t)) (∑ u, refExp a (ix4 b k s u)) := by
  unfold refPrb refWide
  generalize refExp a = m
  pointwise

theorem refFused_at (p : FVec Ideal S16x2x512x512 .f32) (b : Fin 16) (h : Fin 128) :
    (refFused v q p (ix2 b h) : EReal) = ∑ k : Fin 2, ∑ s : Fin 512, v (ix3 b s h) * ∑ t, p (ix4 b k s t) * q (ix3 b t h) := by
  unfold refFused refSpread
  pointwise

theorem refWeight_at (d : FVec Ideal S16x512 .f32) (b : Fin 16) (s : Fin 512) :
    (refWeight d (ix2 b s) : EReal) = Ideal.div (d (ix2 b s)) (∑ u, d (ix2 b u)) := by
  unfold refWeight
  pointwise

theorem refCol_at (s : Fin 512) : (refCol (ix2 s 0)).toInt.toNat = s.val := by
  unfold refCol
  pointwise
  have hs := s.isLt
  have e : (BitVec.ofNat 32 s.val).toInt = s.val := by
    rw [BitVec.toInt_eq_toNat_of_lt] <;> rw [BitVec.toNat_ofNat] <;> omega
  have c : (IntOp.cmpi CmpIPredicate.slt (BitVec.ofNat 32 s.val) 0#32) = 0#1 := by
    have n : ¬ ((s.val : ℤ) < 0) := by omega
    simp [IntOp.cmpi, BitVec.slt, e, n]
  rw [c]
  show (BitVec.ofNat 32 s.val).toInt.toNat = s.val
  rw [e]; rfl

/-- The diagonal. -/
theorem refDiag_at (x : FVec Ideal S16x512x512 .f32) (b : Fin 16) (s : Fin 512) : refDiag x (ix2 b s) = x (ix3 b s s) := by
  unfold refDiag
  generalize hI : (concatenate S512x2 1 [⟨S512x1, refCol⟩, ⟨S512x1, refCol⟩] concatenates_S512x1_S512x1_S512x2_d1 : IVec S512x2 32) = I
  have h0 : (I (ix2 s 0)).toInt.toNat = s.val := by
    rw [← refCol_at s, ← hI]; congr 2
  have h1 : (I (ix2 s 1)).toInt.toNat = s.val := by
    rw [← refCol_at s, ← hI]; congr 2
  have hs := s.isLt
  unfold Host.gather
  congr 1
  funext a
  refine Fin.ext ?_
  show GatherDims.start gather_S16x512x512_S512x2_S16x512_0_12_n_n_12_1_1611 (ix2 b s) I a
    + GatherDims.batchCoord gather_S16x512x512_S512x2_S16x512_0_12_n_n_12_1_1611 (ix2 b s) a
    + GatherDims.offCoord gather_S16x512x512_S512x2_S16x512_0_12_n_n_12_1_1611 (ix2 b s) a = _
  rw [GatherDims.batchCoord_eq_zero _ _ _ (fun h => by simp [gather_S16x512x512_S512x2_S16x512_0_12_n_n_12_1_1611] at h)]
  have at_ (c : Fin 2) (hc : (I (ix2 s c)).toInt.toNat = s.val) : min (I (ix2 s c)).toInt.toNat (512 - 1) = s.val := by omega
  have i0 : GatherDims.siIdx gather_S16x512x512_S512x2_S16x512_0_12_n_n_12_1_1611 (ix2 b s) ⟨0, by decide⟩ = ix2 s 0 := by
    funext d; match d with | ⟨0, _⟩ => rfl | ⟨1, _⟩ => rfl
  have i1 : GatherDims.siIdx gather_S16x512x512_S512x2_S16x512_0_12_n_n_12_1_1611 (ix2 b s) ⟨1, by decide⟩ = ix2 s 1 := by
    funext d; match d with | ⟨0, _⟩ => rfl | ⟨1, _⟩ => rfl
  match a with
  | ⟨0, _⟩ => show 0 + 0 + b.val = b.val; omega
  | ⟨1, _⟩ =>
    show min (I (GatherDims.siIdx gather_S16x512x512_S512x2_S16x512_0_12_n_n_12_1_1611 (ix2 b s) ⟨0, by decide⟩)).toInt.toNat (512 - 1) + 0 + 0 = s.val
    rw [i0, at_ 0 h0]; rfl
  | ⟨2, _⟩ =>
    show min (I (GatherDims.siIdx gather_S16x512x512_S512x2_S16x512_0_12_n_n_12_1_1611 (ix2 b s) ⟨1, by decide⟩)).toInt.toNat (512 - 1) + 0 + 0 = s.val
    rw [i1, at_ 1 h1]; rfl

theorem refSum_at (p : FVec Ideal S16x2x512x512 .f32) (b : Fin 16) (s t : Fin 512) :
    (Host.reduceAdd (F := Ideal) p (constant S_ .f32 0x00000000#32) reducesTo_S16x2x512x512_S16x512x512_d1 h_S_ (ix3 b s t) : EReal) = ∑ k : Fin 2, p (ix4 b k s t) := by
  pointwise

theorem refProj_at (x : FVec Ideal S16x512x256 .f32) (w : FVec Ideal S256x128 .f32) (b : Fin 16) (s : Fin 512) (h : Fin 128) :
    (refProj x w (ix3 b s h) : EReal) = projS (fun s d => x (ix3 b s d)) (tab w) s h := by
  unfold refProj projS
  pointwise

theorem refTurn_at (x : FVec Ideal S512x16x256 .f32) (b : Fin 16) (s : Fin 512) (d : Fin 256) : (refTurn x (ix3 b s d) : EReal) = x (ix3 s b d) := by
  unfold refTurn
  pointwise

/-- The probabilities of the reference are the scalar's. -/
theorem refPrb_eq (b : Fin 16) (k : Fin 2) (s t : Fin 512) :
    (refPrb (refAtt v q g) (ix4 b k s t) : EReal) = prbS (fun s h => v (ix3 b s h)) (fun s h => q (ix3 b s h)) (tab g k) s t := by
  have e (t : Fin 512) : (refExp (refAtt v q g) (ix4 b k s t) : EReal) = expS (fun s h => v (ix3 b s h)) (fun s h => q (ix3 b s h)) (tab g k) s t := by
    unfold expS topS
    rw [refExp_at, refTop_at]
    simp only [refAtt_at]
  rw [refPrb_at]
  unfold prbS
  simp only [e]

end

section
variable (x : FVec Ideal S16x512x256 .f32) (y : FVec Ideal S512x16x256 .f32) (u w : FVec Ideal S256x128 .f32) (g : FVec Ideal S2x128 .f32)

theorem text_eq (b : Fin 16) : (fun (s : Fin 512) (h : Fin 128) => (refProj x u (ix3 b s h) : EReal)) = textB x u b := by
  funext s h; exact refProj_at x u b s h

theorem ctx_eq (b : Fin 16) : (fun (s : Fin 512) (h : Fin 128) => (refProj (refTurn y) w (ix3 b s h) : EReal)) = ctxB (fun s b d => y (ix3 s b d)) w b := by
  funext s h
  refine (refProj_at (refTurn y) w b s h).trans ?_
  simp only [refTurn_at]; rfl

/-- The reference's two results are the scalar's. -/
theorem fused_eq (b : Fin 16) (h : Fin 128) :
    (refFused (refProj x u) (refProj (refTurn y) w) (refPrb (refAtt (refProj x u) (refProj (refTurn y) w) g)) (ix2 b h) : EReal)
      = fusedB x (fun s b d => y (ix3 s b d)) u w g b h := by
  rw [refFused_at, Fin.sum_univ_two]
  simp only [refPrb_eq]
  unfold fusedB fusedS mixS
  rw [← text_eq, ← ctx_eq]

theorem weight_eq (b : Fin 16) (s : Fin 512) :
    (refWeight (refLine (refPrb (refAtt (refProj x u) (refProj (refTurn y) w) g))) (ix2 b s) : EReal)
      = weightB x (fun s b d => y (ix3 s b d)) u w g b s := by
  have e (s : Fin 512) : (refLine (refPrb (refAtt (refProj x u) (refProj (refTurn y) w) g)) (ix2 b s) : EReal)
      = lineS (textB x u b) (ctxB (fun s b d => y (ix3 s b d)) w b) (tab g 0) (tab g 1) s := by
    unfold refLine lineS
    rw [refDiag_at, refSum_at, Fin.sum_univ_two]
    simp only [refPrb_eq]
    rw [← text_eq, ← ctx_eq]
  rw [refWeight_at]
  simp only [e]
  rfl

end

/-- What the reference returns, by what its loop leaves. -/
theorem out_fused (V : Valuation τ sig (Elt Ideal)) : (out_main_v42 V : FVec Ideal S16x128 .f32)
    = refFused (refProj (V main_arg0) (V main_arg10)) (refProj (refTurn (V main_v14_15)) (V main_arg11))
        (refPrb (refAtt (refProj (V main_arg0) (V main_arg10)) (refProj (refTurn (V main_v14_15)) (V main_arg11)) (V main_arg12))) := rfl

theorem out_weight (V : Valuation τ sig (Elt Ideal)) : (out_main_v48 V : FVec Ideal S16x512 .f32)
    = refWeight (refLine (refPrb (refAtt (refProj (V main_arg0) (V main_arg10)) (refProj (refTurn (V main_v14_15)) (V main_arg11)) (V main_arg12)))) := rfl

end Cert.ReferenceIdeal.Rec
end
-- ==== Proof.Algebraic.lean ====
/- The kernel and the reference return the same values, over the extended reals. -/
module

public import proofs.«01_k».proof.Defs
public import proofs.«01_k».proof.Proof.IdealEntry
public import proofs.«01_k».proof.Proof.RefFusion

@[expose] public section

set_option maxRecDepth 16384
noncomputable section

namespace Cert.Proof

open Idealize.ShloMosaic Idealize.SL.Sem Idealize.ShloMosaic.TcCoe
open Cert.KernelIdeal.Runs (ctxOf kernel_fused kernel_weight fusedB weightB entry_same)
open Cert.ReferenceIdeal.Rec (cur)

abbrev KMem := (ℓ : Loc Cert.KernelIdeal.nD Cert.KernelIdeal.τ Cert.KernelIdeal.sig) → Buf (Elt Ideal) ℓ
abbrev RMem := (ℓ : Loc Cert.ReferenceIdeal.nD Cert.ReferenceIdeal.τ Cert.ReferenceIdeal.sig) → Buf (Elt Ideal) ℓ

/-- The two memories agree on the arguments. -/
abbrev Agree (m : KMem) (m' : RMem) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)

variable (m : KMem) (m' : RMem) (c : Dev Cert.KernelIdeal.nD)

/-- The context of the two programs, -/
theorem context_eq (h : Agree m m' c) :
    (fun (s : Fin 512) (b : Fin 16) (d : Fin 256) => ((cur m' c 512 Cert.ReferenceIdeal.main_v14_15 : FVec Ideal Cert.ReferenceIdeal.S512x16x256 .f32) (ix3 s b d) : EReal)) = ctxOf m c := by
  obtain ⟨h0, h1, h2, h3, h4, h5, h6, h7, h8, h9, -, -, -⟩ := h
  have e := entry_same m c
  funext s b d
  refine (Cert.KernelIdeal.Runs.ctx_eq m c m' c ?_ s b d).symm
  unfold Cert.ReferenceIdeal.Rec.SameMem
  rw [h0, h1, h2, h3, h4, h5, h6, h7, h8, h9]
  exact e

/-- and what the reference's loop leaves of its arguments, -/
theorem cur_args : cur m' c 512 Cert.ReferenceIdeal.main_arg0 = m' ((c.tc : Thread Cert.ReferenceIdeal.nD Cert.ReferenceIdeal.τ).loc Cert.ReferenceIdeal.main_arg0)
    ∧ cur m' c 512 Cert.ReferenceIdeal.main_arg10 = m' ((c.tc : Thread Cert.ReferenceIdeal.nD Cert.ReferenceIdeal.τ).loc Cert.ReferenceIdeal.main_arg10)
    ∧ cur m' c 512 Cert.ReferenceIdeal.main_arg11 = m' ((c.tc : Thread Cert.ReferenceIdeal.nD Cert.ReferenceIdeal.τ).loc Cert.ReferenceIdeal.main_arg11)
    ∧ cur m' c 512 Cert.ReferenceIdeal.main_arg12 = m' ((c.tc : Thread Cert.ReferenceIdeal.nD Cert.ReferenceIdeal.τ).loc Cert.ReferenceIdeal.main_arg12) :=
  ⟨Cert.ReferenceIdeal.Value.iter_main_arg0 m' c 512, Cert.ReferenceIdeal.Value.iter_main_arg10 m' c 512,
    Cert.ReferenceIdeal.Value.iter_main_arg11 m' c 512, Cert.ReferenceIdeal.Value.iter_main_arg12 m' c 512⟩

/-- so that the results are the same: the fused vectors, -/
theorem result_fused (h : Agree m m' c) : (Cert.ReferenceIdeal.Value.out_main_v42 (cur m' c 512) : FVec Ideal Cert.ReferenceIdeal.S16x128 .f32)
    = Cert.KernelIdeal.Gen.V5 m (Cert.KernelIdeal.Runs.left m) c Cert.KernelIdeal.main_v0_0 := by
  have hc := context_eq m m' c h
  obtain ⟨h0, -, -, -, -, -, -, -, -, -, h10, h11, h12⟩ := h
  obtain ⟨a0, a10, a11, a12⟩ := cur_args m' c
  rw [Cert.ReferenceIdeal.Rec.out_fused]
  funext j
  obtain ⟨b, k, rfl⟩ : ∃ (b : Fin 16) (k : Fin 128), j = ix2 b k := ⟨j 0, j 1, eq_ix2 j⟩
  refine (Cert.ReferenceIdeal.Rec.fused_eq _ _ _ _ _ b k).trans ((kernel_fused m c b k).trans ?_).symm
  rw [a0, a10, a11, a12, h0, h10, h11, h12, hc]

/-- and the line weights. -/
theorem result_weight (h : Agree m m' c) : (Cert.ReferenceIdeal.Value.out_main_v48 (cur m' c 512) : FVec Ideal Cert.ReferenceIdeal.S16x512 .f32)
    = Cert.KernelIdeal.Gen.V5 m (Cert.KernelIdeal.Runs.left m) c Cert.KernelIdeal.main_v0_1 := by
  have hc := context_eq m m' c h
  obtain ⟨h0, -, -, -, -, -, -, -, -, -, h10, h11, h12⟩ := h
  obtain ⟨a0, a10, a11, a12⟩ := cur_args m' c
  rw [Cert.ReferenceIdeal.Rec.out_weight]
  funext j
  obtain ⟨b, s, rfl⟩ : ∃ (b : Fin 16) (s : Fin 512), j = ix2 b s := ⟨j 0, j 1, eq_ix2 j⟩
  refine (Cert.ReferenceIdeal.Rec.weight_eq _ _ _ _ _ b s).trans ((kernel_weight m c b s).trans ?_).symm
  rw [a0, a10, a11, a12, h0, h10, h11, h12, hc]

/-- The algebraic claim: both programs run to the end, at the same two results. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun c => Cert.KernelIdeal.Gen.V5 m (Cert.KernelIdeal.Runs.left m) c Cert.KernelIdeal.main_v0_0,
    fun c => Cert.KernelIdeal.Gen.V5 m (Cert.KernelIdeal.Runs.left m) c Cert.KernelIdeal.main_v0_1, ?_, ?_⟩
  · exact (θ_run _ _ _).mono (fun r h c => ⟨
    h.1 c _ (Cert.KernelIdeal.Runs.mem_uc Cert.KernelIdeal.main_v0_0 (by decide)),
    h.1 c _ (Cert.KernelIdeal.Runs.mem_uc Cert.KernelIdeal.main_v0_1 (by decide)),
    (h.1 c _ (Cert.KernelIdeal.Runs.mem_uc Cert.KernelIdeal.main_arg0 (by decide))).trans (Cert.KernelIdeal.Gen.V5_main_arg0 m (Cert.KernelIdeal.Runs.left m) c),
    (h.1 c _ (Cert.KernelIdeal.Runs.mem_uc Cert.KernelIdeal.main_arg1 (by decide))).trans (Cert.KernelIdeal.Gen.V5_main_arg1 m (Cert.KernelIdeal.Runs.left m) c),
    (h.1 c _ (Cert.KernelIdeal.Runs.mem_uc Cert.KernelIdeal.main_arg2 (by decide))).trans (Cert.KernelIdeal.Gen.V5_main_arg2 m (Cert.KernelIdeal.Runs.left m) c),
    (h.1 c _ (Cert.KernelIdeal.Runs.mem_uc Cert.KernelIdeal.main_arg3 (by decide))).trans (Cert.KernelIdeal.Gen.V5_main_arg3 m (Cert.KernelIdeal.Runs.left m) c),
    (h.1 c _ (Cert.KernelIdeal.Runs.mem_uc Cert.KernelIdeal.main_arg4 (by decide))).trans (Cert.KernelIdeal.Gen.V5_main_arg4 m (Cert.KernelIdeal.Runs.left m) c),
    (h.1 c _ (Cert.KernelIdeal.Runs.mem_uc Cert.KernelIdeal.main_arg5 (by decide))).trans (Cert.KernelIdeal.Gen.V5_main_arg5 m (Cert.KernelIdeal.Runs.left m) c),
    (h.1 c _ (Cert.KernelIdeal.Runs.mem_uc Cert.KernelIdeal.main_arg6 (by decide))).trans (Cert.KernelIdeal.Gen.V5_main_arg6 m (Cert.KernelIdeal.Runs.left m) c),
    (h.1 c _ (Cert.KernelIdeal.Runs.mem_uc Cert.KernelIdeal.main_arg7 (by decide))).trans (Cert.KernelIdeal.Gen.V5_main_arg7 m (Cert.KernelIdeal.Runs.left m) c),
    (h.1 c _ (Cert.KernelIdeal.Runs.mem_uc Cert.KernelIdeal.main_arg8 (by decide))).trans (Cert.KernelIdeal.Gen.V5_main_arg8 m (Cert.KernelIdeal.Runs.left m) c),
    (h.1 c _ (Cert.KernelIdeal.Runs.mem_uc Cert.KernelIdeal.main_arg9 (by decide))).trans (Cert.KernelIdeal.Gen.V5_main_arg9 m (Cert.KernelIdeal.Runs.left m) c),
    (h.1 c _ (Cert.KernelIdeal.Runs.mem_uc Cert.KernelIdeal.main_arg10 (by decide))).trans (Cert.KernelIdeal.Gen.V5_main_arg10 m (Cert.KernelIdeal.Runs.left m) c),
    (h.1 c _ (Cert.KernelIdeal.Runs.mem_uc Cert.KernelIdeal.main_arg11 (by decide))).trans (Cert.KernelIdeal.Gen.V5_main_arg11 m (Cert.KernelIdeal.Runs.left m) c),
    (h.1 c _ (Cert.KernelIdeal.Runs.mem_uc Cert.KernelIdeal.main_arg12 (by decide))).trans (Cert.KernelIdeal.Gen.V5_main_arg12 m (Cert.KernelIdeal.Runs.left m) c)⟩) (Cert.KernelIdeal.Runs.run m g)
  · exact (θ_run _ _ _).mono (fun r h c => ⟨(h c).1.trans (result_fused m m' c (hm c)), (h c).2.1.trans (result_weight m m' c (hm c)), (h c).2.2⟩)
      (Cert.ReferenceIdeal.Value.run m' g')

end Cert.Proof
end
-- ==== Proof.lean ====
/- The claims about the kernel, its twin over the extended reals and the reference: the frames, and the algebraic claim. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_bits, frame_ideal, frame_reference, trivial, algebraic⟩

end Cert.Proof

end
